-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v22)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v60) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v22)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v60) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v22)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v22) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v60) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v22)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v60) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  IdealRules.named_const.Statement Cert.Kernel6Ideal.κ "q_scale" .f32 0x3E38AA3B#32 (((1 / 8) * (Real.log 2)⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v12_0)) (v1 : (c : Dev Cert.Kernel6Ideal.nD) → Buf (Elt Ideal) ((c.tc : Thread Cert.Kernel6Ideal.nD Cert.Kernel6Ideal.τ).loc Cert.Kernel6Ideal.main_v12_1)) (v2 : (c : Dev Cert.Kernel6Ideal.nD) → Buf (Elt Ideal) ((c.tc : Thread Cert.Kernel6Ideal.nD Cert.Kernel6Ideal.τ).loc Cert.Kernel6Ideal.main_v12_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12_0) = v0 c
          ∧ r.2.mem ((c.tc : Thread Cert.Kernel6Ideal.nD Cert.Kernel6Ideal.τ).loc Cert.Kernel6Ideal.main_v12_1) = v1 c
          ∧ r.2.mem ((c.tc : Thread Cert.Kernel6Ideal.nD Cert.Kernel6Ideal.τ).loc Cert.Kernel6Ideal.main_v12_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v59) = v0 c
          ∧ r.2.mem ((c.tc : Thread Cert.Reference6Ideal.nD Cert.Reference6Ideal.τ).loc Cert.Reference6Ideal.main_v60) = v1 c
          ∧ r.2.mem ((c.tc : Thread Cert.Reference6Ideal.nD Cert.Reference6Ideal.τ).loc Cert.Reference6Ideal.main_v62) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  IdealRules.named_const.Statement Cert.Kernel7Ideal.κ "q_scale" .f32 0x3E38AA3B#32 (((1 / 8) * (Real.log 2)⁻¹ : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v50_0)) (v1 : (c : Dev Cert.Kernel7Ideal.nD) → Buf (Elt Ideal) ((c.tc : Thread Cert.Kernel7Ideal.nD Cert.Kernel7Ideal.τ).loc Cert.Kernel7Ideal.main_v50_1)) (v2 : (c : Dev Cert.Kernel7Ideal.nD) → Buf (Elt Ideal) ((c.tc : Thread Cert.Kernel7Ideal.nD Cert.Kernel7Ideal.τ).loc Cert.Kernel7Ideal.main_v50_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v50_0) = v0 c
          ∧ r.2.mem ((c.tc : Thread Cert.Kernel7Ideal.nD Cert.Kernel7Ideal.τ).loc Cert.Kernel7Ideal.main_v50_1) = v1 c
          ∧ r.2.mem ((c.tc : Thread Cert.Kernel7Ideal.nD Cert.Kernel7Ideal.τ).loc Cert.Kernel7Ideal.main_v50_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v128) = v0 c
          ∧ r.2.mem ((c.tc : Thread Cert.Reference7Ideal.nD Cert.Reference7Ideal.τ).loc Cert.Reference7Ideal.main_v129) = v1 c
          ∧ r.2.mem ((c.tc : Thread Cert.Reference7Ideal.nD Cert.Reference7Ideal.τ).loc Cert.Reference7Ideal.main_v131) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S2x16384x8x128 : Shape := ⟨4, ![2, 16384, 8, 128]⟩
abbrev S2x16384x8x64 : Shape := ⟨4, ![2, 16384, 8, 64]⟩
abbrev S2x256x8x128 : Shape := ⟨4, ![2, 256, 8, 128]⟩
abbrev S2x256x64 : Shape := ⟨3, ![2, 256, 64]⟩
abbrev S2x16384x64 : Shape := ⟨3, ![2, 16384, 64]⟩
abbrev S_ : Shape := ⟨0, ![]⟩

class Facts : Prop where
  bcast_S_S2x16384x8x128 : S_.BroadcastsInDim S2x16384x8x128 (![] : Fin 0 → Fin S2x16384x8x128.rank)
  reducesTo_S2x16384x8x128_S_d0_1_2_3 : S2x16384x8x128.ReducesTo [0, 1, 2, 3] S_
  h_S_ : 0 < S_.numel
  bcast_S_S2x16384x8x64 : S_.BroadcastsInDim S2x16384x8x64 (![] : Fin 0 → Fin S2x16384x8x64.rank)
  reducesTo_S2x16384x8x64_S_d0_1_2_3 : S2x16384x8x64.ReducesTo [0, 1, 2, 3] S_
  bcast_S_S2x256x8x128 : S_.BroadcastsInDim S2x256x8x128 (![] : Fin 0 → Fin S2x256x8x128.rank)
  reducesTo_S2x256x8x128_S_d0_1_2_3 : S2x256x8x128.ReducesTo [0, 1, 2, 3] S_
  bcast_S_S2x256x64 : S_.BroadcastsInDim S2x256x64 (![] : Fin 0 → Fin S2x256x64.rank)
  reducesTo_S2x256x64_S_d0_1_2 : S2x256x64.ReducesTo [0, 1, 2] S_
  bcast_S_S2x16384x64 : S_.BroadcastsInDim S2x16384x64 (![] : Fin 0 → Fin S2x16384x64.rank)
  reducesTo_S2x16384x64_S_d0_1_2 : S2x16384x64.ReducesTo [0, 1, 2] S_

variable [Facts]

def fn_part1 {F : FTy → Type} [FloatOps F] (main_arg4 : FVec F S2x256x64 .f32) (main_arg5 : FVec F S2x16384x64 .f32) (main_v13 : IVec S_ 1) (main_v16 : IVec S2x16384x8x128 1) : IVec S_ 1 :=
  let main_c_5 : IVec S_ 1 := constantI S_ 1 1#1
  let main_v17 : IVec S_ 1 := (fun x v => Host.reduce IntOp.andi x v reducesTo_S2x16384x8x128_S_d0_1_2_3 h_S_) main_v16 main_c_5
  let main_v18 : IVec S_ 1 := andi main_v13 main_v17
  let main_v19 : FVec F S2x256x64 .f32 := Host.absf main_arg4
  let main_cst_6 : FVec F S_ .f32 := constant S_ .f32 0x7F800000#32
  let main_v20 : FVec F S2x256x64 .f32 := broadcastInDim S2x256x64 ![] bcast_S_S2x256x64 main_cst_6
  let main_v21 : IVec S2x256x64 1 := cmpf .olt main_v19 main_v20
  let main_c_7 : IVec S_ 1 := constantI S_ 1 1#1
  let main_v22 : IVec S_ 1 := (fun x v => Host.reduce IntOp.andi x v reducesTo_S2x256x64_S_d0_1_2 h_S_) main_v21 main_c_7
  let main_v23 : IVec S_ 1 := andi main_v18 main_v22
  let main_v24 : FVec F S2x16384x64 .f32 := Host.absf main_arg5
  let main_cst_8 : FVec F S_ .f32 := constant S_ .f32 0x7F800000#32
  let main_v25 : FVec F S2x16384x64 .f32 := broadcastInDim S2x16384x64 ![] bcast_S_S2x16384x64 main_cst_8
  let main_v26 : IVec S2x16384x64 1 := cmpf .olt main_v24 main_v25
  let main_c_9 : IVec S_ 1 := constantI S_ 1 1#1
  let main_v27 : IVec S_ 1 := (fun x v => Host.reduce IntOp.andi x v reducesTo_S2x16384x64_S_d0_1_2 h_S_) main_v26 main_c_9
  let main_v28 : IVec S_ 1 := andi main_v23 main_v27
  main_v28

def fn {F : FTy → Type} [FloatOps F] (main_arg0 : FVec F S2x16384x8x128 .f32) (main_arg1 : FVec F S2x16384x8x64 .f32) (main_arg2 : FVec F S2x256x8x128 .f32) (main_arg3 : FVec F S2x16384x8x128 .f32) (main_arg4 : FVec F S2x256x64 .f32) (main_arg5 : FVec F S2x16384x64 .f32) (main_arg6 : FVec F S2x256x8x128 .f32) (main_arg7 : FVec F S2x16384x8x128 .f32) : IVec S_ 1 :=
  let main_v0 : FVec F S2x16384x8x128 .f32 := Host.absf main_arg0
  let main_cst : FVec F S_ .f32 := constant S_ .f32 0x7F800000#32
  let main_v1 : FVec F S2x16384x8x128 .f32 := broadcastInDim S2x16384x8x128 ![] bcast_S_S2x16384x8x128 main_cst
  let main_v2 : IVec S2x16384x8x128 1 := cmpf .olt main_v0 main_v1
  let main_c : IVec S_ 1 := constantI S_ 1 1#1
  let main_v3 : IVec S_ 1 := (fun x v => Host.reduce IntOp.andi x v reducesTo_S2x16384x8x128_S_d0_1_2_3 h_S_) main_v2 main_c
  let main_v4 : FVec F S2x16384x8x64 .f32 := Host.absf main_arg1
  let main_cst_0 : FVec F S_ .f32 := constant S_ .f32 0x7F800000#32
  let main_v5 : FVec F S2x16384x8x64 .f32 := broadcastInDim S2x16384x8x64 ![] bcast_S_S2x16384x8x64 main_cst_0
  let main_v6 : IVec S2x16384x8x64 1 := cmpf .olt main_v4 main_v5
  let main_c_1 : IVec S_ 1 := constantI S_ 1 1#1
  let main_v7 : IVec S_ 1 := (fun x v => Host.reduce IntOp.andi x v reducesTo_S2x16384x8x64_S_d0_1_2_3 h_S_) main_v6 main_c_1
  let main_v8 : IVec S_ 1 := andi main_v3 main_v7
  let main_v9 : FVec F S2x256x8x128 .f32 := Host.absf main_arg2
  let main_cst_2 : FVec F S_ .f32 := constant S_ .f32 0x7F800000#32
  let main_v10 : FVec F S2x256x8x128 .f32 := broadcastInDim S2x256x8x128 ![] bcast_S_S2x256x8x128 main_cst_2
  let main_v11 : IVec S2x256x8x128 1 := cmpf .olt main_v9 main_v10
  let main_c_3 : IVec S_ 1 := constantI S_ 1 1#1
  let main_v12 : IVec S_ 1 := (fun x v => Host.reduce IntOp.andi x v reducesTo_S2x256x8x128_S_d0_1_2_3 h_S_) main_v11 main_c_3
  let main_v13 : IVec S_ 1 := andi main_v8 main_v12
  let main_v14 : FVec F S2x16384x8x128 .f32 := Host.absf main_arg3
  let main_cst_4 : FVec F S_ .f32 := constant S_ .f32 0x7F800000#32
  let main_v15 : FVec F S2x16384x8x128 .f32 := broadcastInDim S2x16384x8x128 ![] bcast_S_S2x16384x8x128 main_cst_4
  let main_v16 : IVec S2x16384x8x128 1 := cmpf .olt main_v14 main_v15
  fn_part1 (F := F) main_arg4 main_arg5 main_v13 main_v16
-- ==== Kernel.lean ====
abbrev S2x16384x8x128 : Shape := ⟨4, ![2, 16384, 8, 128]⟩
abbrev S2x16384x8x64 : Shape := ⟨4, ![2, 16384, 8, 64]⟩
abbrev S2x256x8x128 : Shape := ⟨4, ![2, 256, 8, 128]⟩
abbrev S2x256x64 : Shape := ⟨3, ![2, 256, 64]⟩
abbrev S2x16384x64 : Shape := ⟨3, ![2, 16384, 64]⟩
abbrev S_ : Shape := ⟨0, ![]⟩
abbrev S2x16384x8x256 : Shape := ⟨4, ![2, 16384, 8, 256]⟩
abbrev S32768x8x256 : Shape := ⟨3, ![32768, 8, 256]⟩
abbrev S8x256x32768 : Shape := ⟨3, ![8, 256, 32768]⟩
abbrev S8x256x512 : Shape := ⟨3, ![8, 256, 512]⟩
abbrev S8x256x33280 : Shape := ⟨3, ![8, 256, 33280]⟩
abbrev S2x16384x1x64 : Shape := ⟨4, ![2, 16384, 1, 64]⟩
abbrev S2x256x1x64 : Shape := ⟨4, ![2, 256, 1, 64]⟩
abbrev S2x256x8x64 : Shape := ⟨4, ![2, 256, 8, 64]⟩
abbrev S2x256x8x256 : Shape := ⟨4, ![2, 256, 8, 256]⟩
abbrev S512x8x256 : Shape := ⟨3, ![512, 8, 256]⟩
abbrev S33280x8x256 : Shape := ⟨3, ![33280, 8, 256]⟩
abbrev S33280x2048 : Shape := ⟨2, ![33280, 2048]⟩
abbrev S32768x8x128 : Shape := ⟨3, ![32768, 8, 128]⟩
abbrev S512x8x128 : Shape := ⟨3, ![512, 8, 128]⟩
abbrev S33280x8x128 : Shape := ⟨3, ![33280, 8, 128]⟩
abbrev S8x128x33280 : Shape := ⟨3, ![8, 128, 33280]⟩
abbrev S8x16x33280 : Shape := ⟨3, ![8, 16, 33280]⟩
abbrev S8x144x33280 : Shape := ⟨3, ![8, 144, 33280]⟩
abbrev S32768x1024 : Shape := ⟨2, ![32768, 1024]⟩
abbrev S1x256x1024 : Shape := ⟨3, ![1, 256, 1024]⟩
abbrev S256x256 : Shape := ⟨2, ![256, 256]⟩
abbrev S1x144x256 : Shape := ⟨3, ![1, 144, 256]⟩
abbrev S16384x256 : Shape := ⟨2, ![16384, 256]⟩
abbrev S1x144x16384 : Shape := ⟨3, ![1, 144, 16384]⟩
abbrev S1024x128 : Shape := ⟨2, ![1024, 128]⟩
abbrev S144x1024 : Shape := ⟨2, ![144, 1024]⟩
abbrev S512x1024 : Shape := ⟨2, ![512, 1024]⟩
abbrev S256x1024 : Shape := ⟨2, ![256, 1024]⟩
abbrev S512x256 : Shape := ⟨2, ![512, 256]⟩
abbrev S1024 : Shape := ⟨1, ![1024]⟩
abbrev S1x1024 : Shape := ⟨2, ![1, 1024]⟩
abbrev S144x256 : Shape := ⟨2, ![144, 256]⟩
abbrev S1x144x512 : Shape := ⟨3, ![1, 144, 512]⟩
abbrev S144x512 : Shape := ⟨2, ![144, 512]⟩
abbrev S128x1024 : Shape := ⟨2, ![128, 1024]⟩

abbrev nBuf : Space → Nat
  | .hbm => 50
  | .vmem => 15
  | .smem => 0
  | _ => 0

abbrev bufTy : (tb : Table) → Fin (tcTables nBuf tb) → BufTy
  | .hbm, ⟨0, _⟩ => ⟨S2x16384x8x128, .f32⟩
  | .hbm, ⟨1, _⟩ => ⟨S2x16384x8x64, .f32⟩
  | .hbm, ⟨2, _⟩ => ⟨S2x256x8x128, .f32⟩
  | .hbm, ⟨3, _⟩ => ⟨S2x16384x8x128, .f32⟩
  | .hbm, ⟨4, _⟩ => ⟨S2x256x64, .f32⟩
  | .hbm, ⟨5, _⟩ => ⟨S2x16384x64, .f32⟩
  | .hbm, ⟨6, _⟩ => ⟨S2x256x8x128, .f32⟩
  | .hbm, ⟨7, _⟩ => ⟨S2x16384x8x128, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S2x16384x8x64, .f32⟩
  | .hbm, ⟨17, _⟩ => ⟨S2x16384x8x256, .f32⟩
  | .hbm, ⟨18, _⟩ => ⟨S2x16384x8x256, .f32⟩
  | .hbm, ⟨19, _⟩ => ⟨S2x16384x8x256, .f32⟩
  | .hbm, ⟨20, _⟩ => ⟨S32768x8x256, .f32⟩
  | .hbm, ⟨21, _⟩ => ⟨S8x256x32768, .f32⟩
  | .hbm, ⟨22, _⟩ => ⟨S_, .f32⟩
  | .hbm, ⟨23, _⟩ => ⟨S8x256x512, .f32⟩
  | .hbm, ⟨24, _⟩ => ⟨S8x256x33280, .f32⟩
  | .hbm, ⟨25, _⟩ => ⟨S8x256x33280, .bf16⟩
  | .hbm, ⟨26, _⟩ => ⟨S2x16384x1x64, .f32⟩
  | .hbm, ⟨27, _⟩ => ⟨S2x16384x8x64, .f32⟩
  | .hbm, ⟨28, _⟩ => ⟨S_, .f32⟩
  | .hbm, ⟨29, _⟩ => ⟨S2x16384x8x64, .f32⟩
  | .hbm, ⟨30, _⟩ => ⟨S2x16384x8x256, .f32⟩
  | .hbm, ⟨31, _⟩ => ⟨S32768x8x256, .f32⟩
  | .hbm, ⟨32, _⟩ => ⟨S2x256x1x64, .f32⟩
  | .hbm, ⟨33, _⟩ => ⟨S2x256x8x64, .f32⟩
  | .hbm, ⟨34, _⟩ => ⟨S_, .f32⟩
  | .hbm, ⟨35, _⟩ => ⟨S2x256x8x64, .f32⟩
  | .hbm, ⟨36, _⟩ => ⟨S2x256x8x256, .f32⟩
  | .hbm, ⟨37, _⟩ => ⟨S512x8x256, .f32⟩
  | .hbm, ⟨38, _⟩ => ⟨S33280x8x256, .f32⟩
  | .hbm, ⟨39, _⟩ => ⟨S33280x2048, .f32⟩
  | .hbm, ⟨40, _⟩ => ⟨S33280x2048, .bf16⟩
  | .hbm, ⟨41, _⟩ => ⟨S32768x8x128, .f32⟩
  | .hbm, ⟨42, _⟩ => ⟨S512x8x128, .f32⟩
  | .hbm, ⟨43, _⟩ => ⟨S33280x8x128, .f32⟩
  | .hbm, ⟨44, _⟩ => ⟨S8x128x33280, .f32⟩
  | .hbm, ⟨45, _⟩ => ⟨S_, .f32⟩
  | .hbm, ⟨46, _⟩ => ⟨S8x16x33280, .f32⟩
  | .hbm, ⟨47, _⟩ => ⟨S8x144x33280, .f32⟩
  | .hbm, ⟨48, _⟩ => ⟨S8x144x33280, .bf16⟩
  | .hbm, ⟨49, _⟩ => ⟨S32768x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S256x256, .bf16⟩
  | .local _ .vmem, ⟨3, _⟩ => ⟨S256x256, .bf16⟩
  | .local _ .vmem, ⟨4, _⟩ => ⟨S1x144x256, .bf16⟩
  | .local _ .vmem, ⟨5, _⟩ => ⟨S1x144x256, .bf16⟩
  | .local _ .vmem, ⟨6, _⟩ => ⟨S16384x256, .bf16⟩
  | .local _ .vmem, ⟨7, _⟩ => ⟨S16384x256, .bf16⟩
  | .local _ .vmem, ⟨8, _⟩ => ⟨S1x144x16384, .bf16⟩
  | .local _ .vmem, ⟨9, _⟩ => ⟨S1x144x16384, .bf16⟩
  | .local _ .vmem, ⟨10, _⟩ => ⟨S1024x128, .bf16⟩
  | .local _ .vmem, ⟨11, _⟩ => ⟨S1024x128, .bf16⟩
  | .local _ .vmem, ⟨12, _⟩ => ⟨S144x1024, .f32⟩
  | .local _ .vmem, ⟨13, _⟩ => ⟨S512x1024, .f32⟩
  | .local _ .vmem, ⟨14, _⟩ => ⟨S512x1024, .f32⟩
  | _, _ => ⟨S2x16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 16], ![false, false, false]⟩

@[reducible] def k0_t1_loop : Scf.Loop 32 :=
  let c0_i32 : BitVec 32 := 0#32
  let c16_i32 : BitVec 32 := 16#32
  let v23 : BitVec 32 := Scalar.addi c0_i32 c16_i32
  let c1_i32 : BitVec 32 := 1#32
  ⟨c0_i32, v23, c1_i32⟩
def k0_mult1 (k0_t1 : Fin k0_t1_loop.trips) : BitVec 32 :=
  let c2_i32 : BitVec 32 := 2#32
  let c0_i32 : BitVec 32 := 0#32
  let c1_i32 : BitVec 32 := 1#32
  let arg12 : BitVec 32 := Scf.iv c0_i32 c1_i32 k0_t1
  let v32 : BitVec 32 := Scalar.muli c2_i32 arg12
  let c512_i32 : BitVec 32 := 512#32
  let v33 : BitVec 32 := Scalar.muli v32 c512_i32
  v33
def k0_mult2 (k0_t1 : Fin k0_t1_loop.trips) : BitVec 32 :=
  let c2_i32_22 : BitVec 32 := 2#32
  let c0_i32 : BitVec 32 := 0#32
  let c1_i32 : BitVec 32 := 1#32
  let arg12 : BitVec 32 := Scf.iv c0_i32 c1_i32 k0_t1
  let v35 : BitVec 32 := Scalar.muli c2_i32_22 arg12
  let c1_i32_23 : BitVec 32 := 1#32
  let v36 : BitVec 32 := Scalar.addi v35 c1_i32_23
  let c512_i32_24 : BitVec 32 := 512#32
  let v37 : BitVec 32 := Scalar.muli v36 c512_i32_24
  v37
def k0_mult3 (k0_t1 : Fin k0_t1_loop.trips) : BitVec 32 :=
  let c2_i32_25 : BitVec 32 := 2#32
  let c0_i32 : BitVec 32 := 0#32
  let c1_i32 : BitVec 32 := 1#32
  let arg12 : BitVec 32 := Scf.iv c0_i32 c1_i32 k0_t1
  let v39 : BitVec 32 := Scalar.muli c2_i32_25 arg12
  let c2_i32_26 : BitVec 32 := 2#32
  let v40 : BitVec 32 := Scalar.addi v39 c2_i32_26
  let c31_i32 : BitVec 32 := 31#32
  let v41 : BitVec 32 := Scalar.minsi v40 c31_i32
  let c512_i32_27 : BitVec 32 := 512#32
  let v42 : BitVec 32 := Scalar.muli v41 c512_i32_27
  v42
def k0_off1 (k0_t1 : Fin k0_t1_loop.trips) : Fin 2 → Nat :=
  let c2_i32_22 : BitVec 32 := 2#32
  let c0_i32 : BitVec 32 := 0#32
  let c1_i32 : BitVec 32 := 1#32
  let arg12 : BitVec 32 := Scf.iv c0_i32 c1_i32 k0_t1
  let v35 : BitVec 32 := Scalar.muli c2_i32_22 arg12
  let c1_i32_23 : BitVec 32 := 1#32
  let v36 : BitVec 32 := Scalar.addi v35 c1_i32_23
  let c512_i32_24 : BitVec 32 := 512#32
  let v37 : BitVec 32 := Scalar.muli v36 c512_i32_24
  let v38 : BitVec 32 := v37
  let v44 : Index := Scalar.indexCast v38
  let c0_28 : Index := 0#32
  ![v44.toNat, 0]
def k0_off2 (k0_t1 : Fin k0_t1_loop.trips) : Fin 3 → Nat :=
  let c0_34 : Index := 0#32
  let c0_35 : Index := 0#32
  let c2_i32 : BitVec 32 := 2#32
  let c0_i32 : BitVec 32 := 0#32
  let c1_i32 : BitVec 32 := 1#32
  let arg12 : BitVec 32 := Scf.iv c0_i32 c1_i32 k0_t1
  let v32 : BitVec 32 := Scalar.muli c2_i32 arg12
  let c512_i32 : BitVec 32 := 512#32
  let v33 : BitVec 32 := Scalar.muli v32 c512_i32
  let v34 : BitVec 32 := v33
  let v52 : Index := Scalar.indexCast v34
  ![0, 0, v52.toNat]
def k0_off3 (k0_t1 : Fin k0_t1_loop.trips) : Fin 2 → Nat :=
  let c2_i32_25 : BitVec 32 := 2#32
  let c0_i32 : BitVec 32 := 0#32
  let c1_i32 : BitVec 32 := 1#32
  let arg12 : BitVec 32 := Scf.iv c0_i32 c1_i32 k0_t1
  let v39 : BitVec 32 := Scalar.muli c2_i32_25 arg12
  let c2_i32_26 : BitVec 32 := 2#32
  let v40 : BitVec 32 := Scalar.addi v39 c2_i32_26
  let c31_i32 : BitVec 32 := 31#32
  let v41 : BitVec 32 := Scalar.minsi v40 c31_i32
  let c512_i32_27 : BitVec 32 := 512#32
  let v42 : BitVec 32 := Scalar.muli v41 c512_i32_27
  let v43 : BitVec 32 := v42
  let v72 : Index := Scalar.indexCast v43
  let c0_42 : Index := 0#32
  ![v72.toNat, 0]
def k0_off4 (k0_t1 : Fin k0_t1_loop.trips) : Fin 3 → Nat :=
  let c0_48 : Index := 0#32
  let c0_49 : Index := 0#32
  let c2_i32_22 : BitVec 32 := 2#32
  let c0_i32 : BitVec 32 := 0#32
  let c1_i32 : BitVec 32 := 1#32
  let arg12 : BitVec 32 := Scf.iv c0_i32 c1_i32 k0_t1
  let v35 : BitVec 32 := Scalar.muli c2_i32_22 arg12
  let c1_i32_23 : BitVec 32 := 1#32
  let v36 : BitVec 32 := Scalar.addi v35 c1_i32_23
  let c512_i32_24 : BitVec 32 := 512#32
  let v37 : BitVec 32 := Scalar.muli v36 c512_i32_24
  let v38 : BitVec 32 := v37
  let v80 : Index := Scalar.indexCast v38
  ![0, 0, v80.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![arg1.toNat, c0_i32.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  ![v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c128_i32 : BitVec 32 := 128#32
  let v0 : BitVec 32 := Scalar.addi c128_i32 arg0
  let c0_i32 : BitVec 32 := 0#32
  let c0_i32_0 : BitVec 32 := 0#32
  ![arg1.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x144x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S16384x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x144x16384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x16384x8x128 : Shape := ⟨4, ![2, 16384, 8, 128]⟩
abbrev S2x16384x8x64 : Shape := ⟨4, ![2, 16384, 8, 64]⟩
abbrev S2x256x8x128 : Shape := ⟨4, ![2, 256, 8, 128]⟩
abbrev S2x256x64 : Shape := ⟨3, ![2, 256, 64]⟩
abbrev S2x16384x64 : Shape := ⟨3, ![2, 16384, 64]⟩
abbrev S2x16640x8x128 : Shape := ⟨4, ![2, 16640, 8, 128]⟩
abbrev S2x16640x64 : Shape := ⟨3, ![2, 16640, 64]⟩
abbrev S_ : Shape := ⟨0, ![]⟩
abbrev S2x8x16384x16640 : Shape := ⟨4, ![2, 8, 16384, 16640]⟩
abbrev S2x16640x16384x8 : Shape := ⟨4, ![2, 16640, 16384, 8]⟩
abbrev S2x8x16384 : Shape := ⟨3, ![2, 8, 16384]⟩
abbrev S2x8x16384x1 : Shape := ⟨4, ![2, 8, 16384, 1]⟩
abbrev S2x8x128x16384 : Shape := ⟨4, ![2, 8, 128, 16384]⟩
abbrev S32768x1024 : Shape := ⟨2, ![32768, 1024]⟩

abbrev nBuf : Space → Nat
  | .hbm => 39
  | .vmem => 0
  | .smem => 0
  | _ => 0

abbrev bufTy : (tb : Table) → Fin (tcTables nBuf tb) → BufTy
  | .hbm, ⟨0, _⟩ => ⟨S2x16384x8x128, .f32⟩
  | .hbm, ⟨1, _⟩ => ⟨S2x16384x8x64, .f32⟩
  | .hbm, ⟨2, _⟩ => ⟨S2x256x8x128, .f32⟩
  | .hbm, ⟨3, _⟩ => ⟨S2x16384x8x128, .f32⟩
  | .hbm, ⟨4, _⟩ => ⟨S2x256x64, .f32⟩
  | .hbm, ⟨5, _⟩ => ⟨S2x16384x64, .f32⟩
  | .hbm, ⟨6, _⟩ => ⟨S2x256x8x128, .f32⟩
  | .hbm, ⟨7, _⟩ => ⟨S2x16384x8x128, .f32⟩
  | .hbm, ⟨8, _⟩ => ⟨S2x16640x8x128, .f32⟩
  | .hbm, ⟨9, _⟩ => ⟨S2x16640x64, .f32⟩
  | .hbm, ⟨10, _⟩ => ⟨S2x16640x8x128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2x8x16384x16640, .f32⟩
  | .hbm, ⟨16, _⟩ => ⟨S2x16640x16384x8, .f32⟩
  | .hbm, ⟨17, _⟩ => ⟨S2x8x16384x16640, .f32⟩
  | .hbm, ⟨18, _⟩ => ⟨S2x8x16384x16640, .f32⟩
  | .hbm, ⟨19, _⟩ => ⟨S2x8x16384x16640, .f32⟩
  | .hbm, ⟨20, _⟩ => ⟨S2x8x16384x16640, .f32⟩
  | .hbm, ⟨21, _⟩ => ⟨S_, .f32⟩
  | .hbm, ⟨22, _⟩ => ⟨S2x8x16384, .f32⟩
  | .hbm, ⟨23, _⟩ => ⟨S_, .f32⟩
  | .hbm, ⟨24, _⟩ => ⟨S2x8x16384, .f32⟩
  | .hbm, ⟨25, _⟩ => ⟨S2x8x16384, .f32⟩
  | .hbm, ⟨26, _⟩ => ⟨S2x8x16384x1, .f32⟩
  | .hbm, ⟨27, _⟩ => ⟨S2x8x16384x16640, .f32⟩
  | .hbm, ⟨28, _⟩ => ⟨S2x8x16384x16640, .f32⟩
  | .hbm, ⟨29, _⟩ => ⟨S2x8x16384x16640, .f32⟩
  | .hbm, ⟨30, _⟩ => ⟨S_, .f32⟩
  | .hbm, ⟨31, _⟩ => ⟨S2x8x16384, .f32⟩
  | .hbm, ⟨32, _⟩ => ⟨S2x8x16384x1, .f32⟩
  | .hbm, ⟨33, _⟩ => ⟨S2x8x16384x16640, .f32⟩
  | .hbm, ⟨34, _⟩ => ⟨S2x8x16384x16640, .f32⟩
  | .hbm, ⟨35, _⟩ => ⟨S2x8x128x16384, .f32⟩
  | .hbm, ⟨36, _⟩ => ⟨S2x16384x8x128, .f32⟩
  | .hbm, ⟨37, _⟩ => ⟨S32768x1024, .f32⟩
  | .hbm, ⟨38, _⟩ => ⟨S32768x1024, .bf16⟩
  | _, _ => ⟨S2x16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Kernel2.lean ====
abbrev S82944x1024 : Shape := ⟨2, ![82944, 1024]⟩
abbrev S32 : Shape := ⟨1, ![32]⟩
abbrev S4x32x1024x512 : Shape := ⟨4, ![4, 32, 1024, 512]⟩
abbrev S4x32x512x1024 : Shape := ⟨4, ![4, 32, 512, 1024]⟩
abbrev S_ : Shape := ⟨0, ![]⟩
abbrev S162 : Shape := ⟨1, ![162]⟩
abbrev S1x32 : Shape := ⟨2, ![1, 32]⟩
abbrev S162x1 : Shape := ⟨2, ![162, 1]⟩
abbrev S162x32 : Shape := ⟨2, ![162, 32]⟩
abbrev S1 : Shape := ⟨1, ![1]⟩
abbrev S512x1024 : Shape := ⟨2, ![512, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x512 : Shape := ⟨2, ![512, 512]⟩

abbrev nBuf : Space → Nat
  | .hbm => 68
  | .vmem => 13
  | .smem => 2
  | _ => 0

abbrev bufTy : (tb : Table) → Fin (tcTables nBuf tb) → BufTy
  | .hbm, ⟨0, _⟩ => ⟨S82944x1024, .f32⟩
  | .hbm, ⟨1, _⟩ => ⟨S32, .i32⟩
  | .hbm, ⟨2, _⟩ => ⟨S4x32x1024x512, .f32⟩
  | .hbm, ⟨3, _⟩ => ⟨S4x32x1024x512, .f32⟩
  | .hbm, ⟨4, _⟩ => ⟨S4x32x512x1024, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S32, .i32⟩
  | .hbm, ⟨35, _⟩ => ⟨S162, .i32⟩
  | .hbm, ⟨36, _⟩ => ⟨S_, .i32⟩
  | .hbm, ⟨37, _⟩ => ⟨S162, .i32⟩
  | .hbm, ⟨38, _⟩ => ⟨S162, .i32⟩
  | .hbm, ⟨39, _⟩ => ⟨S1x32, .i32⟩
  | .hbm, ⟨40, _⟩ => ⟨S162x1, .i32⟩
  | .hbm, ⟨41, _⟩ => ⟨S162x32, .i32⟩
  | .hbm, ⟨42, _⟩ => ⟨S162x32, .i32⟩
  | .hbm, ⟨43, _⟩ => ⟨S162x32, .i1⟩
  | .hbm, ⟨44, _⟩ => ⟨S162x32, .i32⟩
  | .hbm, ⟨45, _⟩ => ⟨S_, .i32⟩
  | .hbm, ⟨46, _⟩ => ⟨S162, .i32⟩
  | .hbm, ⟨47, _⟩ => ⟨S_, .i32⟩
  | .hbm, ⟨48, _⟩ => ⟨S162, .i32⟩
  | .hbm, ⟨49, _⟩ => ⟨S1, .i32⟩
  | .hbm, ⟨50, _⟩ => ⟨S_, .i32⟩
  | .hbm, ⟨51, _⟩ => ⟨S_, .i32⟩
  | .hbm, ⟨52, _⟩ => ⟨S1, .i32⟩
  | .hbm, ⟨53, _⟩ => ⟨S1, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S1, .i1⟩
  | .hbm, ⟨58, _⟩ => ⟨S1, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S1, .i1⟩
  | .hbm, ⟨63, _⟩ => ⟨S1, .i1⟩
  | .hbm, ⟨64, _⟩ => ⟨S_, .i32⟩
  | .hbm, ⟨65, _⟩ => ⟨S1, .i32⟩
  | .hbm, ⟨66, _⟩ => ⟨S1, .i32⟩
  | .hbm, ⟨67, _⟩ => ⟨S82944x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S512x1024, .f32⟩
  | .local _ .vmem, ⟨9, _⟩ => ⟨S512x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S162, .i32⟩
  | .local _ .smem, ⟨1, _⟩ => ⟨S1, .i32⟩
  | _, _ => ⟨S82944x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v20 : Ref sig .tc := ⟨.hbm, 49, rfl⟩
abbrev main_c_6 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v22 : Ref sig .tc := ⟨.hbm, 67, rfl⟩
abbrev main_v19 : Ref sig .tc := ⟨.smem, 0, rfl⟩
abbrev main_v21 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![162], ![false]⟩

abbrev pre0 : Pipeline.Prefetch sig := ⟨2, ![main_v19.idx, main_v21.idx], fun | 0 => main_v19.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel2Ideal.lean ====
abbrev S82944x1024 : Shape := ⟨2, ![82944, 1024]⟩
abbrev S32 : Shape := ⟨1, ![32]⟩
abbrev S4x32x1024x512 : Shape := ⟨4, ![4, 32, 1024, 512]⟩
abbrev S4x32x512x1024 : Shape := ⟨4, ![4, 32, 512, 1024]⟩
abbrev S_ : Shape := ⟨0, ![]⟩
abbrev S162 : Shape := ⟨1, ![162]⟩
abbrev S1x32 : Shape := ⟨2, ![1, 32]⟩
abbrev S162x1 : Shape := ⟨2, ![162, 1]⟩
abbrev S162x32 : Shape := ⟨2, ![162, 32]⟩
abbrev S1 : Shape := ⟨1, ![1]⟩
abbrev S512x1024 : Shape := ⟨2, ![512, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x512 : Shape := ⟨2, ![512, 512]⟩

abbrev nBuf : Space → Nat
  | .hbm => 68
  | .vmem => 13
  | .smem => 2
  | _ => 0

abbrev bufTy : (tb : Table) → Fin (tcTables nBuf tb) → BufTy
  | .hbm, ⟨0, _⟩ => ⟨S82944x1024, .f32⟩
  | .hbm, ⟨1, _⟩ => ⟨S32, .i32⟩
  | .hbm, ⟨2, _⟩ => ⟨S4x32x1024x512, .f32⟩
  | .hbm, ⟨3, _⟩ => ⟨S4x32x1024x512, .f32⟩
  | .hbm, ⟨4, _⟩ => ⟨S4x32x512x1024, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S32, .i32⟩
  | .hbm, ⟨35, _⟩ => ⟨S162, .i32⟩
  | .hbm, ⟨36, _⟩ => ⟨S_, .i32⟩
  | .hbm, ⟨37, _⟩ => ⟨S162, .i32⟩
  | .hbm, ⟨38, _⟩ => ⟨S162, .i32⟩
  | .hbm, ⟨39, _⟩ => ⟨S1x32, .i32⟩
  | .hbm, ⟨40, _⟩ => ⟨S162x1, .i32⟩
  | .hbm, ⟨41, _⟩ => ⟨S162x32, .i32⟩
  | .hbm, ⟨42, _⟩ => ⟨S162x32, .i32⟩
  | .hbm, ⟨43, _⟩ => ⟨S162x32, .i1⟩
  | .hbm, ⟨44, _⟩ => ⟨S162x32, .i32⟩
  | .hbm, ⟨45, _⟩ => ⟨S_, .i32⟩
  | .hbm, ⟨46, _⟩ => ⟨S162, .i32⟩
  | .hbm, ⟨47, _⟩ => ⟨S_, .i32⟩
  | .hbm, ⟨48, _⟩ => ⟨S162, .i32⟩
  | .hbm, ⟨49, _⟩ => ⟨S1, .i32⟩
  | .hbm, ⟨50, _⟩ => ⟨S_, .i32⟩
  | .hbm, ⟨51, _⟩ => ⟨S_, .i32⟩
  | .hbm, ⟨52, _⟩ => ⟨S1, .i32⟩
  | .hbm, ⟨53, _⟩ => ⟨S1, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S1, .i1⟩
  | .hbm, ⟨58, _⟩ => ⟨S1, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S1, .i1⟩
  | .hbm, ⟨63, _⟩ => ⟨S1, .i1⟩
  | .hbm, ⟨64, _⟩ => ⟨S_, .i32⟩
  | .hbm, ⟨65, _⟩ => ⟨S1, .i32⟩
  | .hbm, ⟨66, _⟩ => ⟨S1, .i32⟩
  | .hbm, ⟨67, _⟩ => ⟨S82944x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S512x1024, .f32⟩
  | .local _ .vmem, ⟨9, _⟩ => ⟨S512x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S162, .i32⟩
  | .local _ .smem, ⟨1, _⟩ => ⟨S1, .i32⟩
  | _, _ => ⟨S82944x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v20 : Ref sig .tc := ⟨.hbm, 49, rfl⟩
abbrev main_c_6 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v22 : Ref sig .tc := ⟨.hbm, 67, rfl⟩
abbrev main_v19 : Ref sig .tc := ⟨.smem, 0, rfl⟩
abbrev main_v21 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![162], ![false]⟩

abbrev pre0 : Pipeline.Prefetch sig := ⟨2, ![main_v19.idx, main_v21.idx], fun | 0 => main_v19.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S82944x1024 : Shape := ⟨2, ![82944, 1024]⟩
abbrev S32 : Shape := ⟨1, ![32]⟩
abbrev S4x32x1024x512 : Shape := ⟨4, ![4, 32, 1024, 512]⟩
abbrev S4x32x512x1024 : Shape := ⟨4, ![4, 32, 512, 1024]⟩
abbrev S_ : Shape := ⟨0, ![]⟩
abbrev S162 : Shape := ⟨1, ![162]⟩
abbrev S1x32 : Shape := ⟨2, ![1, 32]⟩
abbrev S162x1 : Shape := ⟨2, ![162, 1]⟩
abbrev S162x32 : Shape := ⟨2, ![162, 32]⟩
abbrev S162x512x1024 : Shape := ⟨3, ![162, 512, 1024]⟩
abbrev S1x32x1024x512 : Shape := ⟨4, ![1, 32, 1024, 512]⟩
abbrev S32x1024x512 : Shape := ⟨3, ![32, 1024, 512]⟩
abbrev S162x1024x512 : Shape := ⟨3, ![162, 1024, 512]⟩
abbrev S162x512x512 : Shape := ⟨3, ![162, 512, 512]⟩
abbrev S1x32x512x1024 : Shape := ⟨4, ![1, 32, 512, 1024]⟩
abbrev S32x512x1024 : Shape := ⟨3, ![32, 512, 1024]⟩
abbrev S1 : Shape := ⟨1, ![1]⟩
abbrev S162x1x1 : Shape := ⟨3, ![162, 1, 1]⟩

abbrev nBuf : Space → Nat
  | .hbm => 126
  | .vmem => 0
  | .smem => 0
  | _ => 0

abbrev bufTy : (tb : Table) → Fin (tcTables nBuf tb) → BufTy
  | .hbm, ⟨0, _⟩ => ⟨S82944x1024, .f32⟩
  | .hbm, ⟨1, _⟩ => ⟨S32, .i32⟩
  | .hbm, ⟨2, _⟩ => ⟨S4x32x1024x512, .f32⟩
  | .hbm, ⟨3, _⟩ => ⟨S4x32x1024x512, .f32⟩
  | .hbm, ⟨4, _⟩ => ⟨S4x32x512x1024, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S32, .i32⟩
  | .hbm, ⟨35, _⟩ => ⟨S162, .i32⟩
  | .hbm, ⟨36, _⟩ => ⟨S_, .i32⟩
  | .hbm, ⟨37, _⟩ => ⟨S162, .i32⟩
  | .hbm, ⟨38, _⟩ => ⟨S162, .i32⟩
  | .hbm, ⟨39, _⟩ => ⟨S1x32, .i32⟩
  | .hbm, ⟨40, _⟩ => ⟨S162x1, .i32⟩
  | .hbm, ⟨41, _⟩ => ⟨S162x32, .i32⟩
  | .hbm, ⟨42, _⟩ => ⟨S162x32, .i32⟩
  | .hbm, ⟨43, _⟩ => ⟨S162x32, .i1⟩
  | .hbm, ⟨44, _⟩ => ⟨S162x32, .i32⟩
  | .hbm, ⟨45, _⟩ => ⟨S_, .i32⟩
  | .hbm, ⟨46, _⟩ => ⟨S162, .i32⟩
  | .hbm, ⟨47, _⟩ => ⟨S_, .i32⟩
  | .hbm, ⟨48, _⟩ => ⟨S162, .i32⟩
  | .hbm, ⟨49, _⟩ => ⟨S162, .i32⟩
  | .hbm, ⟨50, _⟩ => ⟨S162x512x1024, .f32⟩
  | .hbm, ⟨51, _⟩ => ⟨S1x32x1024x512, .f32⟩
  | .hbm, ⟨52, _⟩ => ⟨S32x1024x512, .f32⟩
  | .hbm, ⟨53, _⟩ => ⟨S_, .i32⟩
  | .hbm, ⟨54, _⟩ => ⟨S162, .i32⟩
  | .hbm, ⟨55, _⟩ => ⟨S162, .i1⟩
  | .hbm, ⟨56, _⟩ => ⟨S_, .i32⟩
  | .hbm, ⟨57, _⟩ => ⟨S162, .i32⟩
  | .hbm, ⟨58, _⟩ => ⟨S162, .i32⟩
  | .hbm, ⟨59, _⟩ => ⟨S162, .i32⟩
  | .hbm, ⟨60, _⟩ => ⟨S162x1, .i32⟩
  | .hbm, ⟨61, _⟩ => ⟨S162x1024x512, .f32⟩
  | .hbm, ⟨62, _⟩ => ⟨S162x512x512, .f32⟩
  | .hbm, ⟨63, _⟩ => ⟨S1x32x1024x512, .f32⟩
  | .hbm, ⟨64, _⟩ => ⟨S32x1024x512, .f32⟩
  | .hbm, ⟨65, _⟩ => ⟨S_, .i32⟩
  | .hbm, ⟨66, _⟩ => ⟨S162, .i32⟩
  | .hbm, ⟨67, _⟩ => ⟨S162, .i1⟩
  | .hbm, ⟨68, _⟩ => ⟨S_, .i32⟩
  | .hbm, ⟨69, _⟩ => ⟨S162, .i32⟩
  | .hbm, ⟨70, _⟩ => ⟨S162, .i32⟩
  | .hbm, ⟨71, _⟩ => ⟨S162, .i32⟩
  | .hbm, ⟨72, _⟩ => ⟨S162x1, .i32⟩
  | .hbm, ⟨73, _⟩ => ⟨S162x1024x512, .f32⟩
  | .hbm, ⟨74, _⟩ => ⟨S162x512x512, .f32⟩
  | .hbm, ⟨75, _⟩ => ⟨S162x512x512, .f32⟩
  | .hbm, ⟨76, _⟩ => ⟨S162x512x512, .f32⟩
  | .hbm, ⟨77, _⟩ => ⟨S_, .f32⟩
  | .hbm, ⟨78, _⟩ => ⟨S162x512x512, .f32⟩
  | .hbm, ⟨79, _⟩ => ⟨S162x512x512, .f32⟩
  | .hbm, ⟨80, _⟩ => ⟨S_, .f32⟩
  | .hbm, ⟨81, _⟩ => ⟨S162x512x512, .f32⟩
  | .hbm, ⟨82, _⟩ => ⟨S162x512x512, .f32⟩
  | .hbm, ⟨83, _⟩ => ⟨S162x512x512, .f32⟩
  | .hbm, ⟨84, _⟩ => ⟨S162x512x512, .f32⟩
  | .hbm, ⟨85, _⟩ => ⟨S1x32x512x1024, .f32⟩
  | .hbm, ⟨86, _⟩ => ⟨S32x512x1024, .f32⟩
  | .hbm, ⟨87, _⟩ => ⟨S_, .i32⟩
  | .hbm, ⟨88, _⟩ => ⟨S162, .i32⟩
  | .hbm, ⟨89, _⟩ => ⟨S162, .i1⟩
  | .hbm, ⟨90, _⟩ => ⟨S_, .i32⟩
  | .hbm, ⟨91, _⟩ => ⟨S162, .i32⟩
  | .hbm, ⟨92, _⟩ => ⟨S162, .i32⟩
  | .hbm, ⟨93, _⟩ => ⟨S162, .i32⟩
  | .hbm, ⟨94, _⟩ => ⟨S162x1, .i32⟩
  | .hbm, ⟨95, _⟩ => ⟨S162x512x1024, .f32⟩
  | .hbm, ⟨96, _⟩ => ⟨S162x512x1024, .f32⟩
  | .hbm, ⟨97, _⟩ => ⟨S162, .i32⟩
  | .hbm, ⟨98, _⟩ => ⟨S1, .i32⟩
  | .hbm, ⟨99, _⟩ => ⟨S_, .i32⟩
  | .hbm, ⟨100, _⟩ => ⟨S_, .i32⟩
  | .hbm, ⟨101, _⟩ => ⟨S1, .i32⟩
  | .hbm, ⟨102, _⟩ => ⟨S1, .i32⟩
  | .hbm, ⟨103, _⟩ => ⟨S1, .i32⟩
  | .hbm, ⟨104, _⟩ => ⟨S_, .i32⟩
  | .hbm, ⟨105, _⟩ => ⟨S1, .i32⟩
  | .hbm, ⟨106, _⟩ => ⟨S1, .i1⟩
  | .hbm, ⟨107, _⟩ => ⟨S1, .i32⟩
  | .hbm, ⟨108, _⟩ => ⟨S1, .i32⟩
  | .hbm, ⟨109, _⟩ => ⟨S_, .i32⟩
  | .hbm, ⟨110, _⟩ => ⟨S1, .i32⟩
  | .hbm, ⟨111, _⟩ => ⟨S1, .i1⟩
  | .hbm, ⟨112, _⟩ => ⟨S1, .i1⟩
  | .hbm, ⟨113, _⟩ => ⟨S_, .i32⟩
  | .hbm, ⟨114, _⟩ => ⟨S1, .i32⟩
  | .hbm, ⟨115, _⟩ => ⟨S1, .i32⟩
  | .hbm, ⟨116, _⟩ => ⟨S1, .i32⟩
  | .hbm, ⟨117, _⟩ => ⟨S162, .i32⟩
  | .hbm, ⟨118, _⟩ => ⟨S162, .i1⟩
  | .hbm, ⟨119, _⟩ => ⟨S162x1x1, .i1⟩
  | .hbm, ⟨120, _⟩ => ⟨S_, .f32⟩
  | .hbm, ⟨121, _⟩ => ⟨S_, .f32⟩
  | .hbm, ⟨122, _⟩ => ⟨S162x512x1024, .i1⟩
  | .hbm, ⟨123, _⟩ => ⟨S162x512x1024, .f32⟩
  | .hbm, ⟨124, _⟩ => ⟨S162x512x1024, .f32⟩
  | .hbm, ⟨125, _⟩ => ⟨S82944x1024, .f32⟩
  | _, _ => ⟨S82944x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c_6 : Ref sig .tc := ⟨.hbm, 53, rfl⟩
abbrev main_v23 : Ref sig .tc := ⟨.hbm, 54, rfl⟩
abbrev main_v24 : Ref sig .tc := ⟨.hbm, 55, rfl⟩
abbrev main_c_7 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_8 : Ref sig .tc := ⟨.hbm, 65, rfl⟩
abbrev main_v33 : Ref sig .tc := ⟨.hbm, 66, rfl⟩
abbrev main_v34 : Ref sig .tc := ⟨.hbm, 67, rfl⟩
abbrev main_c_9 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_call2_v0 : Ref sig .tc := ⟨.hbm, 75, rfl⟩
abbrev main_call2_v1 : Ref sig .tc := ⟨.hbm, 76, rfl⟩
abbrev main_call2_cst : Ref sig .tc := ⟨.hbm, 77, rfl⟩
abbrev main_call2_v2 : Ref sig .tc := ⟨.hbm, 78, rfl⟩
abbrev main_call2_v3 : Ref sig .tc := ⟨.hbm, 79, rfl⟩
abbrev main_call2_cst_0 : Ref sig .tc := ⟨.hbm, 80, rfl⟩
abbrev main_call2_v4 : Ref sig .tc := ⟨.hbm, 81, rfl⟩
abbrev main_call2_v5 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_c_10 : Ref sig .tc := ⟨.hbm, 87, rfl⟩
abbrev main_v45 : Ref sig .tc := ⟨.hbm, 88, rfl⟩
abbrev main_v46 : Ref sig .tc := ⟨.hbm, 89, rfl⟩
abbrev main_c_11 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_c_12 : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_v6 : Ref sig .tc := ⟨.hbm, 106, rfl⟩
abbrev main_call3_v7 : Ref sig .tc := ⟨.hbm, 107, rfl⟩
abbrev main_call3_v8 : Ref sig .tc := ⟨.hbm, 108, rfl⟩
abbrev main_call3_c : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_c_0 : Ref sig .tc := ⟨.hbm, 113, rfl⟩
abbrev main_call3_v12 : Ref sig .tc := ⟨.hbm, 114, rfl⟩
abbrev main_call3_v13 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_cst : Ref sig .tc := ⟨.hbm, 120, rfl⟩
abbrev main_call4_v0 : Ref sig .tc := ⟨.hbm, 121, rfl⟩
abbrev main_call4_v1 : Ref sig .tc := ⟨.hbm, 122, rfl⟩
abbrev main_call4_v2 : Ref sig .tc := ⟨.hbm, 123, rfl⟩
abbrev main_v59 : Ref sig .tc := ⟨.hbm, 124, rfl⟩
abbrev main_v60 : Ref sig .tc := ⟨.hbm, 125, rfl⟩

abbrev nD : Nat := 1
abbrev τ : Topo := Topo.v7x

variable {F : FTy → Type} [FloatOps F]
-- ==== Kernel3.lean ====
abbrev S82944x1024 : Shape := ⟨2, ![82944, 1024]⟩
abbrev S32 : Shape := ⟨1, ![32]⟩
abbrev S4x32x1024x512 : Shape := ⟨4, ![4, 32, 1024, 512]⟩
abbrev S4x32x512x1024 : Shape := ⟨4, ![4, 32, 512, 1024]⟩
abbrev S_ : Shape := ⟨0, ![]⟩
abbrev S162 : Shape := ⟨1, ![162]⟩
abbrev S1x32 : Shape := ⟨2, ![1, 32]⟩
abbrev S162x1 : Shape := ⟨2, ![162, 1]⟩
abbrev S162x32 : Shape := ⟨2, ![162, 32]⟩
abbrev S1 : Shape := ⟨1, ![1]⟩
abbrev S512x1024 : Shape := ⟨2, ![512, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x512 : Shape := ⟨2, ![512, 512]⟩

abbrev nBuf : Space → Nat
  | .hbm => 68
  | .vmem => 13
  | .smem => 2
  | _ => 0

abbrev bufTy : (tb : Table) → Fin (tcTables nBuf tb) → BufTy
  | .hbm, ⟨0, _⟩ => ⟨S82944x1024, .f32⟩
  | .hbm, ⟨1, _⟩ => ⟨S32, .i32⟩
  | .hbm, ⟨2, _⟩ => ⟨S4x32x1024x512, .f32⟩
  | .hbm, ⟨3, _⟩ => ⟨S4x32x1024x512, .f32⟩
  | .hbm, ⟨4, _⟩ => ⟨S4x32x512x1024, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S32, .i32⟩
  | .hbm, ⟨35, _⟩ => ⟨S162, .i32⟩
  | .hbm, ⟨36, _⟩ => ⟨S_, .i32⟩
  | .hbm, ⟨37, _⟩ => ⟨S162, .i32⟩
  | .hbm, ⟨38, _⟩ => ⟨S162, .i32⟩
  | .hbm, ⟨39, _⟩ => ⟨S1x32, .i32⟩
  | .hbm, ⟨40, _⟩ => ⟨S162x1, .i32⟩
  | .hbm, ⟨41, _⟩ => ⟨S162x32, .i32⟩
  | .hbm, ⟨42, _⟩ => ⟨S162x32, .i32⟩
  | .hbm, ⟨43, _⟩ => ⟨S162x32, .i1⟩
  | .hbm, ⟨44, _⟩ => ⟨S162x32, .i32⟩
  | .hbm, ⟨45, _⟩ => ⟨S_, .i32⟩
  | .hbm, ⟨46, _⟩ => ⟨S162, .i32⟩
  | .hbm, ⟨47, _⟩ => ⟨S_, .i32⟩
  | .hbm, ⟨48, _⟩ => ⟨S162, .i32⟩
  | .hbm, ⟨49, _⟩ => ⟨S1, .i32⟩
  | .hbm, ⟨50, _⟩ => ⟨S_, .i32⟩
  | .hbm, ⟨51, _⟩ => ⟨S_, .i32⟩
  | .hbm, ⟨52, _⟩ => ⟨S1, .i32⟩
  | .hbm, ⟨53, _⟩ => ⟨S1, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S1, .i1⟩
  | .hbm, ⟨58, _⟩ => ⟨S1, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S1, .i1⟩
  | .hbm, ⟨63, _⟩ => ⟨S1, .i1⟩
  | .hbm, ⟨64, _⟩ => ⟨S_, .i32⟩
  | .hbm, ⟨65, _⟩ => ⟨S1, .i32⟩
  | .hbm, ⟨66, _⟩ => ⟨S1, .i32⟩
  | .hbm, ⟨67, _⟩ => ⟨S82944x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S512x1024, .f32⟩
  | .local _ .vmem, ⟨9, _⟩ => ⟨S512x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S162, .i32⟩
  | .local _ .smem, ⟨1, _⟩ => ⟨S1, .i32⟩
  | _, _ => ⟨S82944x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v20 : Ref sig .tc := ⟨.hbm, 49, rfl⟩
abbrev main_c_6 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v22 : Ref sig .tc := ⟨.hbm, 67, rfl⟩
abbrev main_v19 : Ref sig .tc := ⟨.smem, 0, rfl⟩
abbrev main_v21 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![162], ![false]⟩

abbrev pre0 : Pipeline.Prefetch sig := ⟨2, ![main_v19.idx, main_v21.idx], fun | 0 => main_v19.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel3Ideal.lean ====
abbrev S82944x1024 : Shape := ⟨2, ![82944, 1024]⟩
abbrev S32 : Shape := ⟨1, ![32]⟩
abbrev S4x32x1024x512 : Shape := ⟨4, ![4, 32, 1024, 512]⟩
abbrev S4x32x512x1024 : Shape := ⟨4, ![4, 32, 512, 1024]⟩
abbrev S_ : Shape := ⟨0, ![]⟩
abbrev S162 : Shape := ⟨1, ![162]⟩
abbrev S1x32 : Shape := ⟨2, ![1, 32]⟩
abbrev S162x1 : Shape := ⟨2, ![162, 1]⟩
abbrev S162x32 : Shape := ⟨2, ![162, 32]⟩
abbrev S1 : Shape := ⟨1, ![1]⟩
abbrev S512x1024 : Shape := ⟨2, ![512, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x512 : Shape := ⟨2, ![512, 512]⟩

abbrev nBuf : Space → Nat
  | .hbm => 68
  | .vmem => 13
  | .smem => 2
  | _ => 0

abbrev bufTy : (tb : Table) → Fin (tcTables nBuf tb) → BufTy
  | .hbm, ⟨0, _⟩ => ⟨S82944x1024, .f32⟩
  | .hbm, ⟨1, _⟩ => ⟨S32, .i32⟩
  | .hbm, ⟨2, _⟩ => ⟨S4x32x1024x512, .f32⟩
  | .hbm, ⟨3, _⟩ => ⟨S4x32x1024x512, .f32⟩
  | .hbm, ⟨4, _⟩ => ⟨S4x32x512x1024, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S32, .i32⟩
  | .hbm, ⟨35, _⟩ => ⟨S162, .i32⟩
  | .hbm, ⟨36, _⟩ => ⟨S_, .i32⟩
  | .hbm, ⟨37, _⟩ => ⟨S162, .i32⟩
  | .hbm, ⟨38, _⟩ => ⟨S162, .i32⟩
  | .hbm, ⟨39, _⟩ => ⟨S1x32, .i32⟩
  | .hbm, ⟨40, _⟩ => ⟨S162x1, .i32⟩
  | .hbm, ⟨41, _⟩ => ⟨S162x32, .i32⟩
  | .hbm, ⟨42, _⟩ => ⟨S162x32, .i32⟩
  | .hbm, ⟨43, _⟩ => ⟨S162x32, .i1⟩
  | .hbm, ⟨44, _⟩ => ⟨S162x32, .i32⟩
  | .hbm, ⟨45, _⟩ => ⟨S_, .i32⟩
  | .hbm, ⟨46, _⟩ => ⟨S162, .i32⟩
  | .hbm, ⟨47, _⟩ => ⟨S_, .i32⟩
  | .hbm, ⟨48, _⟩ => ⟨S162, .i32⟩
  | .hbm, ⟨49, _⟩ => ⟨S1, .i32⟩
  | .hbm, ⟨50, _⟩ => ⟨S_, .i32⟩
  | .hbm, ⟨51, _⟩ => ⟨S_, .i32⟩
  | .hbm, ⟨52, _⟩ => ⟨S1, .i32⟩
  | .hbm, ⟨53, _⟩ => ⟨S1, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S1, .i1⟩
  | .hbm, ⟨58, _⟩ => ⟨S1, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S1, .i1⟩
  | .hbm, ⟨63, _⟩ => ⟨S1, .i1⟩
  | .hbm, ⟨64, _⟩ => ⟨S_, .i32⟩
  | .hbm, ⟨65, _⟩ => ⟨S1, .i32⟩
  | .hbm, ⟨66, _⟩ => ⟨S1, .i32⟩
  | .hbm, ⟨67, _⟩ => ⟨S82944x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S512x1024, .f32⟩
  | .local _ .vmem, ⟨9, _⟩ => ⟨S512x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S162, .i32⟩
  | .local _ .smem, ⟨1, _⟩ => ⟨S1, .i32⟩
  | _, _ => ⟨S82944x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v20 : Ref sig .tc := ⟨.hbm, 49, rfl⟩
abbrev main_c_6 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v22 : Ref sig .tc := ⟨.hbm, 67, rfl⟩
abbrev main_v19 : Ref sig .tc := ⟨.smem, 0, rfl⟩
abbrev main_v21 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![162], ![false]⟩

abbrev pre0 : Pipeline.Prefetch sig := ⟨2, ![main_v19.idx, main_v21.idx], fun | 0 => main_v19.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_3 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S82944x1024 : Shape := ⟨2, ![82944, 1024]⟩
abbrev S32 : Shape := ⟨1, ![32]⟩
abbrev S4x32x1024x512 : Shape := ⟨4, ![4, 32, 1024, 512]⟩
abbrev S4x32x512x1024 : Shape := ⟨4, ![4, 32, 512, 1024]⟩
abbrev S_ : Shape := ⟨0, ![]⟩
abbrev S162 : Shape := ⟨1, ![162]⟩
abbrev S1x32 : Shape := ⟨2, ![1, 32]⟩
abbrev S162x1 : Shape := ⟨2, ![162, 1]⟩
abbrev S162x32 : Shape := ⟨2, ![162, 32]⟩
abbrev S162x512x1024 : Shape := ⟨3, ![162, 512, 1024]⟩
abbrev S1x32x1024x512 : Shape := ⟨4, ![1, 32, 1024, 512]⟩
abbrev S32x1024x512 : Shape := ⟨3, ![32, 1024, 512]⟩
abbrev S162x1024x512 : Shape := ⟨3, ![162, 1024, 512]⟩
abbrev S162x512x512 : Shape := ⟨3, ![162, 512, 512]⟩
abbrev S1x32x512x1024 : Shape := ⟨4, ![1, 32, 512, 1024]⟩
abbrev S32x512x1024 : Shape := ⟨3, ![32, 512, 1024]⟩
abbrev S1 : Shape := ⟨1, ![1]⟩
abbrev S162x1x1 : Shape := ⟨3, ![162, 1, 1]⟩

abbrev nBuf : Space → Nat
  | .hbm => 126
  | .vmem => 0
  | .smem => 0
  | _ => 0

abbrev bufTy : (tb : Table) → Fin (tcTables nBuf tb) → BufTy
  | .hbm, ⟨0, _⟩ => ⟨S82944x1024, .f32⟩
  | .hbm, ⟨1, _⟩ => ⟨S32, .i32⟩
  | .hbm, ⟨2, _⟩ => ⟨S4x32x1024x512, .f32⟩
  | .hbm, ⟨3, _⟩ => ⟨S4x32x1024x512, .f32⟩
  | .hbm, ⟨4, _⟩ => ⟨S4x32x512x1024, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S32, .i32⟩
  | .hbm, ⟨35, _⟩ => ⟨S162, .i32⟩
  | .hbm, ⟨36, _⟩ => ⟨S_, .i32⟩
  | .hbm, ⟨37, _⟩ => ⟨S162, .i32⟩
  | .hbm, ⟨38, _⟩ => ⟨S162, .i32⟩
  | .hbm, ⟨39, _⟩ => ⟨S1x32, .i32⟩
  | .hbm, ⟨40, _⟩ => ⟨S162x1, .i32⟩
  | .hbm, ⟨41, _⟩ => ⟨S162x32, .i32⟩
  | .hbm, ⟨42, _⟩ => ⟨S162x32, .i32⟩
  | .hbm, ⟨43, _⟩ => ⟨S162x32, .i1⟩
  | .hbm, ⟨44, _⟩ => ⟨S162x32, .i32⟩
  | .hbm, ⟨45, _⟩ => ⟨S_, .i32⟩
  | .hbm, ⟨46, _⟩ => ⟨S162, .i32⟩
  | .hbm, ⟨47, _⟩ => ⟨S_, .i32⟩
  | .hbm, ⟨48, _⟩ => ⟨S162, .i32⟩
  | .hbm, ⟨49, _⟩ => ⟨S162, .i32⟩
  | .hbm, ⟨50, _⟩ => ⟨S162x512x1024, .f32⟩
  | .hbm, ⟨51, _⟩ => ⟨S1x32x1024x512, .f32⟩
  | .hbm, ⟨52, _⟩ => ⟨S32x1024x512, .f32⟩
  | .hbm, ⟨53, _⟩ => ⟨S_, .i32⟩
  | .hbm, ⟨54, _⟩ => ⟨S162, .i32⟩
  | .hbm, ⟨55, _⟩ => ⟨S162, .i1⟩
  | .hbm, ⟨56, _⟩ => ⟨S_, .i32⟩
  | .hbm, ⟨57, _⟩ => ⟨S162, .i32⟩
  | .hbm, ⟨58, _⟩ => ⟨S162, .i32⟩
  | .hbm, ⟨59, _⟩ => ⟨S162, .i32⟩
  | .hbm, ⟨60, _⟩ => ⟨S162x1, .i32⟩
  | .hbm, ⟨61, _⟩ => ⟨S162x1024x512, .f32⟩
  | .hbm, ⟨62, _⟩ => ⟨S162x512x512, .f32⟩
  | .hbm, ⟨63, _⟩ => ⟨S1x32x1024x512, .f32⟩
  | .hbm, ⟨64, _⟩ => ⟨S32x1024x512, .f32⟩
  | .hbm, ⟨65, _⟩ => ⟨S_, .i32⟩
  | .hbm, ⟨66, _⟩ => ⟨S162, .i32⟩
  | .hbm, ⟨67, _⟩ => ⟨S162, .i1⟩
  | .hbm, ⟨68, _⟩ => ⟨S_, .i32⟩
  | .hbm, ⟨69, _⟩ => ⟨S162, .i32⟩
  | .hbm, ⟨70, _⟩ => ⟨S162, .i32⟩
  | .hbm, ⟨71, _⟩ => ⟨S162, .i32⟩
  | .hbm, ⟨72, _⟩ => ⟨S162x1, .i32⟩
  | .hbm, ⟨73, _⟩ => ⟨S162x1024x512, .f32⟩
  | .hbm, ⟨74, _⟩ => ⟨S162x512x512, .f32⟩
  | .hbm, ⟨75, _⟩ => ⟨S162x512x512, .f32⟩
  | .hbm, ⟨76, _⟩ => ⟨S162x512x512, .f32⟩
  | .hbm, ⟨77, _⟩ => ⟨S_, .f32⟩
  | .hbm, ⟨78, _⟩ => ⟨S162x512x512, .f32⟩
  | .hbm, ⟨79, _⟩ => ⟨S162x512x512, .f32⟩
  | .hbm, ⟨80, _⟩ => ⟨S_, .f32⟩
  | .hbm, ⟨81, _⟩ => ⟨S162x512x512, .f32⟩
  | .hbm, ⟨82, _⟩ => ⟨S162x512x512, .f32⟩
  | .hbm, ⟨83, _⟩ => ⟨S162x512x512, .f32⟩
  | .hbm, ⟨84, _⟩ => ⟨S162x512x512, .f32⟩
  | .hbm, ⟨85, _⟩ => ⟨S1x32x512x1024, .f32⟩
  | .hbm, ⟨86, _⟩ => ⟨S32x512x1024, .f32⟩
  | .hbm, ⟨87, _⟩ => ⟨S_, .i32⟩
  | .hbm, ⟨88, _⟩ => ⟨S162, .i32⟩
  | .hbm, ⟨89, _⟩ => ⟨S162, .i1⟩
  | .hbm, ⟨90, _⟩ => ⟨S_, .i32⟩
  | .hbm, ⟨91, _⟩ => ⟨S162, .i32⟩
  | .hbm, ⟨92, _⟩ => ⟨S162, .i32⟩
  | .hbm, ⟨93, _⟩ => ⟨S162, .i32⟩
  | .hbm, ⟨94, _⟩ => ⟨S162x1, .i32⟩
  | .hbm, ⟨95, _⟩ => ⟨S162x512x1024, .f32⟩
  | .hbm, ⟨96, _⟩ => ⟨S162x512x1024, .f32⟩
  | .hbm, ⟨97, _⟩ => ⟨S162, .i32⟩
  | .hbm, ⟨98, _⟩ => ⟨S1, .i32⟩
  | .hbm, ⟨99, _⟩ => ⟨S_, .i32⟩
  | .hbm, ⟨100, _⟩ => ⟨S_, .i32⟩
  | .hbm, ⟨101, _⟩ => ⟨S1, .i32⟩
  | .hbm, ⟨102, _⟩ => ⟨S1, .i32⟩
  | .hbm, ⟨103, _⟩ => ⟨S1, .i32⟩
  | .hbm, ⟨104, _⟩ => ⟨S_, .i32⟩
  | .hbm, ⟨105, _⟩ => ⟨S1, .i32⟩
  | .hbm, ⟨106, _⟩ => ⟨S1, .i1⟩
  | .hbm, ⟨107, _⟩ => ⟨S1, .i32⟩
  | .hbm, ⟨108, _⟩ => ⟨S1, .i32⟩
  | .hbm, ⟨109, _⟩ => ⟨S_, .i32⟩
  | .hbm, ⟨110, _⟩ => ⟨S1, .i32⟩
  | .hbm, ⟨111, _⟩ => ⟨S1, .i1⟩
  | .hbm, ⟨112, _⟩ => ⟨S1, .i1⟩
  | .hbm, ⟨113, _⟩ => ⟨S_, .i32⟩
  | .hbm, ⟨114, _⟩ => ⟨S1, .i32⟩
  | .hbm, ⟨115, _⟩ => ⟨S1, .i32⟩
  | .hbm, ⟨116, _⟩ => ⟨S1, .i32⟩
  | .hbm, ⟨117, _⟩ => ⟨S162, .i32⟩
  | .hbm, ⟨118, _⟩ => ⟨S162, .i1⟩
  | .hbm, ⟨119, _⟩ => ⟨S162x1x1, .i1⟩
  | .hbm, ⟨120, _⟩ => ⟨S_, .f32⟩
  | .hbm, ⟨121, _⟩ => ⟨S_, .f32⟩
  | .hbm, ⟨122, _⟩ => ⟨S162x512x1024, .i1⟩
  | .hbm, ⟨123, _⟩ => ⟨S162x512x1024, .f32⟩
  | .hbm, ⟨124, _⟩ => ⟨S162x512x1024, .f32⟩
  | .hbm, ⟨125, _⟩ => ⟨S82944x1024, .f32⟩
  | _, _ => ⟨S82944x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c_6 : Ref sig .tc := ⟨.hbm, 53, rfl⟩
abbrev main_v23 : Ref sig .tc := ⟨.hbm, 54, rfl⟩
abbrev main_v24 : Ref sig .tc := ⟨.hbm, 55, rfl⟩
abbrev main_c_7 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_8 : Ref sig .tc := ⟨.hbm, 65, rfl⟩
abbrev main_v33 : Ref sig .tc := ⟨.hbm, 66, rfl⟩
abbrev main_v34 : Ref sig .tc := ⟨.hbm, 67, rfl⟩
abbrev main_c_9 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_call2_v0 : Ref sig .tc := ⟨.hbm, 75, rfl⟩
abbrev main_call2_v1 : Ref sig .tc := ⟨.hbm, 76, rfl⟩
abbrev main_call2_cst : Ref sig .tc := ⟨.hbm, 77, rfl⟩
abbrev main_call2_v2 : Ref sig .tc := ⟨.hbm, 78, rfl⟩
abbrev main_call2_v3 : Ref sig .tc := ⟨.hbm, 79, rfl⟩
abbrev main_call2_cst_0 : Ref sig .tc := ⟨.hbm, 80, rfl⟩
abbrev main_call2_v4 : Ref sig .tc := ⟨.hbm, 81, rfl⟩
abbrev main_call2_v5 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_c_10 : Ref sig .tc := ⟨.hbm, 87, rfl⟩
abbrev main_v45 : Ref sig .tc := ⟨.hbm, 88, rfl⟩
abbrev main_v46 : Ref sig .tc := ⟨.hbm, 89, rfl⟩
abbrev main_c_11 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_c_12 : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_v6 : Ref sig .tc := ⟨.hbm, 106, rfl⟩
abbrev main_call3_v7 : Ref sig .tc := ⟨.hbm, 107, rfl⟩
abbrev main_call3_v8 : Ref sig .tc := ⟨.hbm, 108, rfl⟩
abbrev main_call3_c : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_c_0 : Ref sig .tc := ⟨.hbm, 113, rfl⟩
abbrev main_call3_v12 : Ref sig .tc := ⟨.hbm, 114, rfl⟩
abbrev main_call3_v13 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_cst : Ref sig .tc := ⟨.hbm, 120, rfl⟩
abbrev main_call4_v0 : Ref sig .tc := ⟨.hbm, 121, rfl⟩
abbrev main_call4_v1 : Ref sig .tc := ⟨.hbm, 122, rfl⟩
abbrev main_call4_v2 : Ref sig .tc := ⟨.hbm, 123, rfl⟩
abbrev main_v59 : Ref sig .tc := ⟨.hbm, 124, rfl⟩
abbrev main_v60 : Ref sig .tc := ⟨.hbm, 125, rfl⟩

abbrev nD : Nat := 1
abbrev τ : Topo := Topo.v7x

variable {F : FTy → Type} [FloatOps F]
-- ==== Kernel4.lean ====
abbrev S82944x1024 : Shape := ⟨2, ![82944, 1024]⟩
abbrev S32 : Shape := ⟨1, ![32]⟩
abbrev S4x32x1024x512 : Shape := ⟨4, ![4, 32, 1024, 512]⟩
abbrev S4x32x512x1024 : Shape := ⟨4, ![4, 32, 512, 1024]⟩
abbrev S_ : Shape := ⟨0, ![]⟩
abbrev S162 : Shape := ⟨1, ![162]⟩
abbrev S1x32 : Shape := ⟨2, ![1, 32]⟩
abbrev S162x1 : Shape := ⟨2, ![162, 1]⟩
abbrev S162x32 : Shape := ⟨2, ![162, 32]⟩
abbrev S1 : Shape := ⟨1, ![1]⟩
abbrev S512x1024 : Shape := ⟨2, ![512, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x512 : Shape := ⟨2, ![512, 512]⟩

abbrev nBuf : Space → Nat
  | .hbm => 68
  | .vmem => 13
  | .smem => 2
  | _ => 0

abbrev bufTy : (tb : Table) → Fin (tcTables nBuf tb) → BufTy
  | .hbm, ⟨0, _⟩ => ⟨S82944x1024, .f32⟩
  | .hbm, ⟨1, _⟩ => ⟨S32, .i32⟩
  | .hbm, ⟨2, _⟩ => ⟨S4x32x1024x512, .f32⟩
  | .hbm, ⟨3, _⟩ => ⟨S4x32x1024x512, .f32⟩
  | .hbm, ⟨4, _⟩ => ⟨S4x32x512x1024, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S32, .i32⟩
  | .hbm, ⟨35, _⟩ => ⟨S162, .i32⟩
  | .hbm, ⟨36, _⟩ => ⟨S_, .i32⟩
  | .hbm, ⟨37, _⟩ => ⟨S162, .i32⟩
  | .hbm, ⟨38, _⟩ => ⟨S162, .i32⟩
  | .hbm, ⟨39, _⟩ => ⟨S1x32, .i32⟩
  | .hbm, ⟨40, _⟩ => ⟨S162x1, .i32⟩
  | .hbm, ⟨41, _⟩ => ⟨S162x32, .i32⟩
  | .hbm, ⟨42, _⟩ => ⟨S162x32, .i32⟩
  | .hbm, ⟨43, _⟩ => ⟨S162x32, .i1⟩
  | .hbm, ⟨44, _⟩ => ⟨S162x32, .i32⟩
  | .hbm, ⟨45, _⟩ => ⟨S_, .i32⟩
  | .hbm, ⟨46, _⟩ => ⟨S162, .i32⟩
  | .hbm, ⟨47, _⟩ => ⟨S_, .i32⟩
  | .hbm, ⟨48, _⟩ => ⟨S162, .i32⟩
  | .hbm, ⟨49, _⟩ => ⟨S1, .i32⟩
  | .hbm, ⟨50, _⟩ => ⟨S_, .i32⟩
  | .hbm, ⟨51, _⟩ => ⟨S_, .i32⟩
  | .hbm, ⟨52, _⟩ => ⟨S1, .i32⟩
  | .hbm, ⟨53, _⟩ => ⟨S1, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S1, .i1⟩
  | .hbm, ⟨58, _⟩ => ⟨S1, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S1, .i1⟩
  | .hbm, ⟨63, _⟩ => ⟨S1, .i1⟩
  | .hbm, ⟨64, _⟩ => ⟨S_, .i32⟩
  | .hbm, ⟨65, _⟩ => ⟨S1, .i32⟩
  | .hbm, ⟨66, _⟩ => ⟨S1, .i32⟩
  | .hbm, ⟨67, _⟩ => ⟨S82944x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S512x1024, .f32⟩
  | .local _ .vmem, ⟨9, _⟩ => ⟨S512x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S162, .i32⟩
  | .local _ .smem, ⟨1, _⟩ => ⟨S1, .i32⟩
  | _, _ => ⟨S82944x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v20 : Ref sig .tc := ⟨.hbm, 49, rfl⟩
abbrev main_c_6 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v22 : Ref sig .tc := ⟨.hbm, 67, rfl⟩
abbrev main_v19 : Ref sig .tc := ⟨.smem, 0, rfl⟩
abbrev main_v21 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![162], ![false]⟩

abbrev pre0 : Pipeline.Prefetch sig := ⟨2, ![main_v19.idx, main_v21.idx], fun | 0 => main_v19.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c2_i32 : BitVec 32 := 2#32
  let c0_i32 : BitVec 32 := 0#32
  let c0_i32_0 : BitVec 32 := 0#32
  let c0_i32_1 : BitVec 32 := 0#32
  ![c2_i32.toNat, v1.toNat, c0_i32.toNat, c0_i32_0.toNat]

def cc0_transform_2 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c2_i32 : BitVec 32 := 2#32
  let c0_i32 : BitVec 32 := 0#32
  let c0_i32_0 : BitVec 32 := 0#32
  let c0_i32_1 : BitVec 32 := 0#32
  ![c2_i32.toNat, v1.toNat, c0_i32.toNat, c0_i32_0.toNat]

def cc0_transform_3 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c2_i32 : BitVec 32 := 2#32
  let c0_i32 : BitVec 32 := 0#32
  let c0_i32_0 : BitVec 32 := 0#32
  let c0_i32_1 : BitVec 32 := 0#32
  ![c2_i32.toNat, v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel4Ideal.lean ====
abbrev S82944x1024 : Shape := ⟨2, ![82944, 1024]⟩
abbrev S32 : Shape := ⟨1, ![32]⟩
abbrev S4x32x1024x512 : Shape := ⟨4, ![4, 32, 1024, 512]⟩
abbrev S4x32x512x1024 : Shape := ⟨4, ![4, 32, 512, 1024]⟩
abbrev S_ : Shape := ⟨0, ![]⟩
abbrev S162 : Shape := ⟨1, ![162]⟩
abbrev S1x32 : Shape := ⟨2, ![1, 32]⟩
abbrev S162x1 : Shape := ⟨2, ![162, 1]⟩
abbrev S162x32 : Shape := ⟨2, ![162, 32]⟩
abbrev S1 : Shape := ⟨1, ![1]⟩
abbrev S512x1024 : Shape := ⟨2, ![512, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x512 : Shape := ⟨2, ![512, 512]⟩

abbrev nBuf : Space → Nat
  | .hbm => 68
  | .vmem => 13
  | .smem => 2
  | _ => 0

abbrev bufTy : (tb : Table) → Fin (tcTables nBuf tb) → BufTy
  | .hbm, ⟨0, _⟩ => ⟨S82944x1024, .f32⟩
  | .hbm, ⟨1, _⟩ => ⟨S32, .i32⟩
  | .hbm, ⟨2, _⟩ => ⟨S4x32x1024x512, .f32⟩
  | .hbm, ⟨3, _⟩ => ⟨S4x32x1024x512, .f32⟩
  | .hbm, ⟨4, _⟩ => ⟨S4x32x512x1024, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S32, .i32⟩
  | .hbm, ⟨35, _⟩ => ⟨S162, .i32⟩
  | .hbm, ⟨36, _⟩ => ⟨S_, .i32⟩
  | .hbm, ⟨37, _⟩ => ⟨S162, .i32⟩
  | .hbm, ⟨38, _⟩ => ⟨S162, .i32⟩
  | .hbm, ⟨39, _⟩ => ⟨S1x32, .i32⟩
  | .hbm, ⟨40, _⟩ => ⟨S162x1, .i32⟩
  | .hbm, ⟨41, _⟩ => ⟨S162x32, .i32⟩
  | .hbm, ⟨42, _⟩ => ⟨S162x32, .i32⟩
  | .hbm, ⟨43, _⟩ => ⟨S162x32, .i1⟩
  | .hbm, ⟨44, _⟩ => ⟨S162x32, .i32⟩
  | .hbm, ⟨45, _⟩ => ⟨S_, .i32⟩
  | .hbm, ⟨46, _⟩ => ⟨S162, .i32⟩
  | .hbm, ⟨47, _⟩ => ⟨S_, .i32⟩
  | .hbm, ⟨48, _⟩ => ⟨S162, .i32⟩
  | .hbm, ⟨49, _⟩ => ⟨S1, .i32⟩
  | .hbm, ⟨50, _⟩ => ⟨S_, .i32⟩
  | .hbm, ⟨51, _⟩ => ⟨S_, .i32⟩
  | .hbm, ⟨52, _⟩ => ⟨S1, .i32⟩
  | .hbm, ⟨53, _⟩ => ⟨S1, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S1, .i1⟩
  | .hbm, ⟨58, _⟩ => ⟨S1, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S1, .i1⟩
  | .hbm, ⟨63, _⟩ => ⟨S1, .i1⟩
  | .hbm, ⟨64, _⟩ => ⟨S_, .i32⟩
  | .hbm, ⟨65, _⟩ => ⟨S1, .i32⟩
  | .hbm, ⟨66, _⟩ => ⟨S1, .i32⟩
  | .hbm, ⟨67, _⟩ => ⟨S82944x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S512x1024, .f32⟩
  | .local _ .vmem, ⟨9, _⟩ => ⟨S512x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S162, .i32⟩
  | .local _ .smem, ⟨1, _⟩ => ⟨S1, .i32⟩
  | _, _ => ⟨S82944x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v20 : Ref sig .tc := ⟨.hbm, 49, rfl⟩
abbrev main_c_6 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v22 : Ref sig .tc := ⟨.hbm, 67, rfl⟩
abbrev main_v19 : Ref sig .tc := ⟨.smem, 0, rfl⟩
abbrev main_v21 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![162], ![false]⟩

abbrev pre0 : Pipeline.Prefetch sig := ⟨2, ![main_v19.idx, main_v21.idx], fun | 0 => main_v19.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c2_i32 : BitVec 32 := 2#32
  let c0_i32 : BitVec 32 := 0#32
  let c0_i32_0 : BitVec 32 := 0#32
  let c0_i32_1 : BitVec 32 := 0#32
  ![c2_i32.toNat, v1.toNat, c0_i32.toNat, c0_i32_0.toNat]

def cc0_transform_2 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c2_i32 : BitVec 32 := 2#32
  let c0_i32 : BitVec 32 := 0#32
  let c0_i32_0 : BitVec 32 := 0#32
  let c0_i32_1 : BitVec 32 := 0#32
  ![c2_i32.toNat, v1.toNat, c0_i32.toNat, c0_i32_0.toNat]

def cc0_transform_3 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c2_i32 : BitVec 32 := 2#32
  let c0_i32 : BitVec 32 := 0#32
  let c0_i32_0 : BitVec 32 := 0#32
  let c0_i32_1 : BitVec 32 := 0#32
  ![c2_i32.toNat, v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S82944x1024 : Shape := ⟨2, ![82944, 1024]⟩
abbrev S32 : Shape := ⟨1, ![32]⟩
abbrev S4x32x1024x512 : Shape := ⟨4, ![4, 32, 1024, 512]⟩
abbrev S4x32x512x1024 : Shape := ⟨4, ![4, 32, 512, 1024]⟩
abbrev S_ : Shape := ⟨0, ![]⟩
abbrev S162 : Shape := ⟨1, ![162]⟩
abbrev S1x32 : Shape := ⟨2, ![1, 32]⟩
abbrev S162x1 : Shape := ⟨2, ![162, 1]⟩
abbrev S162x32 : Shape := ⟨2, ![162, 32]⟩
abbrev S162x512x1024 : Shape := ⟨3, ![162, 512, 1024]⟩
abbrev S1x32x1024x512 : Shape := ⟨4, ![1, 32, 1024, 512]⟩
abbrev S32x1024x512 : Shape := ⟨3, ![32, 1024, 512]⟩
abbrev S162x1024x512 : Shape := ⟨3, ![162, 1024, 512]⟩
abbrev S162x512x512 : Shape := ⟨3, ![162, 512, 512]⟩
abbrev S1x32x512x1024 : Shape := ⟨4, ![1, 32, 512, 1024]⟩
abbrev S32x512x1024 : Shape := ⟨3, ![32, 512, 1024]⟩
abbrev S1 : Shape := ⟨1, ![1]⟩
abbrev S162x1x1 : Shape := ⟨3, ![162, 1, 1]⟩

abbrev nBuf : Space → Nat
  | .hbm => 126
  | .vmem => 0
  | .smem => 0
  | _ => 0

abbrev bufTy : (tb : Table) → Fin (tcTables nBuf tb) → BufTy
  | .hbm, ⟨0, _⟩ => ⟨S82944x1024, .f32⟩
  | .hbm, ⟨1, _⟩ => ⟨S32, .i32⟩
  | .hbm, ⟨2, _⟩ => ⟨S4x32x1024x512, .f32⟩
  | .hbm, ⟨3, _⟩ => ⟨S4x32x1024x512, .f32⟩
  | .hbm, ⟨4, _⟩ => ⟨S4x32x512x1024, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S32, .i32⟩
  | .hbm, ⟨35, _⟩ => ⟨S162, .i32⟩
  | .hbm, ⟨36, _⟩ => ⟨S_, .i32⟩
  | .hbm, ⟨37, _⟩ => ⟨S162, .i32⟩
  | .hbm, ⟨38, _⟩ => ⟨S162, .i32⟩
  | .hbm, ⟨39, _⟩ => ⟨S1x32, .i32⟩
  | .hbm, ⟨40, _⟩ => ⟨S162x1, .i32⟩
  | .hbm, ⟨41, _⟩ => ⟨S162x32, .i32⟩
  | .hbm, ⟨42, _⟩ => ⟨S162x32, .i32⟩
  | .hbm, ⟨43, _⟩ => ⟨S162x32, .i1⟩
  | .hbm, ⟨44, _⟩ => ⟨S162x32, .i32⟩
  | .hbm, ⟨45, _⟩ => ⟨S_, .i32⟩
  | .hbm, ⟨46, _⟩ => ⟨S162, .i32⟩
  | .hbm, ⟨47, _⟩ => ⟨S_, .i32⟩
  | .hbm, ⟨48, _⟩ => ⟨S162, .i32⟩
  | .hbm, ⟨49, _⟩ => ⟨S162, .i32⟩
  | .hbm, ⟨50, _⟩ => ⟨S162x512x1024, .f32⟩
  | .hbm, ⟨51, _⟩ => ⟨S1x32x1024x512, .f32⟩
  | .hbm, ⟨52, _⟩ => ⟨S32x1024x512, .f32⟩
  | .hbm, ⟨53, _⟩ => ⟨S_, .i32⟩
  | .hbm, ⟨54, _⟩ => ⟨S162, .i32⟩
  | .hbm, ⟨55, _⟩ => ⟨S162, .i1⟩
  | .hbm, ⟨56, _⟩ => ⟨S_, .i32⟩
  | .hbm, ⟨57, _⟩ => ⟨S162, .i32⟩
  | .hbm, ⟨58, _⟩ => ⟨S162, .i32⟩
  | .hbm, ⟨59, _⟩ => ⟨S162, .i32⟩
  | .hbm, ⟨60, _⟩ => ⟨S162x1, .i32⟩
  | .hbm, ⟨61, _⟩ => ⟨S162x1024x512, .f32⟩
  | .hbm, ⟨62, _⟩ => ⟨S162x512x512, .f32⟩
  | .hbm, ⟨63, _⟩ => ⟨S1x32x1024x512, .f32⟩
  | .hbm, ⟨64, _⟩ => ⟨S32x1024x512, .f32⟩
  | .hbm, ⟨65, _⟩ => ⟨S_, .i32⟩
  | .hbm, ⟨66, _⟩ => ⟨S162, .i32⟩
  | .hbm, ⟨67, _⟩ => ⟨S162, .i1⟩
  | .hbm, ⟨68, _⟩ => ⟨S_, .i32⟩
  | .hbm, ⟨69, _⟩ => ⟨S162, .i32⟩
  | .hbm, ⟨70, _⟩ => ⟨S162, .i32⟩
  | .hbm, ⟨71, _⟩ => ⟨S162, .i32⟩
  | .hbm, ⟨72, _⟩ => ⟨S162x1, .i32⟩
  | .hbm, ⟨73, _⟩ => ⟨S162x1024x512, .f32⟩
  | .hbm, ⟨74, _⟩ => ⟨S162x512x512, .f32⟩
  | .hbm, ⟨75, _⟩ => ⟨S162x512x512, .f32⟩
  | .hbm, ⟨76, _⟩ => ⟨S162x512x512, .f32⟩
  | .hbm, ⟨77, _⟩ => ⟨S_, .f32⟩
  | .hbm, ⟨78, _⟩ => ⟨S162x512x512, .f32⟩
  | .hbm, ⟨79, _⟩ => ⟨S162x512x512, .f32⟩
  | .hbm, ⟨80, _⟩ => ⟨S_, .f32⟩
  | .hbm, ⟨81, _⟩ => ⟨S162x512x512, .f32⟩
  | .hbm, ⟨82, _⟩ => ⟨S162x512x512, .f32⟩
  | .hbm, ⟨83, _⟩ => ⟨S162x512x512, .f32⟩
  | .hbm, ⟨84, _⟩ => ⟨S162x512x512, .f32⟩
  | .hbm, ⟨85, _⟩ => ⟨S1x32x512x1024, .f32⟩
  | .hbm, ⟨86, _⟩ => ⟨S32x512x1024, .f32⟩
  | .hbm, ⟨87, _⟩ => ⟨S_, .i32⟩
  | .hbm, ⟨88, _⟩ => ⟨S162, .i32⟩
  | .hbm, ⟨89, _⟩ => ⟨S162, .i1⟩
  | .hbm, ⟨90, _⟩ => ⟨S_, .i32⟩
  | .hbm, ⟨91, _⟩ => ⟨S162, .i32⟩
  | .hbm, ⟨92, _⟩ => ⟨S162, .i32⟩
  | .hbm, ⟨93, _⟩ => ⟨S162, .i32⟩
  | .hbm, ⟨94, _⟩ => ⟨S162x1, .i32⟩
  | .hbm, ⟨95, _⟩ => ⟨S162x512x1024, .f32⟩
  | .hbm, ⟨96, _⟩ => ⟨S162x512x1024, .f32⟩
  | .hbm, ⟨97, _⟩ => ⟨S162, .i32⟩
  | .hbm, ⟨98, _⟩ => ⟨S1, .i32⟩
  | .hbm, ⟨99, _⟩ => ⟨S_, .i32⟩
  | .hbm, ⟨100, _⟩ => ⟨S_, .i32⟩
  | .hbm, ⟨101, _⟩ => ⟨S1, .i32⟩
  | .hbm, ⟨102, _⟩ => ⟨S1, .i32⟩
  | .hbm, ⟨103, _⟩ => ⟨S1, .i32⟩
  | .hbm, ⟨104, _⟩ => ⟨S_, .i32⟩
  | .hbm, ⟨105, _⟩ => ⟨S1, .i32⟩
  | .hbm, ⟨106, _⟩ => ⟨S1, .i1⟩
  | .hbm, ⟨107, _⟩ => ⟨S1, .i32⟩
  | .hbm, ⟨108, _⟩ => ⟨S1, .i32⟩
  | .hbm, ⟨109, _⟩ => ⟨S_, .i32⟩
  | .hbm, ⟨110, _⟩ => ⟨S1, .i32⟩
  | .hbm, ⟨111, _⟩ => ⟨S1, .i1⟩
  | .hbm, ⟨112, _⟩ => ⟨S1, .i1⟩
  | .hbm, ⟨113, _⟩ => ⟨S_, .i32⟩
  | .hbm, ⟨114, _⟩ => ⟨S1, .i32⟩
  | .hbm, ⟨115, _⟩ => ⟨S1, .i32⟩
  | .hbm, ⟨116, _⟩ => ⟨S1, .i32⟩
  | .hbm, ⟨117, _⟩ => ⟨S162, .i32⟩
  | .hbm, ⟨118, _⟩ => ⟨S162, .i1⟩
  | .hbm, ⟨119, _⟩ => ⟨S162x1x1, .i1⟩
  | .hbm, ⟨120, _⟩ => ⟨S_, .f32⟩
  | .hbm, ⟨121, _⟩ => ⟨S_, .f32⟩
  | .hbm, ⟨122, _⟩ => ⟨S162x512x1024, .i1⟩
  | .hbm, ⟨123, _⟩ => ⟨S162x512x1024, .f32⟩
  | .hbm, ⟨124, _⟩ => ⟨S162x512x1024, .f32⟩
  | .hbm, ⟨125, _⟩ => ⟨S82944x1024, .f32⟩
  | _, _ => ⟨S82944x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c_6 : Ref sig .tc := ⟨.hbm, 53, rfl⟩
abbrev main_v23 : Ref sig .tc := ⟨.hbm, 54, rfl⟩
abbrev main_v24 : Ref sig .tc := ⟨.hbm, 55, rfl⟩
abbrev main_c_7 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_8 : Ref sig .tc := ⟨.hbm, 65, rfl⟩
abbrev main_v33 : Ref sig .tc := ⟨.hbm, 66, rfl⟩
abbrev main_v34 : Ref sig .tc := ⟨.hbm, 67, rfl⟩
abbrev main_c_9 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_call2_v0 : Ref sig .tc := ⟨.hbm, 75, rfl⟩
abbrev main_call2_v1 : Ref sig .tc := ⟨.hbm, 76, rfl⟩
abbrev main_call2_cst : Ref sig .tc := ⟨.hbm, 77, rfl⟩
abbrev main_call2_v2 : Ref sig .tc := ⟨.hbm, 78, rfl⟩
abbrev main_call2_v3 : Ref sig .tc := ⟨.hbm, 79, rfl⟩
abbrev main_call2_cst_0 : Ref sig .tc := ⟨.hbm, 80, rfl⟩
abbrev main_call2_v4 : Ref sig .tc := ⟨.hbm, 81, rfl⟩
abbrev main_call2_v5 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_c_10 : Ref sig .tc := ⟨.hbm, 87, rfl⟩
abbrev main_v45 : Ref sig .tc := ⟨.hbm, 88, rfl⟩
abbrev main_v46 : Ref sig .tc := ⟨.hbm, 89, rfl⟩
abbrev main_c_11 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_c_12 : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_v6 : Ref sig .tc := ⟨.hbm, 106, rfl⟩
abbrev main_call3_v7 : Ref sig .tc := ⟨.hbm, 107, rfl⟩
abbrev main_call3_v8 : Ref sig .tc := ⟨.hbm, 108, rfl⟩
abbrev main_call3_c : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_c_0 : Ref sig .tc := ⟨.hbm, 113, rfl⟩
abbrev main_call3_v12 : Ref sig .tc := ⟨.hbm, 114, rfl⟩
abbrev main_call3_v13 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_cst : Ref sig .tc := ⟨.hbm, 120, rfl⟩
abbrev main_call4_v0 : Ref sig .tc := ⟨.hbm, 121, rfl⟩
abbrev main_call4_v1 : Ref sig .tc := ⟨.hbm, 122, rfl⟩
abbrev main_call4_v2 : Ref sig .tc := ⟨.hbm, 123, rfl⟩
abbrev main_v59 : Ref sig .tc := ⟨.hbm, 124, rfl⟩
abbrev main_v60 : Ref sig .tc := ⟨.hbm, 125, rfl⟩

abbrev nD : Nat := 1
abbrev τ : Topo := Topo.v7x

variable {F : FTy → Type} [FloatOps F]
-- ==== Kernel5.lean ====
abbrev S82944x1024 : Shape := ⟨2, ![82944, 1024]⟩
abbrev S32 : Shape := ⟨1, ![32]⟩
abbrev S4x32x1024x512 : Shape := ⟨4, ![4, 32, 1024, 512]⟩
abbrev S4x32x512x1024 : Shape := ⟨4, ![4, 32, 512, 1024]⟩
abbrev S_ : Shape := ⟨0, ![]⟩
abbrev S162 : Shape := ⟨1, ![162]⟩
abbrev S1x32 : Shape := ⟨2, ![1, 32]⟩
abbrev S162x1 : Shape := ⟨2, ![162, 1]⟩
abbrev S162x32 : Shape := ⟨2, ![162, 32]⟩
abbrev S1 : Shape := ⟨1, ![1]⟩
abbrev S512x1024 : Shape := ⟨2, ![512, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x512 : Shape := ⟨2, ![512, 512]⟩

abbrev nBuf : Space → Nat
  | .hbm => 68
  | .vmem => 13
  | .smem => 2
  | _ => 0

abbrev bufTy : (tb : Table) → Fin (tcTables nBuf tb) → BufTy
  | .hbm, ⟨0, _⟩ => ⟨S82944x1024, .f32⟩
  | .hbm, ⟨1, _⟩ => ⟨S32, .i32⟩
  | .hbm, ⟨2, _⟩ => ⟨S4x32x1024x512, .f32⟩
  | .hbm, ⟨3, _⟩ => ⟨S4x32x1024x512, .f32⟩
  | .hbm, ⟨4, _⟩ => ⟨S4x32x512x1024, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S32, .i32⟩
  | .hbm, ⟨35, _⟩ => ⟨S162, .i32⟩
  | .hbm, ⟨36, _⟩ => ⟨S_, .i32⟩
  | .hbm, ⟨37, _⟩ => ⟨S162, .i32⟩
  | .hbm, ⟨38, _⟩ => ⟨S162, .i32⟩
  | .hbm, ⟨39, _⟩ => ⟨S1x32, .i32⟩
  | .hbm, ⟨40, _⟩ => ⟨S162x1, .i32⟩
  | .hbm, ⟨41, _⟩ => ⟨S162x32, .i32⟩
  | .hbm, ⟨42, _⟩ => ⟨S162x32, .i32⟩
  | .hbm, ⟨43, _⟩ => ⟨S162x32, .i1⟩
  | .hbm, ⟨44, _⟩ => ⟨S162x32, .i32⟩
  | .hbm, ⟨45, _⟩ => ⟨S_, .i32⟩
  | .hbm, ⟨46, _⟩ => ⟨S162, .i32⟩
  | .hbm, ⟨47, _⟩ => ⟨S_, .i32⟩
  | .hbm, ⟨48, _⟩ => ⟨S162, .i32⟩
  | .hbm, ⟨49, _⟩ => ⟨S1, .i32⟩
  | .hbm, ⟨50, _⟩ => ⟨S_, .i32⟩
  | .hbm, ⟨51, _⟩ => ⟨S_, .i32⟩
  | .hbm, ⟨52, _⟩ => ⟨S1, .i32⟩
  | .hbm, ⟨53, _⟩ => ⟨S1, .i32⟩
  | .hbm, ⟨54, _⟩ => ⟨S1, .i32⟩
  | .hbm, ⟨55, _⟩ => ⟨S_, .i32⟩
  | .hbm, ⟨56, _⟩ => ⟨S1, .i32⟩
  | .hbm, ⟨57, _⟩ => ⟨S1, .i1⟩
  | .hbm, ⟨58, _⟩ => ⟨S1, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S1, .i1⟩
  | .hbm, ⟨63, _⟩ => ⟨S1, .i1⟩
  | .hbm, ⟨64, _⟩ => ⟨S_, .i32⟩
  | .hbm, ⟨65, _⟩ => ⟨S1, .i32⟩
  | .hbm, ⟨66, _⟩ => ⟨S1, .i32⟩
  | .hbm, ⟨67, _⟩ => ⟨S82944x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S512x1024, .f32⟩
  | .local _ .vmem, ⟨9, _⟩ => ⟨S512x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S162, .i32⟩
  | .local _ .smem, ⟨1, _⟩ => ⟨S1, .i32⟩
  | _, _ => ⟨S82944x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v20 : Ref sig .tc := ⟨.hbm, 49, rfl⟩
abbrev main_c_6 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v22 : Ref sig .tc := ⟨.hbm, 67, rfl⟩
abbrev main_v19 : Ref sig .tc := ⟨.smem, 0, rfl⟩
abbrev main_v21 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![162], ![false]⟩

abbrev pre0 : Pipeline.Prefetch sig := ⟨2, ![main_v19.idx, main_v21.idx], fun | 0 => main_v19.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let v2 : Index := Scalar.indexCast v1
  ![v2.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_2 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_3 (k0_off1_inb : ∀ i : grid0.Coords, ∀ a, (k0_off1 i) a + S1.size a ≤ S162.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S162) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S82944x1024 : Shape := ⟨2, ![82944, 1024]⟩
abbrev S32 : Shape := ⟨1, ![32]⟩
abbrev S4x32x1024x512 : Shape := ⟨4, ![4, 32, 1024, 512]⟩
abbrev S4x32x512x1024 : Shape := ⟨4, ![4, 32, 512, 1024]⟩
abbrev S_ : Shape := ⟨0, ![]⟩
abbrev S162 : Shape := ⟨1, ![162]⟩
abbrev S1x32 : Shape := ⟨2, ![1, 32]⟩
abbrev S162x1 : Shape := ⟨2, ![162, 1]⟩
abbrev S162x32 : Shape := ⟨2, ![162, 32]⟩
abbrev S162x512x1024 : Shape := ⟨3, ![162, 512, 1024]⟩
abbrev S1x32x1024x512 : Shape := ⟨4, ![1, 32, 1024, 512]⟩
abbrev S32x1024x512 : Shape := ⟨3, ![32, 1024, 512]⟩
abbrev S162x1024x512 : Shape := ⟨3, ![162, 1024, 512]⟩
abbrev S162x512x512 : Shape := ⟨3, ![162, 512, 512]⟩
abbrev S1x32x512x1024 : Shape := ⟨4, ![1, 32, 512, 1024]⟩
abbrev S32x512x1024 : Shape := ⟨3, ![32, 512, 1024]⟩
abbrev S1 : Shape := ⟨1, ![1]⟩
abbrev S162x1x1 : Shape := ⟨3, ![162, 1, 1]⟩

abbrev nBuf : Space → Nat
  | .hbm => 126
  | .vmem => 0
  | .smem => 0
  | _ => 0

abbrev bufTy : (tb : Table) → Fin (tcTables nBuf tb) → BufTy
  | .hbm, ⟨0, _⟩ => ⟨S82944x1024, .f32⟩
  | .hbm, ⟨1, _⟩ => ⟨S32, .i32⟩
  | .hbm, ⟨2, _⟩ => ⟨S4x32x1024x512, .f32⟩
  | .hbm, ⟨3, _⟩ => ⟨S4x32x1024x512, .f32⟩
  | .hbm, ⟨4, _⟩ => ⟨S4x32x512x1024, .f32⟩
  | .hbm, ⟨5, _⟩ => ⟨S_, .i32⟩
  | .hbm, ⟨6, _⟩ => ⟨S32, .i32⟩
  | .hbm, ⟨7, _⟩ => ⟨S32, .i32⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S_, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S32, .i32⟩
  | .hbm, ⟨18, _⟩ => ⟨S32, .i1⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i1⟩
  | .hbm, ⟨25, _⟩ => ⟨S_, .i32⟩
  | .hbm, ⟨26, _⟩ => ⟨S32, .i32⟩
  | .hbm, ⟨27, _⟩ => ⟨S32, .i32⟩
  | .hbm, ⟨28, _⟩ => ⟨S32, .i32⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S_, .i32⟩
  | .hbm, ⟨33, _⟩ => ⟨S_, .i32⟩
  | .hbm, ⟨34, _⟩ => ⟨S32, .i32⟩
  | .hbm, ⟨35, _⟩ => ⟨S162, .i32⟩
  | .hbm, ⟨36, _⟩ => ⟨S_, .i32⟩
  | .hbm, ⟨37, _⟩ => ⟨S162, .i32⟩
  | .hbm, ⟨38, _⟩ => ⟨S162, .i32⟩
  | .hbm, ⟨39, _⟩ => ⟨S1x32, .i32⟩
  | .hbm, ⟨40, _⟩ => ⟨S162x1, .i32⟩
  | .hbm, ⟨41, _⟩ => ⟨S162x32, .i32⟩
  | .hbm, ⟨42, _⟩ => ⟨S162x32, .i32⟩
  | .hbm, ⟨43, _⟩ => ⟨S162x32, .i1⟩
  | .hbm, ⟨44, _⟩ => ⟨S162x32, .i32⟩
  | .hbm, ⟨45, _⟩ => ⟨S_, .i32⟩
  | .hbm, ⟨46, _⟩ => ⟨S162, .i32⟩
  | .hbm, ⟨47, _⟩ => ⟨S_, .i32⟩
  | .hbm, ⟨48, _⟩ => ⟨S162, .i32⟩
  | .hbm, ⟨49, _⟩ => ⟨S162, .i32⟩
  | .hbm, ⟨50, _⟩ => ⟨S162x512x1024, .f32⟩
  | .hbm, ⟨51, _⟩ => ⟨S1x32x1024x512, .f32⟩
  | .hbm, ⟨52, _⟩ => ⟨S32x1024x512, .f32⟩
  | .hbm, ⟨53, _⟩ => ⟨S_, .i32⟩
  | .hbm, ⟨54, _⟩ => ⟨S162, .i32⟩
  | .hbm, ⟨55, _⟩ => ⟨S162, .i1⟩
  | .hbm, ⟨56, _⟩ => ⟨S_, .i32⟩
  | .hbm, ⟨57, _⟩ => ⟨S162, .i32⟩
  | .hbm, ⟨58, _⟩ => ⟨S162, .i32⟩
  | .hbm, ⟨59, _⟩ => ⟨S162, .i32⟩
  | .hbm, ⟨60, _⟩ => ⟨S162x1, .i32⟩
  | .hbm, ⟨61, _⟩ => ⟨S162x1024x512, .f32⟩
  | .hbm, ⟨62, _⟩ => ⟨S162x512x512, .f32⟩
  | .hbm, ⟨63, _⟩ => ⟨S1x32x1024x512, .f32⟩
  | .hbm, ⟨64, _⟩ => ⟨S32x1024x512, .f32⟩
  | .hbm, ⟨65, _⟩ => ⟨S_, .i32⟩
  | .hbm, ⟨66, _⟩ => ⟨S162, .i32⟩
  | .hbm, ⟨67, _⟩ => ⟨S162, .i1⟩
  | .hbm, ⟨68, _⟩ => ⟨S_, .i32⟩
  | .hbm, ⟨69, _⟩ => ⟨S162, .i32⟩
  | .hbm, ⟨70, _⟩ => ⟨S162, .i32⟩
  | .hbm, ⟨71, _⟩ => ⟨S162, .i32⟩
  | .hbm, ⟨72, _⟩ => ⟨S162x1, .i32⟩
  | .hbm, ⟨73, _⟩ => ⟨S162x1024x512, .f32⟩
  | .hbm, ⟨74, _⟩ => ⟨S162x512x512, .f32⟩
  | .hbm, ⟨75, _⟩ => ⟨S162x512x512, .f32⟩
  | .hbm, ⟨76, _⟩ => ⟨S162x512x512, .f32⟩
  | .hbm, ⟨77, _⟩ => ⟨S_, .f32⟩
  | .hbm, ⟨78, _⟩ => ⟨S162x512x512, .f32⟩
  | .hbm, ⟨79, _⟩ => ⟨S162x512x512, .f32⟩
  | .hbm, ⟨80, _⟩ => ⟨S_, .f32⟩
  | .hbm, ⟨81, _⟩ => ⟨S162x512x512, .f32⟩
  | .hbm, ⟨82, _⟩ => ⟨S162x512x512, .f32⟩
  | .hbm, ⟨83, _⟩ => ⟨S162x512x512, .f32⟩
  | .hbm, ⟨84, _⟩ => ⟨S162x512x512, .f32⟩
  | .hbm, ⟨85, _⟩ => ⟨S1x32x512x1024, .f32⟩
  | .hbm, ⟨86, _⟩ => ⟨S32x512x1024, .f32⟩
  | .hbm, ⟨87, _⟩ => ⟨S_, .i32⟩
  | .hbm, ⟨88, _⟩ => ⟨S162, .i32⟩
  | .hbm, ⟨89, _⟩ => ⟨S162, .i1⟩
  | .hbm, ⟨90, _⟩ => ⟨S_, .i32⟩
  | .hbm, ⟨91, _⟩ => ⟨S162, .i32⟩
  | .hbm, ⟨92, _⟩ => ⟨S162, .i32⟩
  | .hbm, ⟨93, _⟩ => ⟨S162, .i32⟩
  | .hbm, ⟨94, _⟩ => ⟨S162x1, .i32⟩
  | .hbm, ⟨95, _⟩ => ⟨S162x512x1024, .f32⟩
  | .hbm, ⟨96, _⟩ => ⟨S162x512x1024, .f32⟩
  | .hbm, ⟨97, _⟩ => ⟨S162, .i32⟩
  | .hbm, ⟨98, _⟩ => ⟨S1, .i32⟩
  | .hbm, ⟨99, _⟩ => ⟨S_, .i32⟩
  | .hbm, ⟨100, _⟩ => ⟨S_, .i32⟩
  | .hbm, ⟨101, _⟩ => ⟨S1, .i32⟩
  | .hbm, ⟨102, _⟩ => ⟨S1, .i32⟩
  | .hbm, ⟨103, _⟩ => ⟨S1, .i32⟩
  | .hbm, ⟨104, _⟩ => ⟨S_, .i32⟩
  | .hbm, ⟨105, _⟩ => ⟨S1, .i32⟩
  | .hbm, ⟨106, _⟩ => ⟨S1, .i1⟩
  | .hbm, ⟨107, _⟩ => ⟨S1, .i32⟩
  | .hbm, ⟨108, _⟩ => ⟨S1, .i32⟩
  | .hbm, ⟨109, _⟩ => ⟨S_, .i32⟩
  | .hbm, ⟨110, _⟩ => ⟨S1, .i32⟩
  | .hbm, ⟨111, _⟩ => ⟨S1, .i1⟩
  | .hbm, ⟨112, _⟩ => ⟨S1, .i1⟩
  | .hbm, ⟨113, _⟩ => ⟨S_, .i32⟩
  | .hbm, ⟨114, _⟩ => ⟨S1, .i32⟩
  | .hbm, ⟨115, _⟩ => ⟨S1, .i32⟩
  | .hbm, ⟨116, _⟩ => ⟨S1, .i32⟩
  | .hbm, ⟨117, _⟩ => ⟨S162, .i32⟩
  | .hbm, ⟨118, _⟩ => ⟨S162, .i1⟩
  | .hbm, ⟨119, _⟩ => ⟨S162x1x1, .i1⟩
  | .hbm, ⟨120, _⟩ => ⟨S_, .f32⟩
  | .hbm, ⟨121, _⟩ => ⟨S_, .f32⟩
  | .hbm, ⟨122, _⟩ => ⟨S162x512x1024, .i1⟩
  | .hbm, ⟨123, _⟩ => ⟨S162x512x1024, .f32⟩
  | .hbm, ⟨124, _⟩ => ⟨S162x512x1024, .f32⟩
  | .hbm, ⟨125, _⟩ => ⟨S82944x1024, .f32⟩
  | _, _ => ⟨S82944x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_call1_call0_c : Ref sig .tc := ⟨.hbm, 32, rfl⟩
abbrev main_call1_call0_v0 : Ref sig .tc := ⟨.hbm, 33, rfl⟩
abbrev main_v7 : Ref sig .tc := ⟨.hbm, 34, rfl⟩
abbrev main_v8 : Ref sig .tc := ⟨.hbm, 35, rfl⟩
abbrev main_c_3 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_c_6 : Ref sig .tc := ⟨.hbm, 53, rfl⟩
abbrev main_v23 : Ref sig .tc := ⟨.hbm, 54, rfl⟩
abbrev main_v24 : Ref sig .tc := ⟨.hbm, 55, rfl⟩
abbrev main_c_7 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_c_8 : Ref sig .tc := ⟨.hbm, 65, rfl⟩
abbrev main_v33 : Ref sig .tc := ⟨.hbm, 66, rfl⟩
abbrev main_v34 : Ref sig .tc := ⟨.hbm, 67, rfl⟩
abbrev main_c_9 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_call2_v0 : Ref sig .tc := ⟨.hbm, 75, rfl⟩
abbrev main_call2_v1 : Ref sig .tc := ⟨.hbm, 76, rfl⟩
abbrev main_call2_cst : Ref sig .tc := ⟨.hbm, 77, rfl⟩
abbrev main_call2_v2 : Ref sig .tc := ⟨.hbm, 78, rfl⟩
abbrev main_call2_v3 : Ref sig .tc := ⟨.hbm, 79, rfl⟩
abbrev main_call2_cst_0 : Ref sig .tc := ⟨.hbm, 80, rfl⟩
abbrev main_call2_v4 : Ref sig .tc := ⟨.hbm, 81, rfl⟩
abbrev main_call2_v5 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_c_10 : Ref sig .tc := ⟨.hbm, 87, rfl⟩
abbrev main_v45 : Ref sig .tc := ⟨.hbm, 88, rfl⟩
abbrev main_v46 : Ref sig .tc := ⟨.hbm, 89, rfl⟩
abbrev main_c_11 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_c_12 : Ref sig .tc := ⟨.hbm, 99, rfl⟩
abbrev main_call3_v0 : Ref sig .tc := ⟨.hbm, 100, rfl⟩
abbrev main_call3_v1 : Ref sig .tc := ⟨.hbm, 101, rfl⟩
abbrev main_call3_v2 : Ref sig .tc := ⟨.hbm, 102, rfl⟩
abbrev main_call3_v3 : Ref sig .tc := ⟨.hbm, 103, rfl⟩
abbrev main_call3_v4 : Ref sig .tc := ⟨.hbm, 104, rfl⟩
abbrev main_call3_v5 : Ref sig .tc := ⟨.hbm, 105, rfl⟩
abbrev main_call3_v6 : Ref sig .tc := ⟨.hbm, 106, rfl⟩
abbrev main_call3_v7 : Ref sig .tc := ⟨.hbm, 107, rfl⟩
abbrev main_call3_v8 : Ref sig .tc := ⟨.hbm, 108, rfl⟩
abbrev main_call3_c : Ref sig .tc := ⟨.hbm, 109, rfl⟩
abbrev main_call3_v9 : Ref sig .tc := ⟨.hbm, 110, rfl⟩
abbrev main_call3_v10 : Ref sig .tc := ⟨.hbm, 111, rfl⟩
abbrev main_call3_v11 : Ref sig .tc := ⟨.hbm, 112, rfl⟩
abbrev main_call3_c_0 : Ref sig .tc := ⟨.hbm, 113, rfl⟩
abbrev main_call3_v12 : Ref sig .tc := ⟨.hbm, 114, rfl⟩
abbrev main_call3_v13 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_cst : Ref sig .tc := ⟨.hbm, 120, rfl⟩
abbrev main_call4_v0 : Ref sig .tc := ⟨.hbm, 121, rfl⟩
abbrev main_call4_v1 : Ref sig .tc := ⟨.hbm, 122, rfl⟩
abbrev main_call4_v2 : Ref sig .tc := ⟨.hbm, 123, rfl⟩
abbrev main_v59 : Ref sig .tc := ⟨.hbm, 124, rfl⟩
abbrev main_v60 : Ref sig .tc := ⟨.hbm, 125, rfl⟩

abbrev nD : Nat := 1
abbrev τ : Topo := Topo.v7x

variable {F : FTy → Type} [FloatOps F]
-- ==== Kernel6.lean ====
abbrev S2x16384x1024 : Shape := ⟨3, ![2, 16384, 1024]⟩
abbrev S2x256x1024 : Shape := ⟨3, ![2, 256, 1024]⟩
abbrev S2x6144 : Shape := ⟨2, ![2, 6144]⟩
abbrev S6144 : Shape := ⟨1, ![6144]⟩
abbrev S1024 : Shape := ⟨1, ![1024]⟩
abbrev S1024x3072 : Shape := ⟨2, ![1024, 3072]⟩
abbrev S32768x1024 : Shape := ⟨2, ![32768, 1024]⟩
abbrev S512x1024 : Shape := ⟨2, ![512, 1024]⟩
abbrev S33280x1024 : Shape := ⟨2, ![33280, 1024]⟩
abbrev S1x6144 : Shape := ⟨2, ![1, 6144]⟩
abbrev S_ : Shape := ⟨0, ![]⟩
abbrev S5x6144 : Shape := ⟨2, ![5, 6144]⟩
abbrev S8x6144 : Shape := ⟨2, ![8, 6144]⟩
abbrev S8x6x1024 : Shape := ⟨3, ![8, 6, 1024]⟩
abbrev S6x8x1024 : Shape := ⟨3, ![6, 8, 1024]⟩
abbrev S48x1x1024 : Shape := ⟨3, ![48, 1, 1024]⟩
abbrev S33280x128 : Shape := ⟨2, ![33280, 128]⟩
abbrev S1x1024 : Shape := ⟨2, ![1, 1024]⟩
abbrev S1024x33280 : Shape := ⟨2, ![1024, 33280]⟩
abbrev S1x1x1024 : Shape := ⟨3, ![1, 1, 1024]⟩
abbrev S512x128 : Shape := ⟨2, ![512, 128]⟩
abbrev S1024x512 : Shape := ⟨2, ![1024, 512]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x512 : Shape := ⟨2, ![256, 512]⟩

abbrev nBuf : Space → Nat
  | .hbm => 23
  | .vmem => 18
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S2x6144, .f32⟩
  | .hbm, ⟨3, _⟩ => ⟨S6144, .f32⟩
  | .hbm, ⟨4, _⟩ => ⟨S1024, .f32⟩
  | .hbm, ⟨5, _⟩ => ⟨S1024x3072, .f32⟩
  | .hbm, ⟨6, _⟩ => ⟨S32768x1024, .f32⟩
  | .hbm, ⟨7, _⟩ => ⟨S512x1024, .f32⟩
  | .hbm, ⟨8, _⟩ => ⟨S33280x1024, .f32⟩
  | .hbm, ⟨9, _⟩ => ⟨S1x6144, .f32⟩
  | .hbm, ⟨10, _⟩ => ⟨S_, .f32⟩
  | .hbm, ⟨11, _⟩ => ⟨S5x6144, .f32⟩
  | .hbm, ⟨12, _⟩ => ⟨S8x6144, .f32⟩
  | .hbm, ⟨13, _⟩ => ⟨S8x6x1024, .f32⟩
  | .hbm, ⟨14, _⟩ => ⟨S6x8x1024, .f32⟩
  | .hbm, ⟨15, _⟩ => ⟨S48x1x1024, .f32⟩
  | .hbm, ⟨16, _⟩ => ⟨S_, .f32⟩
  | .hbm, ⟨17, _⟩ => ⟨S33280x128, .f32⟩
  | .hbm, ⟨18, _⟩ => ⟨S1x1024, .f32⟩
  | .hbm, ⟨19, _⟩ => ⟨S1024x3072, .bf16⟩
  | .hbm, ⟨20, _⟩ => ⟨S1024x33280, .bf16⟩
  | .hbm, ⟨21, _⟩ => ⟨S33280x1024, .bf16⟩
  | .hbm, ⟨22, _⟩ => ⟨S1024x33280, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1024x512, .bf16⟩
  | .local _ .vmem, ⟨13, _⟩ => ⟨S1024x512, .bf16⟩
  | .local _ .vmem, ⟨14, _⟩ => ⟨S512x1024, .bf16⟩
  | .local _ .vmem, ⟨15, _⟩ => ⟨S512x1024, .bf16⟩
  | .local _ .vmem, ⟨16, _⟩ => ⟨S1024x512, .bf16⟩
  | .local _ .vmem, ⟨17, _⟩ => ⟨S1024x512, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c8_i32 : BitVec 32 := 8#32
  let v19 : BitVec 32 := Scalar.addi c8_i32 v18
  let c0_i32_4 : BitVec 32 := 0#32
  let c0_i32_5 : BitVec 32 := 0#32
  let c0_i32_6 : BitVec 32 := 0#32
  ![v19.toNat, c0_i32_4.toNat, c0_i32_5.toNat]

def cc0_transform_3 (i : grid0.Coords) : Fin 3 → Nat :=
  let arg0 : BitVec 32 := BitVec.ofNat 32 (i 0).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let v19 : BitVec 32 := Scalar.addi c0_i32_4 v18
  let c0_i32_5 : BitVec 32 := 0#32
  let c0_i32_6 : BitVec 32 := 0#32
  let c0_i32_7 : BitVec 32 := 0#32
  ![v19.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel6Ideal.lean ====
variable {F : FTy → Type} [FloatOps F] [Named F]
def κ : String → Option EReal := fun
  | "q_scale" => some (((1 / 8) * (Real.log 2)⁻¹ : ℝ) : EReal)
  | _ => none
-- ==== Reference6Ideal.lean ====
abbrev S2x16384x1024 : Shape := ⟨3, ![2, 16384, 1024]⟩
abbrev S2x256x1024 : Shape := ⟨3, ![2, 256, 1024]⟩
abbrev S2x6144 : Shape := ⟨2, ![2, 6144]⟩
abbrev S6144 : Shape := ⟨1, ![6144]⟩
abbrev S1024 : Shape := ⟨1, ![1024]⟩
abbrev S1024x3072 : Shape := ⟨2, ![1024, 3072]⟩
abbrev S2x1024 : Shape := ⟨2, ![2, 1024]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x256 : Shape := ⟨2, ![2, 256]⟩
abbrev S2x256x1 : Shape := ⟨3, ![2, 256, 1]⟩
abbrev S2x16384x3072 : Shape := ⟨3, ![2, 16384, 3072]⟩
abbrev S32768x3072 : Shape := ⟨2, ![32768, 3072]⟩
abbrev S2x256x3072 : Shape := ⟨3, ![2, 256, 3072]⟩
abbrev S512x3072 : Shape := ⟨2, ![512, 3072]⟩
abbrev S33280x3072 : Shape := ⟨2, ![33280, 3072]⟩
abbrev S33280x1024 : Shape := ⟨2, ![33280, 1024]⟩
abbrev S1024x33280 : Shape := ⟨2, ![1024, 33280]⟩

abbrev nBuf : Space → Nat
  | .hbm => 79
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S2x6144, .f32⟩
  | .hbm, ⟨3, _⟩ => ⟨S6144, .f32⟩
  | .hbm, ⟨4, _⟩ => ⟨S1024, .f32⟩
  | .hbm, ⟨5, _⟩ => ⟨S1024x3072, .f32⟩
  | .hbm, ⟨6, _⟩ => ⟨S2x1024, .f32⟩
  | .hbm, ⟨7, _⟩ => ⟨S2x1x1024, .f32⟩
  | .hbm, ⟨8, _⟩ => ⟨S2x1024, .f32⟩
  | .hbm, ⟨9, _⟩ => ⟨S2x1x1024, .f32⟩
  | .hbm, ⟨10, _⟩ => ⟨S1024, .f32⟩
  | .hbm, ⟨11, _⟩ => ⟨S1024, .f32⟩
  | .hbm, ⟨12, _⟩ => ⟨S2x16384x1024, .f32⟩
  | .hbm, ⟨13, _⟩ => ⟨S_, .f32⟩
  | .hbm, ⟨14, _⟩ => ⟨S2x16384, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S2x16384x1, .f32⟩
  | .hbm, ⟨23, _⟩ => ⟨S2x16384x1024, .f32⟩
  | .hbm, ⟨24, _⟩ => ⟨S2x16384x1024, .f32⟩
  | .hbm, ⟨25, _⟩ => ⟨S1x1x1024, .f32⟩
  | .hbm, ⟨26, _⟩ => ⟨S2x16384x1024, .f32⟩
  | .hbm, ⟨27, _⟩ => ⟨S2x16384x1024, .f32⟩
  | .hbm, ⟨28, _⟩ => ⟨S_, .f32⟩
  | .hbm, ⟨29, _⟩ => ⟨S2x1x1024, .f32⟩
  | .hbm, ⟨30, _⟩ => ⟨S2x1x1024, .f32⟩
  | .hbm, ⟨31, _⟩ => ⟨S2x16384x1024, .f32⟩
  | .hbm, ⟨32, _⟩ => ⟨S2x16384x1024, .f32⟩
  | .hbm, ⟨33, _⟩ => ⟨S2x16384x1024, .f32⟩
  | .hbm, ⟨34, _⟩ => ⟨S2x16384x1024, .f32⟩
  | .hbm, ⟨35, _⟩ => ⟨S2x256x1024, .f32⟩
  | .hbm, ⟨36, _⟩ => ⟨S_, .f32⟩
  | .hbm, ⟨37, _⟩ => ⟨S2x256, .f32⟩
  | .hbm, ⟨38, _⟩ => ⟨S2x256x1, .f32⟩
  | .hbm, ⟨39, _⟩ => ⟨S_, .f32⟩
  | .hbm, ⟨40, _⟩ => ⟨S2x256x1, .f32⟩
  | .hbm, ⟨41, _⟩ => ⟨S2x256x1, .f32⟩
  | .hbm, ⟨42, _⟩ => ⟨S_, .f32⟩
  | .hbm, ⟨43, _⟩ => ⟨S2x256x1, .f32⟩
  | .hbm, ⟨44, _⟩ => ⟨S2x256x1, .f32⟩
  | .hbm, ⟨45, _⟩ => ⟨S2x256x1, .f32⟩
  | .hbm, ⟨46, _⟩ => ⟨S2x256x1024, .f32⟩
  | .hbm, ⟨47, _⟩ => ⟨S2x256x1024, .f32⟩
  | .hbm, ⟨48, _⟩ => ⟨S1x1x1024, .f32⟩
  | .hbm, ⟨49, _⟩ => ⟨S2x256x1024, .f32⟩
  | .hbm, ⟨50, _⟩ => ⟨S2x256x1024, .f32⟩
  | .hbm, ⟨51, _⟩ => ⟨S_, .f32⟩
  | .hbm, ⟨52, _⟩ => ⟨S1024, .f32⟩
  | .hbm, ⟨53, _⟩ => ⟨S1024, .f32⟩
  | .hbm, ⟨54, _⟩ => ⟨S1x1x1024, .f32⟩
  | .hbm, ⟨55, _⟩ => ⟨S2x256x1024, .f32⟩
  | .hbm, ⟨56, _⟩ => ⟨S2x256x1024, .f32⟩
  | .hbm, ⟨57, _⟩ => ⟨S1x1x1024, .f32⟩
  | .hbm, ⟨58, _⟩ => ⟨S2x256x1024, .f32⟩
  | .hbm, ⟨59, _⟩ => ⟨S2x256x1024, .f32⟩
  | .hbm, ⟨60, _⟩ => ⟨S2x16384x3072, .f32⟩
  | .hbm, ⟨61, _⟩ => ⟨S32768x3072, .f32⟩
  | .hbm, ⟨62, _⟩ => ⟨S2x256x3072, .f32⟩
  | .hbm, ⟨63, _⟩ => ⟨S512x3072, .f32⟩
  | .hbm, ⟨64, _⟩ => ⟨S33280x3072, .f32⟩
  | .hbm, ⟨65, _⟩ => ⟨S33280x1024, .f32⟩
  | .hbm, ⟨66, _⟩ => ⟨S33280x1024, .f32⟩
  | .hbm, ⟨67, _⟩ => ⟨S33280x1024, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S33280x1024, .f32⟩
  | .hbm, ⟨73, _⟩ => ⟨S33280x1024, .f32⟩
  | .hbm, ⟨74, _⟩ => ⟨S1024x33280, .f32⟩
  | .hbm, ⟨75, _⟩ => ⟨S1024x33280, .bf16⟩
  | .hbm, ⟨76, _⟩ => ⟨S33280x1024, .bf16⟩
  | .hbm, ⟨77, _⟩ => ⟨S1024x33280, .f32⟩
  | .hbm, ⟨78, _⟩ => ⟨S1024x33280, .bf16⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_cst_8 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩

abbrev nD : Nat := 1
abbrev τ : Topo := Topo.v7x

variable {F : FTy → Type} [FloatOps F]
-- ==== Kernel7.lean ====
abbrev S2x16384x1024 : Shape := ⟨3, ![2, 16384, 1024]⟩
abbrev S2x256x1024 : Shape := ⟨3, ![2, 256, 1024]⟩
abbrev S2x6144 : Shape := ⟨2, ![2, 6144]⟩
abbrev S6144 : Shape := ⟨1, ![6144]⟩
abbrev S1024 : Shape := ⟨1, ![1024]⟩
abbrev S1024x1536 : Shape := ⟨2, ![1024, 1536]⟩
abbrev S32768x1024 : Shape := ⟨2, ![32768, 1024]⟩
abbrev S512x1024 : Shape := ⟨2, ![512, 1024]⟩
abbrev S33280x1024 : Shape := ⟨2, ![33280, 1024]⟩
abbrev S1x6144 : Shape := ⟨2, ![1, 6144]⟩
abbrev S_ : Shape := ⟨0, ![]⟩
abbrev S5x6144 : Shape := ⟨2, ![5, 6144]⟩
abbrev S8x6144 : Shape := ⟨2, ![8, 6144]⟩
abbrev S8x6x1024 : Shape := ⟨3, ![8, 6, 1024]⟩
abbrev S6x8x1024 : Shape := ⟨3, ![6, 8, 1024]⟩
abbrev S48x1x1024 : Shape := ⟨3, ![48, 1, 1024]⟩
abbrev S16384 : Shape := ⟨1, ![16384]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x32 : Shape := ⟨2, ![16384, 32]⟩
abbrev S16384x64 : Shape := ⟨2, ![16384, 64]⟩
abbrev S1x16384x1x64 : Shape := ⟨4, ![1, 16384, 1, 64]⟩
abbrev S2x16384x1x64 : Shape := ⟨4, ![2, 16384, 1, 64]⟩
abbrev S32768x64 : Shape := ⟨2, ![32768, 64]⟩
abbrev S512x64 : Shape := ⟨2, ![512, 64]⟩
abbrev S33280x64 : Shape := ⟨2, ![33280, 64]⟩
abbrev S33280x128 : Shape := ⟨2, ![33280, 128]⟩
abbrev S1x1024 : Shape := ⟨2, ![1, 1024]⟩
abbrev S1024x33280 : Shape := ⟨2, ![1024, 33280]⟩
abbrev S33280x256 : Shape := ⟨2, ![33280, 256]⟩
abbrev S256x33280 : Shape := ⟨2, ![256, 33280]⟩
abbrev S1x1x1024 : Shape := ⟨3, ![1, 1, 1024]⟩
abbrev S512x128 : Shape := ⟨2, ![512, 128]⟩
abbrev S1024x512 : Shape := ⟨2, ![1024, 512]⟩
abbrev S512x256 : Shape := ⟨2, ![512, 256]⟩
abbrev S256x512 : Shape := ⟨2, ![256, 512]⟩
abbrev S512 : Shape := ⟨1, ![512]⟩
abbrev S512x1 : Shape := ⟨2, ![512, 1]⟩
abbrev S1024x256 : Shape := ⟨2, ![1024, 256]⟩

abbrev nBuf : Space → Nat
  | .hbm => 102
  | .vmem => 18
  | .smem => 0
  | _ => 0

abbrev bufTy : (tb : Table) → Fin (tcTables nBuf tb) → BufTy
  | .hbm, ⟨0, _⟩ => ⟨S2x16384x1024, .f32⟩
  | .hbm, ⟨1, _⟩ => ⟨S2x256x1024, .f32⟩
  | .hbm, ⟨2, _⟩ => ⟨S2x6144, .f32⟩
  | .hbm, ⟨3, _⟩ => ⟨S6144, .f32⟩
  | .hbm, ⟨4, _⟩ => ⟨S1024, .f32⟩
  | .hbm, ⟨5, _⟩ => ⟨S1024x1536, .f32⟩
  | .hbm, ⟨6, _⟩ => ⟨S32768x1024, .f32⟩
  | .hbm, ⟨7, _⟩ => ⟨S512x1024, .f32⟩
  | .hbm, ⟨8, _⟩ => ⟨S33280x1024, .f32⟩
  | .hbm, ⟨9, _⟩ => ⟨S1x6144, .f32⟩
  | .hbm, ⟨10, _⟩ => ⟨S_, .f32⟩
  | .hbm, ⟨11, _⟩ => ⟨S5x6144, .f32⟩
  | .hbm, ⟨12, _⟩ => ⟨S8x6144, .f32⟩
  | .hbm, ⟨13, _⟩ => ⟨S8x6x1024, .f32⟩
  | .hbm, ⟨14, _⟩ => ⟨S6x8x1024, .f32⟩
  | .hbm, ⟨15, _⟩ => ⟨S48x1x1024, .f32⟩
  | .hbm, ⟨16, _⟩ => ⟨S16384, .i32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S_, .i32⟩
  | .hbm, ⟨26, _⟩ => ⟨S_, .i32⟩
  | .hbm, ⟨27, _⟩ => ⟨S16384, .i32⟩
  | .hbm, ⟨28, _⟩ => ⟨S16384, .i32⟩
  | .hbm, ⟨29, _⟩ => ⟨S16384, .i32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S16384, .i32⟩
  | .hbm, ⟨34, _⟩ => ⟨S16384, .i32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S16384, .i1⟩
  | .hbm, ⟨39, _⟩ => ⟨S_, .i32⟩
  | .hbm, ⟨40, _⟩ => ⟨S16384, .i32⟩
  | .hbm, ⟨41, _⟩ => ⟨S16384, .i32⟩
  | .hbm, ⟨42, _⟩ => ⟨S16384, .i32⟩
  | .hbm, ⟨43, _⟩ => ⟨S16384, .f32⟩
  | .hbm, ⟨44, _⟩ => ⟨S16384x1, .f32⟩
  | .hbm, ⟨45, _⟩ => ⟨S1x16, .f32⟩
  | .hbm, ⟨46, _⟩ => ⟨S16384x16, .f32⟩
  | .hbm, ⟨47, _⟩ => ⟨S16384x16, .f32⟩
  | .hbm, ⟨48, _⟩ => ⟨S16384x16, .f32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S16384, .i32⟩
  | .hbm, ⟨56, _⟩ => ⟨S16384, .i32⟩
  | .hbm, ⟨57, _⟩ => ⟨S_, .i32⟩
  | .hbm, ⟨58, _⟩ => ⟨S16384, .i32⟩
  | .hbm, ⟨59, _⟩ => ⟨S16384, .i1⟩
  | .hbm, ⟨60, _⟩ => ⟨S_, .i32⟩
  | .hbm, ⟨61, _⟩ => ⟨S16384, .i32⟩
  | .hbm, ⟨62, _⟩ => ⟨S16384, .i1⟩
  | .hbm, ⟨63, _⟩ => ⟨S_, .i32⟩
  | .hbm, ⟨64, _⟩ => ⟨S_, .i1⟩
  | .hbm, ⟨65, _⟩ => ⟨S16384, .i1⟩
  | .hbm, ⟨66, _⟩ => ⟨S16384, .i1⟩
  | .hbm, ⟨67, _⟩ => ⟨S16384, .i1⟩
  | .hbm, ⟨68, _⟩ => ⟨S16384, .i32⟩
  | .hbm, ⟨69, _⟩ => ⟨S16384, .i32⟩
  | .hbm, ⟨70, _⟩ => ⟨S16384, .i32⟩
  | .hbm, ⟨71, _⟩ => ⟨S16384, .f32⟩
  | .hbm, ⟨72, _⟩ => ⟨S16384x1, .f32⟩
  | .hbm, ⟨73, _⟩ => ⟨S1x16, .f32⟩
  | .hbm, ⟨74, _⟩ => ⟨S16384x16, .f32⟩
  | .hbm, ⟨75, _⟩ => ⟨S16384x16, .f32⟩
  | .hbm, ⟨76, _⟩ => ⟨S16384x16, .f32⟩
  | .hbm, ⟨77, _⟩ => ⟨S16384x32, .f32⟩
  | .hbm, ⟨78, _⟩ => ⟨S16384x32, .f32⟩
  | .hbm, ⟨79, _⟩ => ⟨S16384x32, .f32⟩
  | .hbm, ⟨80, _⟩ => ⟨S16384x64, .f32⟩
  | .hbm, ⟨81, _⟩ => ⟨S16384x32, .f32⟩
  | .hbm, ⟨82, _⟩ => ⟨S16384x64, .f32⟩
  | .hbm, ⟨83, _⟩ => ⟨S1x16384x1x64, .f32⟩
  | .hbm, ⟨84, _⟩ => ⟨S2x16384x1x64, .f32⟩
  | .hbm, ⟨85, _⟩ => ⟨S32768x64, .f32⟩
  | .hbm, ⟨86, _⟩ => ⟨S_, .f32⟩
  | .hbm, ⟨87, _⟩ => ⟨S512x64, .f32⟩
  | .hbm, ⟨88, _⟩ => ⟨S33280x64, .f32⟩
  | .hbm, ⟨89, _⟩ => ⟨S1x16384x1x64, .f32⟩
  | .hbm, ⟨90, _⟩ => ⟨S2x16384x1x64, .f32⟩
  | .hbm, ⟨91, _⟩ => ⟨S32768x64, .f32⟩
  | .hbm, ⟨92, _⟩ => ⟨S_, .f32⟩
  | .hbm, ⟨93, _⟩ => ⟨S512x64, .f32⟩
  | .hbm, ⟨94, _⟩ => ⟨S33280x64, .f32⟩
  | .hbm, ⟨95, _⟩ => ⟨S33280x128, .f32⟩
  | .hbm, ⟨96, _⟩ => ⟨S33280x128, .f32⟩
  | .hbm, ⟨97, _⟩ => ⟨S1x1024, .f32⟩
  | .hbm, ⟨98, _⟩ => ⟨S1024x1536, .bf16⟩
  | .hbm, ⟨99, _⟩ => ⟨S1024x33280, .bf16⟩
  | .hbm, ⟨100, _⟩ => ⟨S33280x256, .bf16⟩
  | .hbm, ⟨101, _⟩ => ⟨S256x33280, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1536, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1024x512, .bf16⟩
  | .local _ .vmem, ⟨13, _⟩ => ⟨S1024x512, .bf16⟩
  | .local _ .vmem, ⟨14, _⟩ => ⟨S512x256, .bf16⟩
  | .local _ .vmem, ⟨15, _⟩ => ⟨S512x256, .bf16⟩
  | .local _ .vmem, ⟨16, _⟩ => ⟨S256x512, .bf16⟩
  | .local _ .vmem, ⟨17, _⟩ => ⟨S256x512, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_c : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_0 : Ref sig .tc := ⟨.hbm, 39, rfl⟩
abbrev main_call0_v12 : Ref sig .tc := ⟨.hbm, 40, rfl⟩
abbrev main_call0_v13 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_2 : Ref sig .tc := ⟨.hbm, 49, rfl⟩
abbrev main_call1_v0 : Ref sig .tc := ⟨.hbm, 50, rfl⟩
abbrev main_call1_c : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_c_1 : Ref sig .tc := ⟨.hbm, 57, rfl⟩
abbrev main_call1_v5 : Ref sig .tc := ⟨.hbm, 58, rfl⟩
abbrev main_call1_v6 : Ref sig .tc := ⟨.hbm, 59, rfl⟩
abbrev main_call1_c_2 : Ref sig .tc := ⟨.hbm, 60, rfl⟩
abbrev main_call1_v7 : Ref sig .tc := ⟨.hbm, 61, rfl⟩
abbrev main_call1_v8 : Ref sig .tc := ⟨.hbm, 62, rfl⟩
abbrev main_call1_c_3 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_cst_3 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_cst_4 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50_0 : Ref sig .tc := ⟨.hbm, 99, rfl⟩
abbrev main_v50_1 : Ref sig .tc := ⟨.hbm, 100, rfl⟩
abbrev main_v50_2 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c8_i32 : BitVec 32 := 8#32
  let v19 : BitVec 32 := Scalar.addi c8_i32 v18
  let c0_i32_4 : BitVec 32 := 0#32
  let c0_i32_5 : BitVec 32 := 0#32
  let c0_i32_6 : BitVec 32 := 0#32
  ![v19.toNat, c0_i32_4.toNat, c0_i32_5.toNat]

def cc0_transform_3 (i : grid0.Coords) : Fin 3 → Nat :=
  let arg0 : BitVec 32 := BitVec.ofNat 32 (i 0).val
  let c64_i32 : BitVec 32 := 64#32
  let v0 : BitVec 1 := Scalar.cmpi .slt arg0 c64_i32
  let c32_i32 : BitVec 32 := 32#32
  let v1 : BitVec 32 := Scalar.divsi arg0 c32_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c32_i32 c0_i32_1
  let v8 : BitVec 32 := Scalar.extui v7
  let c0_i32_2 : BitVec 32 := 0#32
  let v9 : BitVec 1 := Scalar.cmpi .slt c32_i32 c0_i32_2
  let v10 : BitVec 32 := Scalar.extui v9
  let v11 : BitVec 32 := Scalar.subi v8 v10
  let v12 : BitVec 1 := Scalar.cmpi .ne v6 v11
  let v13 : BitVec 32 := Scalar.remsi arg0 c32_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let v19 : BitVec 32 := Scalar.addi c0_i32_4 v18
  let c0_i32_5 : BitVec 32 := 0#32
  let c0_i32_6 : BitVec 32 := 0#32
  let c0_i32_7 : BitVec 32 := 0#32
  ![v19.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel7Ideal.lean ====
variable {F : FTy → Type} [FloatOps F] [Named F]
def κ : String → Option EReal := fun
  | "q_scale" => some (((1 / 8) * (Real.log 2)⁻¹ : ℝ) : EReal)
  | _ => none
-- ==== Reference7Ideal.lean ====
abbrev S2x16384x1024 : Shape := ⟨3, ![2, 16384, 1024]⟩
abbrev S2x256x1024 : Shape := ⟨3, ![2, 256, 1024]⟩
abbrev S2x6144 : Shape := ⟨2, ![2, 6144]⟩
abbrev S6144 : Shape := ⟨1, ![6144]⟩
abbrev S1024 : Shape := ⟨1, ![1024]⟩
abbrev S1024x1536 : Shape := ⟨2, ![1024, 1536]⟩
abbrev S2x1024 : Shape := ⟨2, ![2, 1024]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S2x16384x1536 : Shape := ⟨3, ![2, 16384, 1536]⟩
abbrev S2x16384x16x64 : Shape := ⟨4, ![2, 16384, 16, 64]⟩
abbrev S2x16384x256 : Shape := ⟨3, ![2, 16384, 256]⟩
abbrev S2x16384x4x64 : Shape := ⟨4, ![2, 16384, 4, 64]⟩
abbrev S2x256 : Shape := ⟨2, ![2, 256]⟩
abbrev S2x256x1 : Shape := ⟨3, ![2, 256, 1]⟩
abbrev S2x256x1536 : Shape := ⟨3, ![2, 256, 1536]⟩
abbrev S2x256x16x64 : Shape := ⟨4, ![2, 256, 16, 64]⟩
abbrev S2x256x256 : Shape := ⟨3, ![2, 256, 256]⟩
abbrev S2x256x4x64 : Shape := ⟨4, ![2, 256, 4, 64]⟩
abbrev S16384 : Shape := ⟨1, ![16384]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x32 : Shape := ⟨2, ![16384, 32]⟩
abbrev S1x16384x1x32 : Shape := ⟨4, ![1, 16384, 1, 32]⟩
abbrev S2x16384x16x32 : Shape := ⟨4, ![2, 16384, 16, 32]⟩
abbrev S2x16384x4x32 : Shape := ⟨4, ![2, 16384, 4, 32]⟩
abbrev S32768x1024 : Shape := ⟨2, ![32768, 1024]⟩
abbrev S512x1024 : Shape := ⟨2, ![512, 1024]⟩
abbrev S33280x1024 : Shape := ⟨2, ![33280, 1024]⟩
abbrev S32768x256 : Shape := ⟨2, ![32768, 256]⟩
abbrev S512x256 : Shape := ⟨2, ![512, 256]⟩
abbrev S33280x256 : Shape := ⟨2, ![33280, 256]⟩
abbrev S1024x33280 : Shape := ⟨2, ![1024, 33280]⟩
abbrev S256x33280 : Shape := ⟨2, ![256, 33280]⟩

abbrev nBuf : Space → Nat
  | .hbm => 188
  | .vmem => 0
  | .smem => 0
  | _ => 0

abbrev hbmTy0_0 (i : Nat) : BufTy := match i % 128 with
  | 0 => ⟨S2x16384x1024, .f32⟩
  | 1 => ⟨S2x256x1024, .f32⟩
  | 2 => ⟨S2x6144, .f32⟩
  | 3 => ⟨S6144, .f32⟩
  | 4 => ⟨S1024, .f32⟩
  | 5 => ⟨S1024x1536, .f32⟩
  | 6 => ⟨S2x1024, .f32⟩
  | 7 => ⟨S2x1x1024, .f32⟩
  | 8 => ⟨S2x1024, .f32⟩
  | 9 => ⟨S2x1x1024, .f32⟩
  | 10 => ⟨S1024, .f32⟩
  | 11 => ⟨S1024, .f32⟩
  | 12 => ⟨S2x16384x1024, .f32⟩
  | 13 => ⟨S_, .f32⟩
  | 14 => ⟨S2x16384, .f32⟩
  | 15 => ⟨S2x16384x1, .f32⟩
  | 16 => ⟨S_, .f32⟩
  | 17 => ⟨S2x16384x1, .f32⟩
  | 18 => ⟨S2x16384x1, .f32⟩
  | 19 => ⟨S_, .f32⟩
  | 20 => ⟨S2x16384x1, .f32⟩
  | 21 => ⟨S2x16384x1, .f32⟩
  | 22 => ⟨S2x16384x1, .f32⟩
  | 23 => ⟨S2x16384x1024, .f32⟩
  | 24 => ⟨S2x16384x1024, .f32⟩
  | 25 => ⟨S1x1x1024, .f32⟩
  | 26 => ⟨S2x16384x1024, .f32⟩
  | 27 => ⟨S2x16384x1024, .f32⟩
  | 28 => ⟨S_, .f32⟩
  | 29 => ⟨S2x1x1024, .f32⟩
  | 30 => ⟨S2x1x1024, .f32⟩
  | 31 => ⟨S2x16384x1024, .f32⟩
  | 32 => ⟨S2x16384x1024, .f32⟩
  | 33 => ⟨S2x16384x1024, .f32⟩
  | 34 => ⟨S2x16384x1024, .f32⟩
  | 35 => ⟨S2x16384x1536, .f32⟩
  | 36 => ⟨S2x16384x1024, .f32⟩
  | 37 => ⟨S2x16384x16x64, .f32⟩
  | 38 => ⟨S2x16384x256, .f32⟩
  | 39 => ⟨S2x16384x4x64, .f32⟩
  | 40 => ⟨S2x16384x256, .f32⟩
  | 41 => ⟨S2x256x1024, .f32⟩
  | 42 => ⟨S_, .f32⟩
  | 43 => ⟨S2x256, .f32⟩
  | 44 => ⟨S2x256x1, .f32⟩
  | 45 => ⟨S_, .f32⟩
  | 46 => ⟨S2x256x1, .f32⟩
  | 47 => ⟨S2x256x1, .f32⟩
  | 48 => ⟨S_, .f32⟩
  | 49 => ⟨S2x256x1, .f32⟩
  | 50 => ⟨S2x256x1, .f32⟩
  | 51 => ⟨S2x256x1, .f32⟩
  | 52 => ⟨S2x256x1024, .f32⟩
  | 53 => ⟨S2x256x1024, .f32⟩
  | 54 => ⟨S1x1x1024, .f32⟩
  | 55 => ⟨S2x256x1024, .f32⟩
  | 56 => ⟨S2x256x1024, .f32⟩
  | 57 => ⟨S_, .f32⟩
  | 58 => ⟨S1024, .f32⟩
  | 59 => ⟨S1024, .f32⟩
  | 60 => ⟨S1x1x1024, .f32⟩
  | 61 => ⟨S2x256x1024, .f32⟩
  | 62 => ⟨S2x256x1024, .f32⟩
  | 63 => ⟨S1x1x1024, .f32⟩
  | 64 => ⟨S2x256x1024, .f32⟩
  | 65 => ⟨S2x256x1024, .f32⟩
  | 66 => ⟨S2x256x1536, .f32⟩
  | 67 => ⟨S2x256x1024, .f32⟩
  | 68 => ⟨S2x256x16x64, .f32⟩
  | 69 => ⟨S2x256x256, .f32⟩
  | 70 => ⟨S2x256x4x64, .f32⟩
  | 71 => ⟨S2x256x256, .f32⟩
  | 72 => ⟨S16384, .i32⟩
  | 73 => ⟨S_, .i32⟩
  | 74 => ⟨S_, .i32⟩
  | 75 => ⟨S16384, .i32⟩
  | 76 => ⟨S16384, .i32⟩
  | 77 => ⟨S16384, .i32⟩
  | 78 => ⟨S_, .i32⟩
  | 79 => ⟨S16384, .i32⟩
  | 80 => ⟨S16384, .i1⟩
  | 81 => ⟨S16384, .i32⟩
  | 82 => ⟨S16384, .i32⟩
  | 83 => ⟨S_, .i32⟩
  | 84 => ⟨S16384, .i32⟩
  | 85 => ⟨S16384, .i1⟩
  | 86 => ⟨S16384, .i1⟩
  | 87 => ⟨S_, .i32⟩
  | 88 => ⟨S16384, .i32⟩
  | 89 => ⟨S16384, .i32⟩
  | 90 => ⟨S16384, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S16384, .i32⟩
  | 98 => ⟨S16384, .i32⟩
  | 99 => ⟨S_, .i32⟩
  | 100 => ⟨S16384, .i32⟩
  | 101 => ⟨S16384, .i1⟩
  | 102 => ⟨S_, .i32⟩
  | 103 => ⟨S16384, .i32⟩
  | 104 => ⟨S16384, .i1⟩
  | 105 => ⟨S_, .i32⟩
  | 106 => ⟨S_, .i1⟩
  | 107 => ⟨S16384, .i1⟩
  | 108 => ⟨S16384, .i1⟩
  | 109 => ⟨S16384, .i1⟩
  | 110 => ⟨S16384, .i32⟩
  | 111 => ⟨S16384, .i32⟩
  | 112 => ⟨S16384, .i32⟩
  | 113 => ⟨S16, .f32⟩
  | 114 => ⟨S16, .f32⟩
  | 115 => ⟨S_, .f32⟩
  | 116 => ⟨S16, .f32⟩
  | 117 => ⟨S16, .f32⟩
  | 118 => ⟨S_, .f32⟩
  | 119 => ⟨S16, .f32⟩
  | 120 => ⟨S16, .f32⟩
  | 121 => ⟨S16384, .f32⟩
  | 122 => ⟨S16384x1, .f32⟩
  | 123 => ⟨S1x16, .f32⟩
  | 124 => ⟨S16384x16, .f32⟩
  | 125 => ⟨S16384x16, .f32⟩
  | 126 => ⟨S16384x16, .f32⟩
  | 127 => ⟨S16384, .f32⟩
  | _ => ⟨S2x16384x1024, .f32⟩

abbrev hbmTy0_1 (i : Nat) : BufTy := match i % 128 with
  | 0 => ⟨S16384x1, .f32⟩
  | 1 => ⟨S1x16, .f32⟩
  | 2 => ⟨S16384x16, .f32⟩
  | 3 => ⟨S16384x16, .f32⟩
  | 4 => ⟨S16384x16, .f32⟩
  | 5 => ⟨S16384x32, .f32⟩
  | 6 => ⟨S16384x32, .f32⟩
  | 7 => ⟨S1x16384x1x32, .f32⟩
  | 8 => ⟨S16384x32, .f32⟩
  | 9 => ⟨S1x16384x1x32, .f32⟩
  | 10 => ⟨S2x16384x16x32, .f32⟩
  | 11 => ⟨S2x16384x16x32, .f32⟩
  | 12 => ⟨S2x16384x16x32, .f32⟩
  | 13 => ⟨S2x16384x16x32, .f32⟩
  | 14 => ⟨S2x16384x16x32, .f32⟩
  | 15 => ⟨S2x16384x16x32, .f32⟩
  | 16 => ⟨S2x16384x16x32, .f32⟩
  | 17 => ⟨S2x16384x16x32, .f32⟩
  | 18 => ⟨S2x16384x16x32, .f32⟩
  | 19 => ⟨S2x16384x16x32, .f32⟩
  | 20 => ⟨S2x16384x16x32, .f32⟩
  | 21 => ⟨S2x16384x16x32, .f32⟩
  | 22 => ⟨S2x16384x16x64, .f32⟩
  | 23 => ⟨S16384x32, .f32⟩
  | 24 => ⟨S1x16384x1x32, .f32⟩
  | 25 => ⟨S16384x32, .f32⟩
  | 26 => ⟨S1x16384x1x32, .f32⟩
  | 27 => ⟨S2x16384x4x32, .f32⟩
  | 28 => ⟨S2x16384x4x32, .f32⟩
  | 29 => ⟨S2x16384x4x32, .f32⟩
  | 30 => ⟨S2x16384x4x32, .f32⟩
  | 31 => ⟨S2x16384x4x32, .f32⟩
  | 32 => ⟨S2x16384x4x32, .f32⟩
  | 33 => ⟨S2x16384x4x32, .f32⟩
  | 34 => ⟨S2x16384x4x32, .f32⟩
  | 35 => ⟨S2x16384x4x32, .f32⟩
  | 36 => ⟨S2x16384x4x32, .f32⟩
  | 37 => ⟨S2x16384x4x32, .f32⟩
  | 38 => ⟨S2x16384x4x32, .f32⟩
  | 39 => ⟨S2x16384x4x64, .f32⟩
  | 40 => ⟨S32768x1024, .f32⟩
  | 41 => ⟨S512x1024, .f32⟩
  | 42 => ⟨S33280x1024, .f32⟩
  | 43 => ⟨S32768x256, .f32⟩
  | 44 => ⟨S512x256, .f32⟩
  | 45 => ⟨S33280x256, .f32⟩
  | 46 => ⟨S32768x256, .f32⟩
  | 47 => ⟨S512x256, .f32⟩
  | 48 => ⟨S33280x256, .f32⟩
  | 49 => ⟨S_, .f32⟩
  | 50 => ⟨S_, .f32⟩
  | 51 => ⟨S_, .f32⟩
  | 52 => ⟨S_, .f32⟩
  | 53 => ⟨S33280x1024, .f32⟩
  | 54 => ⟨S33280x1024, .f32⟩
  | 55 => ⟨S1024x33280, .f32⟩
  | 56 => ⟨S1024x33280, .bf16⟩
  | 57 => ⟨S33280x256, .bf16⟩
  | 58 => ⟨S256x33280, .f32⟩
  | 59 => ⟨S256x33280, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_c : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_v6 : Ref sig .tc := ⟨.hbm, 80, rfl⟩
abbrev main_call0_v7 : Ref sig .tc := ⟨.hbm, 81, rfl⟩
abbrev main_call0_v8 : Ref sig .tc := ⟨.hbm, 82, rfl⟩
abbrev main_call0_c : Ref sig .tc := ⟨.hbm, 83, rfl⟩
abbrev main_call0_v9 : Ref sig .tc := ⟨.hbm, 84, rfl⟩
abbrev main_call0_v10 : Ref sig .tc := ⟨.hbm, 85, rfl⟩
abbrev main_call0_v11 : Ref sig .tc := ⟨.hbm, 86, rfl⟩
abbrev main_call0_c_0 : Ref sig .tc := ⟨.hbm, 87, rfl⟩
abbrev main_call0_v12 : Ref sig .tc := ⟨.hbm, 88, rfl⟩
abbrev main_call0_v13 : Ref sig .tc := ⟨.hbm, 89, rfl⟩
abbrev main_v59 : Ref sig .tc := ⟨.hbm, 90, rfl⟩
abbrev main_c_7 : Ref sig .tc := ⟨.hbm, 91, rfl⟩
abbrev main_call1_v0 : Ref sig .tc := ⟨.hbm, 92, rfl⟩
abbrev main_call1_c : Ref sig .tc := ⟨.hbm, 93, rfl⟩
abbrev main_call1_v1 : Ref sig .tc := ⟨.hbm, 94, rfl⟩
abbrev main_call1_c_0 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_call1_c_1 : Ref sig .tc := ⟨.hbm, 99, rfl⟩
abbrev main_call1_v5 : Ref sig .tc := ⟨.hbm, 100, rfl⟩
abbrev main_call1_v6 : Ref sig .tc := ⟨.hbm, 101, rfl⟩
abbrev main_call1_c_2 : Ref sig .tc := ⟨.hbm, 102, rfl⟩
abbrev main_call1_v7 : Ref sig .tc := ⟨.hbm, 103, rfl⟩
abbrev main_call1_v8 : Ref sig .tc := ⟨.hbm, 104, rfl⟩
abbrev main_call1_c_3 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_call1_v12 : Ref sig .tc := ⟨.hbm, 109, rfl⟩
abbrev main_call1_v13 : Ref sig .tc := ⟨.hbm, 110, rfl⟩
abbrev main_call1_v14 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_cst_8 : Ref sig .tc := ⟨.hbm, 115, rfl⟩
abbrev main_v63 : Ref sig .tc := ⟨.hbm, 116, rfl⟩
abbrev main_v64 : Ref sig .tc := ⟨.hbm, 117, rfl⟩
abbrev main_cst_9 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_cst_10 : Ref sig .tc := ⟨.hbm, 177, rfl⟩
abbrev main_v123 : Ref sig .tc := ⟨.hbm, 178, rfl⟩
abbrev main_cst_11 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩

abbrev nD : Nat := 1
abbrev τ : Topo := Topo.v7x

variable {F : FTy → Type} [FloatOps F]
-- ==== Proof.Proj.Spec.lean ====
/- What the attentions' projections compute for one row. -/
module

public import Idealize.ShloMosaic.Lib.Pointwise

@[expose] public section

noncomputable section

namespace Cert.Proj

open Idealize.ShloMosaic

/-- A row normalised by the root of its mean square, times the gain, modulated by a scale and a shift. -/
def normed (x g sc sh : Fin 1024 → EReal) (j : Fin 1024) : EReal :=
  x j * Ideal.rsqrt (Ideal.div (∑ k, x k * x k) (Ideal.ofBits .f32 0x44800000#32) + Ideal.ofBits .f32 0x358637BD#32) * g j
    * (1 + sc j) + sh j

/-- The rows of both batches one after the other, those of the latents first. -/
def rowAt (x : Vec Ideal ⟨3, ![2, 16384, 1024]⟩ .f32) (ctx : Vec Ideal ⟨3, ![2, 256, 1024]⟩ .f32) (i : Fin 33280) (j : Fin 1024) : EReal :=
  if h : i.val < 32768 then x (ix3 ⟨i.val / 16384, by omega⟩ ⟨i.val % 16384, by omega⟩ j)
  else ctx (ix3 ⟨(i.val - 32768) / 256, by omega⟩ ⟨(i.val - 32768) % 256, by omega⟩ j)

/-- The part of a row's modulation vector that starts at `o`: the batch's for a latent row, the shared one for a context row. -/
def modAt (ml : Vec Ideal ⟨2, ![2, 6144]⟩ .f32) (mc : Vec Ideal ⟨1, ![6144]⟩ .f32) (o : Nat) (ho : o ≤ 5120) (i : Fin 33280) (j : Fin 1024) : EReal :=
  if h : i.val < 32768 then ml (ix2 ⟨i.val / 16384, by omega⟩ ⟨o + j.val, by omega⟩) else mc (ix1 ⟨o + j.val, by omega⟩)

/-- The projection of row `i` on column `e` of the weights. -/
def projAt (x : Vec Ideal ⟨3, ![2, 16384, 1024]⟩ .f32) (ctx : Vec Ideal ⟨3, ![2, 256, 1024]⟩ .f32) (ml : Vec Ideal ⟨2, ![2, 6144]⟩ .f32)
    (mc : Vec Ideal ⟨1, ![6144]⟩ .f32) (g : Vec Ideal ⟨1, ![1024]⟩ .f32) {N : Nat} (w : Vec Ideal ⟨2, ![1024, N]⟩ .f32) (i : Fin 33280) (e : Fin N) : EReal :=
  ∑ j, normed (rowAt x ctx i) (fun j => g (ix1 j)) (modAt ml mc 1024 (by omega) i) (modAt ml mc 0 (by omega) i) j * w (ix2 j e)

end Cert.Proj

end
-- ==== Proof.Rot.Spec.lean ====
/- The rotation of a row's projections by its position's angles. -/
module

public import proofs.«01_k».proof.Proof.Proj.Spec

@[expose] public section

noncomputable section

namespace Cert.Rot

open Idealize.ShloMosaic

/-- The column a column is rotated with: the one in the other half of its head of 64. -/
def swap {N : Nat} [h : Fact (64 ∣ N)] (e : Fin N) : Fin N :=
  ⟨if e.val % 64 < 32 then e.val + 32 else e.val - 32, by
    have h₁ := e.isLt
    obtain ⟨k, hk⟩ := h.out
    split <;> omega⟩

instance : Fact (64 ∣ 64) := ⟨by decide⟩
instance : Fact (64 ∣ 256) := ⟨by decide⟩
instance : Fact (64 ∣ 1536) := ⟨by decide⟩

/-- The rotation of column `e` of row `i`, `ang` the latent positions' angles; the context rows are not rotated. -/
def turned (ang : Vec Ideal ⟨2, ![16384, 32]⟩ .f32) (P : Fin 1536 → EReal) (i : Fin 33280) (e : Fin 1536) : EReal :=
  if i.val < 32768 then
    P e * Ideal.cos (ang (ix2 ⟨i.val % 16384, by omega⟩ ⟨e.val % 32, by omega⟩))
      + P (swap e) * (if e.val % 64 < 32 then -Ideal.sin (ang (ix2 ⟨i.val % 16384, by omega⟩ ⟨e.val % 32, by omega⟩))
          else Ideal.sin (ang (ix2 ⟨i.val % 16384, by omega⟩ ⟨e.val % 32, by omega⟩)))
  else P e

end Cert.Rot

end
-- ==== Proof.Rot.Point.lean ====
/- What one point of the rotated projections' kernel leaves in its three blocks. -/
module

public import proofs.«01_k».proof.Proof.Rot.Spec
public import proofs.«01_k».proof.Proof.Gen.Kernel7Ideal.Value
public import Idealize.ShloMosaic.Lib.Ring

@[expose] public section

set_option maxRecDepth 16384

noncomputable section

namespace Cert.Kernel7Ideal.Rot

open Idealize.ShloMosaic Idealize.ShloMosaic.TcCoe
open Cert.Kernel7Ideal.Gen Cert.Proj Cert.Rot

/-- The queries' scale. -/
def scale : EReal := (((1 / 8) * (Real.log 2)⁻¹ : ℝ) : EReal)

/-- The kernel's constant is the scale. -/
theorem scale_eq : Named.named (F := Ideal) κ "q_scale" (φ := .f32) 0x3E38AA3B#32 = scale :=
  IdealRules.named_const.ideal_named_scalar _ _ _ _ rfl

/-- A block's lanes: 0 to 255, in every row. -/
def lanes : IVec S512x256 32 := iota .tc S512x256 32 [1] iota_S512x256_d1_w32

theorem pay3_apply (x : Vec Ideal S512x1024 .f32) (g : Vec Ideal S1x1024 .f32) (sc sh : Vec Ideal S1x1x1024 .f32) (r : Fin 512) (j : Fin 1024) :
    k0_pay3 x g sc sh (ix2 r j)
      = normed (fun j => x (ix2 r j)) (fun j => g (ix2 0 j)) (fun j => sc (ix3 0 0 j)) (fun j => sh (ix3 0 0 j)) j := by
  unfold k0_pay3 normed
  pointwise

theorem pay8_apply (h : FVec Ideal S512x1024 .bf16) (w : Vec Ideal S1024x256 .bf16) (r : Fin 512) (a : Fin 256) :
    k0_pay8 h w (ix2 r a) = (∑ j, h (ix2 r j) * w (ix2 j a) : EReal) := by
  unfold k0_pay8
  pointwise

theorem pay2_apply (h : FVec Ideal S512x1024 .bf16) (w : Vec Ideal S1024x256 .bf16) (a : Fin 256) (r : Fin 512) :
    k0_pay2 h w (ix2 a r) = (∑ j, h (ix2 r j) * w (ix2 j a) : EReal) := by
  unfold k0_pay2
  pointwise

theorem pay5_apply (t : Vec Ideal S512x128 .f32) (r : Fin 512) (a : Fin 256) : k0_pay5 t (ix2 r a) = t (ix2 r ⟨a.val % 128, by omega⟩) := by
  unfold k0_pay5
  pointwise
  split
  · exact congrArg (fun l => t (ix2 r l)) (Fin.ext (by show a.val = a.val % 128; omega))
  · exact congrArg (fun l => t (ix2 r l)) (Fin.ext (by show a.val - 128 = a.val % 128; omega))

/-- Whether a lane is in the first half of its head of 64, as the kernel decides it. -/
def firstHalf (l : BitVec 32) : BitVec 1 :=
  let n := Scalar.select (Scalar.cmpi .eq 64#32 0#32) 1#32 64#32
  let q := IntOp.remsi ArithUnit.vector l n
  IntOp.cmpi .slt (Scalar.select (IntOp.andi (IntOp.xori (IntOp.cmpi .slt q 0#32) (Scalar.cmpi .slt n 0#32)) (IntOp.cmpi .ne q 0#32)) (IntOp.addi q n) q) 32#32

theorem firstHalf_eq : ∀ a : Fin 256, firstHalf (BitVec.ofNat 32 a.val) = if a.val % 64 < 32 then 1#1 else 0#1 := by decide +kernel

/-- The kernel's choice between a block turned one way and the other is the column in the other half of the head. -/
theorem halves (p : FVec Ideal S512x256 .f32) (r : Fin 512) (a : Fin 256) :
    Scalar.select (firstHalf (BitVec.ofNat 32 a.val)) (p (ix2 r ⟨(a.val + 256 - 224) % 256, by omega⟩)) (p (ix2 r ⟨(a.val + 256 - 32) % 256, by omega⟩))
      = p (ix2 r (swap a)) := by
  rw [firstHalf_eq]
  unfold swap
  by_cases h : a.val % 64 < 32
  · rw [if_pos h]
    exact congrArg (fun l => p (ix2 r l)) (Fin.ext (by show (a.val + 256 - 224) % 256 = if a.val % 64 < 32 then a.val + 32 else a.val - 32; rw [if_pos h]; omega))
  · rw [if_neg h]
    exact congrArg (fun l => p (ix2 r l)) (Fin.ext (by show (a.val + 256 - 32) % 256 = if a.val % 64 < 32 then a.val + 32 else a.val - 32; rw [if_neg h]; omega))

theorem pay7_apply (p sn u : FVec Ideal S512x256 .f32) (a : Fin 256) (r : Fin 512) :
    k0_pay7 p sn u lanes (ix2 a r) = (u (ix2 r a) + p (ix2 r (swap a)) * sn (ix2 r a) : EReal) * scale := by
  unfold k0_pay7 lanes
  pointwise
  rw [scale_eq]
  refine congrArg (fun z : EReal => (u (ix2 r a) + z * sn (ix2 r a)) * scale) ?_
  exact halves p r a

theorem pay1_apply (p sn u : FVec Ideal S512x256 .f32) (r : Fin 512) (a : Fin 256) :
    k0_pay1 p sn u lanes 64#32 (Scalar.cmpi .eq 64#32 0#32) 1#32 (ix2 r a) = (u (ix2 r a) + p (ix2 r (swap a)) * sn (ix2 r a) : EReal) := by
  unfold k0_pay1 lanes
  pointwise
  refine congrArg (fun z : EReal => u (ix2 r a) + z * sn (ix2 r a)) ?_
  exact halves p r a

/-- The products of the rows with 256 of the weights' columns, rotated. -/
def turn (h : FVec Ideal S512x1024 .bf16) (w : Vec Ideal S1024x256 .bf16) (cs sn : Vec Ideal S512x128 .f32) (r : Fin 512) (a : Fin 256) : EReal :=
  k0_pay8 h w (ix2 r a) * cs (ix2 r ⟨a.val % 128, by omega⟩) + k0_pay8 h w (ix2 r (swap a)) * sn (ix2 r ⟨a.val % 128, by omega⟩)

theorem pay10_apply (h : FVec Ideal S512x1024 .bf16) (w : Vec Ideal S1024x256 .bf16) (cs : Vec Ideal S512x128 .f32) (r : Fin 512) (a : Fin 256) :
    k0_pay10 h w cs (ix2 r a) = (k0_pay8 h w (ix2 r a) * cs (ix2 r ⟨a.val % 128, by omega⟩) : EReal) :=
  congrArg (fun z : EReal => k0_pay8 h w (ix2 r a) * z) (pay5_apply cs r a)

/-- A store of queries: the rotated products, scaled, -/
theorem queries_apply (h : FVec Ideal S512x1024 .bf16) (w : Vec Ideal S1024x256 .bf16) (cs sn : Vec Ideal S512x128 .f32) (a : Fin 256) (r : Fin 512) :
    k0_pay7 (k0_pay8 h w) (k0_pay5 sn) (k0_pay10 h w cs) lanes (ix2 a r) = turn h w cs sn r a * scale := by
  rw [pay7_apply, pay10_apply, pay5_apply]
  rfl

/-- and that of the keys, unscaled. -/
theorem keys_apply (h : FVec Ideal S512x1024 .bf16) (w : Vec Ideal S1024x256 .bf16) (cs sn : Vec Ideal S512x128 .f32) (r : Fin 512) (a : Fin 256) :
    k0_pay1 (k0_pay8 h w) (k0_pay5 sn) (k0_pay10 h w cs) lanes 64#32 (Scalar.cmpi .eq 64#32 0#32) 1#32 (ix2 r a) = turn h w cs sn r a := by
  rw [pay1_apply, pay10_apply, pay5_apply]
  rfl

/-- A block of 256 of the weights' columns. -/
theorem cols_apply (w : Vec Ideal S1024x1536 .bf16) (o : Nat) (inb : ∀ a, ![0, o] a + S1024x256.size a ≤ S1024x1536.size a)
    (j : Fin 1024) (a : Fin 256) (e : Fin 1536) (he : e.val = o + a.val) :
    View.ld w (Rect.unit (s := S1024x1536) ![0, o] S1024x256.size inb) (ix2 j a) = w (ix2 j e) := by
  refine congrArg w (funext fun d => Fin.ext ?_)
  match d with
  | ⟨0, _⟩ => show 0 + 1 * j.val = j.val; omega
  | ⟨1, _⟩ => show o + 1 * a.val = e.val; omega

/-- The rows' products with a column of the weights. -/
def prod (h : FVec Ideal S512x1024 .bf16) (w : Vec Ideal S1024x1536 .bf16) (r : Fin 512) (e : Fin 1536) : EReal :=
  ∑ j, h (ix2 r j) * w (ix2 j e)

theorem part_apply (h : FVec Ideal S512x1024 .bf16) (w : Vec Ideal S1024x1536 .bf16) (o : Nat)
    (inb : ∀ a, ![0, o] a + S1024x256.size a ≤ S1024x1536.size a) (r : Fin 512) (a : Fin 256) (e : Fin 1536) (he : e.val = o + a.val) :
    k0_pay8 h (View.ld w (Rect.unit (s := S1024x1536) ![0, o] S1024x256.size inb)) (ix2 r a) = prod h w r e :=
  (pay8_apply h _ r a).trans (Finset.sum_congr rfl fun j _ => congrArg (fun z : EReal => h (ix2 r j) * z) (cols_apply w o inb j a e he))

/-- The rotated products. -/
def turnedProd (h : FVec Ideal S512x1024 .bf16) (w : Vec Ideal S1024x1536 .bf16) (cs sn : Vec Ideal S512x128 .f32) (r : Fin 512) (e : Fin 1536) : EReal :=
  prod h w r e * cs (ix2 r ⟨e.val % 128, by omega⟩) + prod h w r (swap e) * sn (ix2 r ⟨e.val % 128, by omega⟩)

theorem turn_eq (h : FVec Ideal S512x1024 .bf16) (w : Vec Ideal S1024x1536 .bf16) (cs sn : Vec Ideal S512x128 .f32) (o : Nat) (ho : o % 128 = 0)
    (inb : ∀ a, ![0, o] a + S1024x256.size a ≤ S1024x1536.size a) (r : Fin 512) (a : Fin 256) (e : Fin 1536) (he : e.val = o + a.val) :
    turn h (View.ld w (Rect.unit (s := S1024x1536) ![0, o] S1024x256.size inb)) cs sn r a = turnedProd h w cs sn r e := by
  have hs : (swap e).val = o + (swap a).val := by
    show (if e.val % 64 < 32 then e.val + 32 else e.val - 32) = o + (if a.val % 64 < 32 then a.val + 32 else a.val - 32)
    by_cases h : a.val % 64 < 32
    · rw [if_pos h, if_pos (by omega)]; omega
    · rw [if_neg h, if_neg (by omega)]; omega
  have hl : (⟨a.val % 128, by omega⟩ : Fin 128) = ⟨e.val % 128, by omega⟩ := Fin.ext (by show a.val % 128 = e.val % 128; omega)
  unfold turn turnedProd
  rw [part_apply h w o inb r a e he, part_apply h w o inb r (swap a) (swap e) hs, hl]

/-- The queries' block. -/
def qBlk (h : FVec Ideal S512x1024 .bf16) (w : Vec Ideal S1024x1536 .bf16) (cs sn : Vec Ideal S512x128 .f32) : Vec Ideal S1024x512 .bf16 :=
  fun y => turnedProd h w cs sn (y 1) ⟨(y 0).val, by have : (y 0).val < 1024 := (y 0).isLt; omega⟩ * scale

/-- Every store of 256 query rows is a part of the queries' block. -/
theorem q_piece (h : FVec Ideal S512x1024 .bf16) (w : Vec Ideal S1024x1536 .bf16) (cs sn : Vec Ideal S512x128 .f32) (o : Nat) (ho : o % 128 = 0)
    (inb : ∀ a, ![o, 0] a + S256x512.size a ≤ S1024x512.size a) (inb' : ∀ a, ![0, o] a + S1024x256.size a ≤ S1024x1536.size a) (x : S256x512.Idx) :
    k0_pay7 (k0_pay8 h (View.ld w (Rect.unit (s := S1024x1536) ![0, o] S1024x256.size inb'))) (k0_pay5 sn)
        (k0_pay10 h (View.ld w (Rect.unit (s := S1024x1536) ![0, o] S1024x256.size inb')) cs) lanes x
      = qBlk h w cs sn ((Rect.unit (s := S1024x512) ![o, 0] S256x512.size inb).emb x) := by
  obtain ⟨a, r, rfl⟩ : ∃ (a : Fin 256) (r : Fin 512), x = ix2 a r := ⟨x 0, x 1, eq_ix2 x⟩
  refine (queries_apply h _ cs sn a r).trans ?_
  unfold qBlk
  refine congrArg (fun z : EReal => z * scale) ((turn_eq h w cs sn o ho inb' r a _ ?_).trans
    (congrArg (fun r => turnedProd h w cs sn r _) (Fin.ext ?_)))
  · show o + 1 * a.val = o + a.val
    omega
  · show r.val = 0 + 1 * r.val
    omega

variable (x0 : Vec Ideal S512x1024 .f32) (x1 : Vec Ideal S1x1024 .f32) (x2 x3 : Vec Ideal S1x1x1024 .f32) (x4 : Vec Ideal S1024x1536 .bf16)
  (x5 x6 : Vec Ideal S512x128 .f32)

theorem rows_eq : k0_pay23 x0 x1 x2 x3 x4 x5 x6 = k0_pay3 x0 x1 x2 x3 := by
  unfold k0_pay23
  rw [View.ld_unit_zero (by decide), View.ld_unit_zero (by decide), View.ld_unit_zero (by decide), View.ld_unit_zero (by decide)]

theorem angles_eq (t : Vec Ideal S512x128 .f32) : View.ld t r0_4 = t := by
  rw [View.ld_unit_zero (by decide)]

theorem out7_eq : out0_7 x0 x1 x2 x3 x4 x5 x6 = qBlk (k0_pay3 x0 x1 x2 x3) x4 x5 x6 := by
  rw [← rows_eq x0 x1 x2 x3 x4 x5 x6]
  conv_rhs => rw [← angles_eq x5, ← angles_eq x6]
  funext y
  refine View.canon_apply_of_pieces (qBlk (k0_pay23 x0 x1 x2 x3 x4 x5 x6) x4 (View.ld x5 r0_4) (View.ld x6 r0_4)) _ (fun p hp x => ?_) y (cover0_7 _ _ _ _ y)
  simp only [List.mem_cons, List.not_mem_nil, or_false] at hp
  rcases hp with rfl | rfl | rfl | rfl
  · exact q_piece _ x4 _ _ 768 rfl inb_S1024x512_S256x512_768_0 _ x
  · exact q_piece _ x4 _ _ 512 rfl inb_S1024x512_S256x512_512_0 _ x
  · exact q_piece _ x4 _ _ 256 rfl inb_S1024x512_S256x512_256_0 _ x
  · exact q_piece _ x4 _ _ 0 rfl inb_S1024x512_S256x512_0_0 _ x

theorem out8_apply (r : Fin 512) (a : Fin 256) :
    out0_8 x0 x1 x2 x3 x4 x5 x6 (ix2 r a) = turnedProd (k0_pay3 x0 x1 x2 x3) x4 x5 x6 r ⟨1024 + a.val, by omega⟩ := by
  rw [← rows_eq x0 x1 x2 x3 x4 x5 x6]
  conv_rhs => rw [← angles_eq x5, ← angles_eq x6]
  unfold out0_8
  rw [View.canon_unit_zero (by decide)]
  exact (keys_apply _ _ _ _ r a).trans (turn_eq _ x4 _ _ 1024 rfl _ r a _ rfl)

theorem out9_apply (a : Fin 256) (r : Fin 512) :
    out0_9 x0 x1 x2 x3 x4 x5 x6 (ix2 a r) = prod (k0_pay3 x0 x1 x2 x3) x4 r ⟨1280 + a.val, by omega⟩ := by
  rw [← rows_eq x0 x1 x2 x3 x4 x5 x6]
  unfold out0_9
  rw [View.canon_unit_zero (by decide)]
  exact (pay2_apply _ _ a r).trans (Finset.sum_congr rfl fun j _ => congrArg (fun z : EReal => _ * z) (cols_apply x4 1280 _ j a _ rfl))

end Cert.Kernel7Ideal.Rot

end
-- ==== Proof.Proj.Entry.lean ====
/- What the host code before the call leaves in the arrays the projections' kernel reads, entry by entry. -/
module

public import proofs.«01_k».proof.Proof.Proj.Spec
public import proofs.«01_k».proof.Proof.Gen.Kernel6Ideal.Frame
public import Idealize.ShloMosaic.Lib.Ring

@[expose] public section

set_option maxRecDepth 16384

noncomputable section

namespace Cert.Kernel6Ideal.Proj

open Idealize.ShloMosaic Idealize.ShloMosaic.TcCoe
open Cert.Kernel6Ideal.Gen Cert.Proj

/-- The rows of both batches one after the other, those of the latents first. -/
def rows (x : FVec Ideal S2x16384x1024 .f32) (ctx : FVec Ideal S2x256x1024 .f32) : FVec Ideal S33280x1024 .f32 :=
  concatenate S33280x1024 0
    [⟨S32768x1024, shapeCast S32768x1024 x shapeCasts_S2x16384x1024_S32768x1024⟩,
      ⟨S512x1024, shapeCast S512x1024 ctx shapeCasts_S2x256x1024_S512x1024⟩]
    concatenates_S32768x1024_S512x1024_S33280x1024_d0

/-- The modulation vectors one under the other: the batches', the shared one, zeros. -/
def mods (ml : FVec Ideal S2x6144 .f32) (mc : FVec Ideal S6144 .f32) : FVec Ideal S8x6144 .f32 :=
  concatenate S8x6144 0
    [⟨S2x6144, ml⟩, ⟨S1x6144, broadcastInDim S1x6144 ![1] bcast_S6144_S1x6144_1 mc⟩,
      ⟨S5x6144, broadcastInDim S5x6144 ![] bcast_S_S5x6144 (constant S_ .f32 0x00000000#32)⟩]
    concatenates_S2x6144_S1x6144_S5x6144_S8x6144_d0

/-- The same cut into six parts, the eight vectors' first parts first. -/
def parts (M : FVec Ideal S8x6144 .f32) : FVec Ideal S48x1x1024 .f32 :=
  shapeCast S48x1x1024
    (transpose S6x8x1024 [1, 0, 2] (shapeCast S8x6x1024 M shapeCasts_S8x6144_S8x6x1024) transposes_S8x6x1024_S6x8x1024_1_0_2)
    shapeCasts_S6x8x1024_S48x1x1024

variable (m : (ℓ : Loc nD τ sig) → Buf (Elt Ideal) ℓ) (c : Dev nD)

theorem V_rows : V m c main_v2 = rows (m ((c.tc : Thread nD τ).loc main_arg0)) (m ((c.tc : Thread nD τ).loc main_arg1)) := by
  sl_kernel_rfl

theorem V_parts : V m c main_v8 = parts (mods (m ((c.tc : Thread nD τ).loc main_arg2)) (m ((c.tc : Thread nD τ).loc main_arg3))) := by
  sl_kernel_rfl

theorem V_gain : V m c main_v10 = broadcastInDim S1x1024 ![1] bcast_S1024_S1x1024_1 (m ((c.tc : Thread nD τ).loc main_arg4)) := by
  sl_kernel_rfl

theorem V_weights : V m c main_v11 = truncf (F := Ideal) .bf16 (m ((c.tc : Thread nD τ).loc main_arg5) : FVec Ideal S1024x3072 .f32) bitsLt_bf16_f32 := by
  sl_kernel_rfl

theorem rows_apply (x : FVec Ideal S2x16384x1024 .f32) (ctx : FVec Ideal S2x256x1024 .f32) (i : Fin 33280) (j : Fin 1024) :
    rows x ctx (ix2 i j) = rowAt x ctx i j := by
  unfold rows rowAt
  pointwise

theorem gain_apply (g : FVec Ideal S1024 .f32) (j : Fin 1024) : broadcastInDim S1x1024 ![1] bcast_S1024_S1x1024_1 g (ix2 0 j) = g (ix1 j) := by
  pointwise

/-- Part `p` of vector `b`. -/
theorem parts_apply (M : FVec Ideal S8x6144 .f32) (p : Fin 6) (b : Fin 8) (k : Fin 48) (hk : k.val = p.val * 8 + b.val) (j : Fin 1024) :
    parts M (ix3 k 0 j) = M (ix2 b ⟨p.val * 1024 + j.val, by omega⟩) := by
  have h₁ : k.val / 8 = p.val := by omega
  have h₂ : k.val % 8 = b.val := by omega
  unfold parts
  pointwise
  simp only [h₁, h₂]

theorem mods_apply (ml : FVec Ideal S2x6144 .f32) (mc : FVec Ideal S6144 .f32) (b : Fin 8) (i : Fin 33280)
    (hl : i.val < 32768 → b.val = i.val / 16384) (hc : ¬ i.val < 32768 → b.val = 2) (o : Nat) (ho : o ≤ 5120) (j : Fin 1024) :
    mods ml mc (ix2 b ⟨o + j.val, by omega⟩) = modAt ml mc o ho i j := by
  unfold mods modAt
  pointwise
  by_cases hi : i.val < 32768
  · have hb := hl hi
    rw [dif_pos (show b.val < 2 by omega), dif_pos hi]
    simp only [hb]
  · have hb := hc hi
    rw [dif_neg (show ¬ b.val < 2 by omega), dif_pos (show b.val - 2 < 1 by omega), dif_neg hi]

end Cert.Kernel6Ideal.Proj

end
-- ==== Proof.Rot.Entry.lean ====
/- What the host code before the call leaves in the arrays the rotated projections' kernel reads, entry by entry. -/
module

public import proofs.«01_k».proof.Proof.Proj.Entry
public import proofs.«01_k».proof.Proof.Rot.Spec
public import proofs.«01_k».proof.Proof.Gen.Kernel7Ideal.Frame
public import Idealize.ShloMosaic.Lib.Ring

@[expose] public section

set_option maxRecDepth 16384

noncomputable section

namespace Cert.Kernel7Ideal.Rot

open Idealize.ShloMosaic Idealize.ShloMosaic.TcCoe
open Cert.Kernel7Ideal.Gen Cert.Proj Cert.Rot
open Cert.Kernel6Ideal.Proj (rows mods parts)

/-- A table of both batches' latent rows, of one value in the context rows, twice over the lanes. -/
def table (T : FVec Ideal S16384x64 .f32) (z : FVec Ideal S_ .f32) : FVec Ideal S33280x128 .f32 :=
  let rows : FVec Ideal S33280x64 .f32 := concatenate S33280x64 0
    [⟨S32768x64, shapeCast S32768x64 (broadcastInDim S2x16384x1x64 ![0, 1, 2, 3] bcast_S1x16384x1x64_S2x16384x1x64_0_1_2_3
        (shapeCast S1x16384x1x64 T shapeCasts_S16384x64_S1x16384x1x64)) shapeCasts_S2x16384x1x64_S32768x64⟩,
      ⟨S512x64, broadcastInDim S512x64 ![] bcast_S_S512x64 z⟩] concatenates_S32768x64_S512x64_S33280x64_d0
  concatenate S33280x128 1 [⟨S33280x64, rows⟩, ⟨S33280x64, rows⟩] concatenates_S33280x64_S33280x64_S33280x128_d1

/-- Two halves of a head side by side. -/
def pair (a b : FVec Ideal S16384x32 .f32) : FVec Ideal S16384x64 .f32 :=
  concatenate S16384x64 1 [⟨S16384x32, a⟩, ⟨S16384x32, b⟩] concatenates_S16384x32_S16384x32_S16384x64_d1

/-- The angles' cosines, 1 in the context rows; -/
def cosTab (A : FVec Ideal S16384x32 .f32) : FVec Ideal S33280x128 .f32 :=
  table (pair (Host.cos A) (Host.cos A)) (constant S_ .f32 0x3F800000#32)
/-- and their sines, negated in a head's first half, 0 in the context rows. -/
def sinTab (A : FVec Ideal S16384x32 .f32) : FVec Ideal S33280x128 .f32 :=
  table (pair (Host.negf (Host.sin A)) (Host.sin A)) (constant S_ .f32 0x00000000#32)

variable (m : (ℓ : Loc nD τ sig) → Buf (Elt Ideal) ℓ) (c : Dev nD)

theorem V_rows : V m c main_v2 = rows (m ((c.tc : Thread nD τ).loc main_arg0)) (m ((c.tc : Thread nD τ).loc main_arg1)) := by
  sl_kernel_rfl

theorem V_parts : V m c main_v8 = parts (mods (m ((c.tc : Thread nD τ).loc main_arg2)) (m ((c.tc : Thread nD τ).loc main_arg3))) := by
  sl_kernel_rfl

theorem V_gain : V m c main_v48 = broadcastInDim S1x1024 ![1] bcast_S1024_S1x1024_1 (m ((c.tc : Thread nD τ).loc main_arg4)) := by
  sl_kernel_rfl

theorem V_weights : V m c main_v49 = truncf (F := Ideal) .bf16 (m ((c.tc : Thread nD τ).loc main_arg5) : FVec Ideal S1024x1536 .f32) bitsLt_bf16_f32 := by
  sl_kernel_rfl

theorem V_cos : V m c main_v46 = cosTab (V m c main_v30) := by
  sl_kernel_rfl

theorem V_sin : V m c main_v47 = sinTab (V m c main_v30) := by
  sl_kernel_rfl

theorem pair_apply (a b : FVec Ideal S16384x32 .f32) (n : Fin 16384) (l : Fin 64) :
    pair a b (ix2 n l) = if l.val < 32 then a (ix2 n ⟨l.val % 32, by omega⟩) else b (ix2 n ⟨l.val % 32, by omega⟩) := by
  unfold pair
  pointwise
  by_cases h : l.val < 32
  · rw [dif_pos h, if_pos h]
    exact congrArg (fun k => a (ix2 n k)) (Fin.ext (by show l.val = l.val % 32; omega))
  · rw [dif_neg h, if_neg h]
    exact congrArg (fun k => b (ix2 n k)) (Fin.ext (by show l.val - 32 = l.val % 32; omega))

theorem table_apply (T : FVec Ideal S16384x64 .f32) (z : FVec Ideal S_ .f32) (i : Fin 33280) (l : Fin 128) :
    table T z (ix2 i l) = if i.val < 32768 then T (ix2 ⟨i.val % 16384, by omega⟩ ⟨l.val % 64, by omega⟩) else z ix0 := by
  unfold table
  pointwise
  by_cases h : l.val < 64
  · rw [dif_pos h]
    simp only [Nat.mod_eq_of_lt h]
    rfl
  · rw [dif_neg h]
    simp only [show l.val % 64 = l.val - 64 by omega]
    rfl

theorem cos_apply (A : FVec Ideal S16384x32 .f32) (i : Fin 33280) (l : Fin 128) :
    cosTab A (ix2 i l) = if i.val < 32768 then Ideal.cos (A (ix2 ⟨i.val % 16384, by omega⟩ ⟨l.val % 32, by omega⟩)) else (1 : EReal) := by
  unfold cosTab
  rw [table_apply, pair_apply]
  pointwise
  simp only [ite_self, Nat.mod_mod_of_dvd _ (show 32 ∣ 64 by decide)]

theorem sin_apply (A : FVec Ideal S16384x32 .f32) (i : Fin 33280) (l : Fin 128) :
    sinTab A (ix2 i l) = if i.val < 32768 then
        (if l.val % 64 < 32 then -Ideal.sin (A (ix2 ⟨i.val % 16384, by omega⟩ ⟨l.val % 32, by omega⟩))
          else Ideal.sin (A (ix2 ⟨i.val % 16384, by omega⟩ ⟨l.val % 32, by omega⟩))) else (0 : EReal) := by
  unfold sinTab
  rw [table_apply, pair_apply]
  pointwise
  simp only [Nat.mod_mod_of_dvd _ (show 32 ∣ 64 by decide)]

/-- The kernel's rotation, with these tables, is the rotation by the angles. -/
theorem turned_eq (A : FVec Ideal S16384x32 .f32) (P : Fin 1536 → EReal) (i : Fin 33280) (e : Fin 1536) :
    P e * cosTab A (ix2 i ⟨e.val % 128, by omega⟩) + P (swap e) * sinTab A (ix2 i ⟨e.val % 128, by omega⟩) = turned A P i e := by
  rw [cos_apply, sin_apply]
  unfold turned
  by_cases h : i.val < 32768
  · simp only [if_pos h, Nat.mod_mod_of_dvd _ (show 32 ∣ 128 by decide), Nat.mod_mod_of_dvd _ (show 64 ∣ 128 by decide)]
  · simp only [if_neg h, mul_one, mul_zero, add_zero]

end Cert.Kernel7Ideal.Rot

end
-- ==== Proof.Rot.Value.lean ====
/- The three arrays the rotated projections' kernel leaves: queries, keys and values of every row. A point is a block of 512 rows. -/
module

public import proofs.«01_k».proof.Proof.Rot.Point
public import proofs.«01_k».proof.Proof.Rot.Entry
public import Idealize.ShloMosaic.Lib.Pipeline.ValueKit

@[expose] public section

set_option maxRecDepth 16384

noncomputable section

namespace Cert.Kernel7Ideal.Rot

open Idealize.ShloMosaic Idealize.ShloMosaic.TcCoe
open Idealize.ShloMosaic.Pipeline (Dat)
open Cert.Kernel7Ideal.Gen Cert.Proj Cert.Rot
open Cert.Kernel6Ideal.Proj (rows_apply mods_apply parts_apply)

/-- The block of rows of point `t`. -/
def tile (t : Fin cfg0.N) : Fin 65 := grid0.coords t 0
/-- The modulation vector its rows have: their batch's, or the third. -/
def vec (t : Fin cfg0.N) : Fin 8 := if h : (tile t).val < 64 then ⟨(tile t).val / 32, by omega⟩ else 2

theorem idx0 : ∀ t : Fin cfg0.N, win0_0.index t = ![(tile t).val, 0] := by decide +kernel
theorem idx1 : ∀ t : Fin cfg0.N, win0_1.index t = ![0, 0] := by decide +kernel
theorem idx2 : ∀ t : Fin cfg0.N, win0_2.index t = ![8 + (vec t).val, 0, 0] := by decide +kernel
theorem idx3 : ∀ t : Fin cfg0.N, win0_3.index t = ![(vec t).val, 0, 0] := by decide +kernel
theorem idx4 : ∀ t : Fin cfg0.N, win0_4.index t = ![0, 0] := by decide +kernel
theorem idx5 : ∀ t : Fin cfg0.N, win0_5.index t = ![(tile t).val, 0] := by decide +kernel
theorem idx6 : ∀ t : Fin cfg0.N, win0_6.index t = ![(tile t).val, 0] := by decide +kernel
theorem idx7 : ∀ t : Fin cfg0.N, win0_7.index t = ![0, (tile t).val] := by decide +kernel
theorem idx8 : ∀ t : Fin cfg0.N, win0_8.index t = ![(tile t).val, 0] := by decide +kernel
theorem idx9 : ∀ t : Fin cfg0.N, win0_9.index t = ![0, (tile t).val] := by decide +kernel

/-- Row `r` of point `t` among all rows. -/
def rowOf (t : Fin cfg0.N) (r : Fin 512) : Fin 33280 := ⟨(tile t).val * 512 + r.val, by omega⟩

theorem vec_latent (t : Fin cfg0.N) (r : Fin 512) (h : (rowOf t r).val < 32768) : (vec t).val = (rowOf t r).val / 16384 := by
  have h' : (tile t).val * 512 + r.val < 32768 := h
  have ht : (tile t).val < 64 := by omega
  unfold vec
  rw [dif_pos ht]
  show (tile t).val / 32 = ((tile t).val * 512 + r.val) / 16384
  omega

theorem vec_context (t : Fin cfg0.N) (r : Fin 512) (h : ¬ (rowOf t r).val < 32768) : (vec t).val = 2 := by
  have h' : ¬ (tile t).val * 512 + r.val < 32768 := h
  unfold vec
  rw [dif_neg (show ¬ (tile t).val < 64 by omega)]
  rfl

variable (m : (ℓ : Loc nD τ sig) → Buf (Elt Ideal) ℓ) (c : Dev nD)

theorem block_rows (t : Fin cfg0.N) (r : Fin 512) (j : Fin 1024) :
    (iblk m c 0 t : Vec Ideal S512x1024 .f32) (ix2 r j) = V m c main_v2 (ix2 (rowOf t r) j) := by
  unfold rowOf
  blk_ext [iblk, idx0 t]

theorem block_gain (t : Fin cfg0.N) (j : Fin 1024) : (iblk m c 1 t : Vec Ideal S1x1024 .f32) (ix2 0 j) = V m c main_v48 (ix2 0 j) := by
  blk_ext [iblk, idx1 t]

theorem block_scale (t : Fin cfg0.N) (j : Fin 1024) :
    (iblk m c 2 t : Vec Ideal S1x1x1024 .f32) (ix3 0 0 j) = V m c main_v8 (ix3 ⟨8 + (vec t).val, by omega⟩ 0 j) := by
  blk_ext [iblk, idx2 t]

theorem block_shift (t : Fin cfg0.N) (j : Fin 1024) :
    (iblk m c 3 t : Vec Ideal S1x1x1024 .f32) (ix3 0 0 j) = V m c main_v8 (ix3 ⟨(vec t).val, by omega⟩ 0 j) := by
  blk_ext [iblk, idx3 t]

theorem block_weights (t : Fin cfg0.N) (j : Fin 1024) (e : Fin 1536) :
    (iblk m c 4 t : Vec Ideal S1024x1536 .bf16) (ix2 j e) = V m c main_v49 (ix2 j e) := by
  blk_ext [iblk, idx4 t]

theorem block_cos (t : Fin cfg0.N) (r : Fin 512) (l : Fin 128) :
    (iblk m c 5 t : Vec Ideal S512x128 .f32) (ix2 r l) = V m c main_v46 (ix2 (rowOf t r) l) := by
  unfold rowOf
  blk_ext [iblk, idx5 t]

theorem block_sin (t : Fin cfg0.N) (r : Fin 512) (l : Fin 128) :
    (iblk m c 6 t : Vec Ideal S512x128 .f32) (ix2 r l) = V m c main_v47 (ix2 (rowOf t r) l) := by
  unfold rowOf
  blk_ext [iblk, idx6 t]

theorem gain_apply (g : FVec Ideal S1024 .f32) (j : Fin 1024) :
    (broadcastInDim S1x1024 ![1] bcast_S1024_S1x1024_1 g : FVec Ideal S1x1024 .f32) (ix2 0 j) = g (ix1 j) := by
  pointwise

/-- The projection of row `i` on column `e`, of the launch's arguments. -/
def proj (i : Fin 33280) (e : Fin 1536) : EReal :=
  projAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) i e

/-- The products of a point's rows are the projections of those rows. -/
theorem prod_eq (t : Fin cfg0.N) (r : Fin 512) (e : Fin 1536) :
    prod (k0_pay3 (iblk m c 0 t) (iblk m c 1 t) (iblk m c 2 t) (iblk m c 3 t)) (iblk m c 4 t) r e = proj m c (rowOf t r) e := by
  unfold prod proj projAt
  refine Finset.sum_congr rfl fun j _ => ?_
  refine congrArg₂ (fun p q : EReal => p * q) ((pay3_apply _ _ _ _ r j).trans ?_) ((block_weights m c t j e).trans ?_)
  · have e₀ : (fun j => (iblk m c 0 t : Vec Ideal S512x1024 .f32) (ix2 r j) : Fin 1024 → EReal)
        = rowAt (m ((c.tc : Thread nD τ).loc main_arg0)) (m ((c.tc : Thread nD τ).loc main_arg1)) (rowOf t r) :=
      funext fun j => (block_rows m c t r j).trans ((congrFun (V_rows m c) _).trans (rows_apply _ _ _ _))
    have e₁ : (fun j => (iblk m c 1 t : Vec Ideal S1x1024 .f32) (ix2 0 j) : Fin 1024 → EReal)
        = fun j => (m ((c.tc : Thread nD τ).loc main_arg4) : Vec Ideal S1024 .f32) (ix1 j) :=
      funext fun j => (block_gain m c t j).trans ((congrFun (V_gain m c) _).trans (gain_apply _ _))
    have e₂ : (fun j => (iblk m c 2 t : Vec Ideal S1x1x1024 .f32) (ix3 0 0 j) : Fin 1024 → EReal)
        = modAt (m ((c.tc : Thread nD τ).loc main_arg2)) (m ((c.tc : Thread nD τ).loc main_arg3)) 1024 (by omega) (rowOf t r) :=
      funext fun j => (block_scale m c t j).trans ((congrFun (V_parts m c) _).trans
        ((parts_apply _ 1 (vec t) _ rfl j).trans (mods_apply _ _ _ _ (vec_latent t r) (vec_context t r) 1024 (by omega) j)))
    have e₃ : (fun j => (iblk m c 3 t : Vec Ideal S1x1x1024 .f32) (ix3 0 0 j) : Fin 1024 → EReal)
        = modAt (m ((c.tc : Thread nD τ).loc main_arg2)) (m ((c.tc : Thread nD τ).loc main_arg3)) 0 (by omega) (rowOf t r) :=
      funext fun j => (block_shift m c t j).trans ((congrFun (V_parts m c) _).trans
        ((parts_apply _ 0 (vec t) _ (by simp) j).trans (mods_apply _ _ _ _ (vec_latent t r) (vec_context t r) 0 (by omega) j)))
    rw [e₀, e₁, e₂, e₃]
  · exact congrFun (V_weights m c) _

/-- Rotated with the point's blocks of the two tables, they are the rotated projections of those rows. -/
theorem turnedProd_eq (t : Fin cfg0.N) (r : Fin 512) (e : Fin 1536) :
    turnedProd (k0_pay3 (iblk m c 0 t) (iblk m c 1 t) (iblk m c 2 t) (iblk m c 3 t)) (iblk m c 4 t) (iblk m c 5 t) (iblk m c 6 t) r e
      = turned (V m c main_v30) (proj m c (rowOf t r)) (rowOf t r) e := by
  refine Eq.trans ?_ (turned_eq _ _ _ _)
  unfold turnedProd
  exact congrArg₂ (fun p q : EReal => p + q)
    (congrArg₂ (fun p q : EReal => p * q) (prod_eq m c t r e) ((block_cos m c t r _).trans (congrFun (V_cos m c) _)))
    (congrArg₂ (fun p q : EReal => p * q) (prod_eq m c t r _) ((block_sin m c t r _).trans (congrFun (V_sin m c) _)))

/-- The queries: every row's scaled rotated projections on the first 1024 columns, one row per column of the result. -/
theorem queries_eq (Y : Vec Ideal S1024x33280 .bf16)
    (hY : ∀ (a : Fin 1024) (i : Fin 33280), Y (ix2 a i) = turned (V m c main_v30) (proj m c i) i ⟨a.val, by omega⟩ * scale) :
    (dats m 0 c).arrAt 7 cfg0.N = Y := by
  refine (dats m 0 c).arrAt_eq_of_covers 7 _ (by decide +kernel) fun t hf (y : S1024x512.Idx) => ?_
  blk_simp
  rw [after0_7, out7_eq]
  obtain ⟨a, r, rfl⟩ : ∃ (a : Fin 1024) (r : Fin 512), y = ix2 a r := ⟨y 0, y 1, eq_ix2 y⟩
  refine (congrArg (fun z : EReal => z * scale) (turnedProd_eq m c t r _)).trans ((hY a (rowOf t r)).symm.trans ?_)
  unfold rowOf
  blk_ext [idx7 t]

/-- The keys: every row's rotated projections on the next 256 columns. -/
theorem keys_eq (Y : Vec Ideal S33280x256 .bf16)
    (hY : ∀ (i : Fin 33280) (a : Fin 256), Y (ix2 i a) = turned (V m c main_v30) (proj m c i) i ⟨1024 + a.val, by omega⟩) :
    (dats m 0 c).arrAt 8 cfg0.N = Y := by
  refine (dats m 0 c).arrAt_eq_of_covers 8 _ (by decide +kernel) fun t hf (y : S512x256.Idx) => ?_
  blk_simp
  rw [after0_8]
  obtain ⟨r, a, rfl⟩ : ∃ (r : Fin 512) (a : Fin 256), y = ix2 r a := ⟨y 0, y 1, eq_ix2 y⟩
  refine (out8_apply _ _ _ _ _ _ _ r a).trans ((turnedProd_eq m c t r _).trans ((hY (rowOf t r) a).symm.trans ?_))
  unfold rowOf
  blk_ext [idx8 t]

/-- The values: every row's projections on the last 256 columns, one row per column of the result. -/
theorem values_eq (Y : Vec Ideal S256x33280 .bf16)
    (hY : ∀ (a : Fin 256) (i : Fin 33280), Y (ix2 a i) = proj m c i ⟨1280 + a.val, by omega⟩) :
    (dats m 0 c).arrAt 9 cfg0.N = Y := by
  refine (dats m 0 c).arrAt_eq_of_covers 9 _ (by decide +kernel) fun t hf (y : S256x512.Idx) => ?_
  blk_simp
  rw [after0_9]
  obtain ⟨a, r, rfl⟩ : ∃ (a : Fin 256) (r : Fin 512), y = ix2 a r := ⟨y 0, y 1, eq_ix2 y⟩
  refine (out9_apply _ _ _ _ _ _ _ a r).trans ((prod_eq m c t r _).trans ((hY a (rowOf t r)).symm.trans ?_))
  unfold rowOf
  blk_ext [idx9 t]

end Cert.Kernel7Ideal.Rot

end
-- ==== Proof.Proj.Reference.lean ====
/- What the projections' reference computes, entry by entry. -/
module

public import proofs.«01_k».proof.Proof.Proj.Spec
public import proofs.«01_k».proof.Proof.Gen.Reference6Ideal.Run
public import Idealize.ShloMosaic.Lib.Ring

@[expose] public section

set_option maxRecDepth 16384

noncomputable section

namespace Cert.Reference6Ideal.Proj

open Idealize.ShloMosaic Idealize.ShloMosaic.TcCoe
open Cert.Reference6Ideal Cert.Reference6Ideal.Gen Cert.Proj

/-- The latent rows, normalised and modulated. -/
def latents (x : FVec Ideal S2x16384x1024 .f32) (ml : FVec Ideal S2x6144 .f32) (g : FVec Ideal S1024 .f32) : FVec Ideal S2x16384x1024 .f32 :=
  addf (mulf (mulf (mulf x (broadcastInDim S2x16384x1024 ![0, 1, 2] bcast_S2x16384x1_S2x16384x1024_0_1_2 (Host.rsqrt (addf
      (Host.divf (broadcastInDim S2x16384x1 ![0, 1] bcast_S2x16384_S2x16384x1_0_1
          (Host.reduceAdd (mulf x x) (constant S_ .f32 0x00000000#32) reducesTo_S2x16384x1024_S2x16384_d2 h_S_))
        (broadcastInDim S2x16384x1 ![] bcast_S_S2x16384x1 (constant S_ .f32 0x44800000#32)))
      (broadcastInDim S2x16384x1 ![] bcast_S_S2x16384x1 (constant S_ .f32 0x358637BD#32))))))
    (broadcastInDim S2x16384x1024 ![0, 1, 2] bcast_S1x1x1024_S2x16384x1024_0_1_2 (broadcastInDim S1x1x1024 ![2] bcast_S1024_S1x1x1024_2 g)))
    (broadcastInDim S2x16384x1024 ![0, 1, 2] bcast_S2x1x1024_S2x16384x1024_0_1_2
      (addf (broadcastInDim S2x1x1024 ![] bcast_S_S2x1x1024 (constant S_ .f32 0x3F800000#32))
        (broadcastInDim S2x1x1024 ![0, 2] bcast_S2x1024_S2x1x1024_0_2 (extractStridedSlice S2x1024 ![0, 1024] ml slices_S2x6144_S2x1024_0_1024)))))
    (broadcastInDim S2x16384x1024 ![0, 1, 2] bcast_S2x1x1024_S2x16384x1024_0_1_2
      (broadcastInDim S2x1x1024 ![0, 2] bcast_S2x1024_S2x1x1024_0_2 (extractStridedSlice S2x1024 ![0, 0] ml slices_S2x6144_S2x1024_0_0)))

/-- The context rows, normalised and modulated. -/
def contexts (ctx : FVec Ideal S2x256x1024 .f32) (mc : FVec Ideal S6144 .f32) (g : FVec Ideal S1024 .f32) : FVec Ideal S2x256x1024 .f32 :=
  addf (mulf (mulf (mulf ctx (broadcastInDim S2x256x1024 ![0, 1, 2] bcast_S2x256x1_S2x256x1024_0_1_2 (Host.rsqrt (addf
      (Host.divf (broadcastInDim S2x256x1 ![0, 1] bcast_S2x256_S2x256x1_0_1
          (Host.reduceAdd (mulf ctx ctx) (constant S_ .f32 0x00000000#32) reducesTo_S2x256x1024_S2x256_d2 h_S_))
        (broadcastInDim S2x256x1 ![] bcast_S_S2x256x1 (constant S_ .f32 0x44800000#32)))
      (broadcastInDim S2x256x1 ![] bcast_S_S2x256x1 (constant S_ .f32 0x358637BD#32))))))
    (broadcastInDim S2x256x1024 ![0, 1, 2] bcast_S1x1x1024_S2x256x1024_0_1_2 (broadcastInDim S1x1x1024 ![2] bcast_S1024_S1x1x1024_2 g)))
    (broadcastInDim S2x256x1024 ![0, 1, 2] bcast_S1x1x1024_S2x256x1024_0_1_2 (broadcastInDim S1x1x1024 ![2] bcast_S1024_S1x1x1024_2
      (addf (broadcastInDim S1024 ![] bcast_S_S1024 (constant S_ .f32 0x3F800000#32)) (extractStridedSlice S1024 ![1024] mc slices_S6144_S1024_1024)))))
    (broadcastInDim S2x256x1024 ![0, 1, 2] bcast_S1x1x1024_S2x256x1024_0_1_2
      (broadcastInDim S1x1x1024 ![2] bcast_S1024_S1x1x1024_2 (extractStridedSlice S1024 ![0] mc slices_S6144_S1024_0)))

/-- Both kinds of rows by the weights, one after the other. -/
def joined (hl : FVec Ideal S2x16384x1024 .f32) (hc : FVec Ideal S2x256x1024 .f32) (w : FVec Ideal S1024x3072 .f32) : FVec Ideal S33280x3072 .f32 :=
  concatenate S33280x3072 0
    [⟨S32768x3072, shapeCast _ (Host.dotGeneral dot_S2x16384x1024_S1024x3072_S2x16384x3072_2_0_01_1_n_n none hl w) shapeCasts_S2x16384x3072_S32768x3072⟩,
      ⟨S512x3072, shapeCast _ (Host.dotGeneral dot_S2x256x1024_S1024x3072_S2x256x3072_2_0_01_1_n_n none hc w) shapeCasts_S2x256x3072_S512x3072⟩]
    concatenates_S32768x3072_S512x3072_S33280x3072_d0

/-- The queries' scale, as the array of one element the reference computes. -/
def scaleArr : FVec Ideal S_ .f32 := Host.divf (constant S_ .f32 0x3E000000#32) (Host.log (constant S_ .f32 0x40000000#32))

def queries (J : FVec Ideal S33280x3072 .f32) : FVec Ideal S1024x33280 .bf16 :=
  truncf .bf16 (transpose S1024x33280 [1, 0] (mulf (extractStridedSlice S33280x1024 ![0, 0] J slices_S33280x3072_S33280x1024_0_0)
    (broadcastInDim S33280x1024 ![] bcast_S_S33280x1024 scaleArr)) transposes_S33280x1024_S1024x33280_1_0) bitsLt_bf16_f32
def keys (J : FVec Ideal S33280x3072 .f32) : FVec Ideal S33280x1024 .bf16 :=
  truncf .bf16 (extractStridedSlice S33280x1024 ![0, 1024] J slices_S33280x3072_S33280x1024_0_1024) bitsLt_bf16_f32
def values (J : FVec Ideal S33280x3072 .f32) : FVec Ideal S1024x33280 .bf16 :=
  truncf .bf16 (transpose S1024x33280 [1, 0] (extractStridedSlice S33280x1024 ![0, 2048] J slices_S33280x3072_S33280x1024_0_2048)
    transposes_S33280x1024_S1024x33280_1_0) bitsLt_bf16_f32

theorem latents_apply (x ml g) (b : Fin 2) (n : Fin 16384) (j : Fin 1024) :
    latents x ml g (ix3 b n j) = normed (fun j => x (ix3 b n j)) (fun j => g (ix1 j))
      (fun j => ml (ix2 b ⟨1024 + j.val, by omega⟩)) (fun j => ml (ix2 b ⟨0 + j.val, by omega⟩)) j := by
  unfold latents normed
  pointwise

theorem contexts_apply (x mc g) (b : Fin 2) (n : Fin 256) (j : Fin 1024) :
    contexts x mc g (ix3 b n j) = normed (fun j => x (ix3 b n j)) (fun j => g (ix1 j))
      (fun j => mc (ix1 ⟨1024 + j.val, by omega⟩)) (fun j => mc (ix1 ⟨0 + j.val, by omega⟩)) j := by
  unfold contexts normed
  pointwise

theorem joined_apply (x ctx ml mc g w) (i : Fin 33280) (e : Fin 3072) :
    joined (latents x ml g) (contexts ctx mc g) w (ix2 i e) = projAt x ctx ml mc g w i e := by
  unfold joined projAt rowAt modAt
  pointwise
  by_cases h : i.val < 32768
  · simp only [dif_pos h, latents_apply, Nat.zero_add]
  · simp only [dif_neg h, ↓reduceDIte, ↓reduceIte, contexts_apply, Nat.zero_add]

theorem scaleArr_apply : scaleArr ix0 = (((1 / 8) * (Real.log 2)⁻¹ : ℝ) : EReal) := by
  have h8 : Ideal.ofBits .f32 0x3E000000#32 = ((1 / 8 : ℝ) : EReal) := by
    simp [Ideal.ofBits, Ideal.ieee]
    rw [← EReal.coe_mul]; norm_num
  have h2 : Ideal.ofBits .f32 0x40000000#32 = ((2 : ℝ) : EReal) := by
    simp [Ideal.ofBits, Ideal.ieee]
    rw [← EReal.coe_mul]; norm_num
  have hl : 0 < Real.log 2 := Real.log_pos (by norm_num)
  unfold scaleArr
  pointwise
  rw [h8, h2, Ideal.log_coe, if_neg (by norm_num), Ideal.div_coe hl.ne', ← EReal.coe_mul, one_div (Real.log 2)]

theorem queries_apply (J : FVec Ideal S33280x3072 .f32) (a : Fin 1024) (i : Fin 33280) :
    queries J (ix2 a i) = (J (ix2 i ⟨a.val, by omega⟩) : EReal) * scaleArr ix0 := by
  unfold queries
  pointwise
theorem keys_apply (J : FVec Ideal S33280x3072 .f32) (i : Fin 33280) (a : Fin 1024) : keys J (ix2 i a) = J (ix2 i ⟨1024 + a.val, by omega⟩) := by
  unfold keys
  pointwise
theorem values_apply (J : FVec Ideal S33280x3072 .f32) (a : Fin 1024) (i : Fin 33280) : values J (ix2 a i) = J (ix2 i ⟨2048 + a.val, by omega⟩) := by
  unfold values
  pointwise

/-- All projections of the reference's arguments. -/
def allOf (x : FVec Ideal S2x16384x1024 .f32) (ctx : FVec Ideal S2x256x1024 .f32) (ml : FVec Ideal S2x6144 .f32) (mc : FVec Ideal S6144 .f32)
    (g : FVec Ideal S1024 .f32) (w : FVec Ideal S1024x3072 .f32) : FVec Ideal S33280x3072 .f32 :=
  joined (latents x ml g) (contexts ctx mc g) w

/-- Equal arguments have equal projections. -/
theorem allOf_congr {x x' ctx ctx' ml ml' mc mc' g g' w w'} (h : x' = x ∧ ctx' = ctx ∧ ml' = ml ∧ mc' = mc ∧ g' = g ∧ w' = w) :
    allOf x' ctx' ml' mc' g' w' = allOf x ctx ml mc g w := by
  obtain ⟨rfl, rfl, rfl, rfl, rfl, rfl⟩ := h
  rfl

end Cert.Reference6Ideal.Proj

end
-- ==== Proof.Rot.Reference.lean ====
/- What the rotated projections' reference computes, entry by entry. -/
module

public import proofs.«01_k».proof.Proof.Proj.Reference
public import proofs.«01_k».proof.Proof.Rot.Spec
public import proofs.«01_k».proof.Proof.Gen.Reference7Ideal
public import Idealize.ShloMosaic.Lib.Ring

@[expose] public section

set_option maxRecDepth 16384

noncomputable section

namespace Cert.Reference7Ideal.Rot

open Idealize.ShloMosaic Idealize.ShloMosaic.TcCoe
open Cert.Reference7Ideal Cert.Reference7Ideal.Gen Cert.Proj Cert.Rot
open Cert.Reference6Ideal.Proj (latents contexts scaleArr latents_apply contexts_apply scaleArr_apply)

/-! ## The positions' angles -/

/-- One number in every position. -/
def all (z : IVec S_ 32) : IVec S16384 32 := broadcastInDim S16384 ![] bcast_S_S16384 z
/-- The positions. -/
def pos : IVec S16384 32 := iotaInDim S16384 32 0
/-- The grid's width. -/
def width : IVec S_ 32 := constantI S_ 32 64#32

/-- The positions' rows: the quotients by the width, rounded down. -/
def rowNo : IVec S16384 32 :=
  select (andi (cmpi .ne (signi pos) (broadcastInDim S16384 ![] bcast_S_S16384 (signi width))) (cmpi .ne (Host.remsi pos (all width)) (all (constantI S_ 32 0#32))))
    (subi (Host.divsi pos (all width)) (all (constantI S_ 32 1#32))) (Host.divsi pos (all width))

/-- The positions' columns: the remainders, of the width's sign. -/
def colNo : IVec S16384 32 :=
  let n : IVec S_ 32 := select (cmpi .eq width (constantI S_ 32 0#32)) (constantI S_ 32 1#32) width
  let r : IVec S16384 32 := Host.remsi pos (all n)
  select (andi (cmpi .ne (cmpi .slt r (all (constantI S_ 32 0#32))) (broadcastInDim S16384 ![] bcast_S_S16384 (cmpi .slt n (constantI S_ 32 0#32))))
    (cmpi .ne r (all (constantI S_ 32 0#32)))) (addi r (all n)) r

/-- The frequencies. -/
def freq : FVec Ideal S16 .f32 :=
  Host.powf (broadcastInDim S16 ![] bcast_S_S16 (constant S_ .f32 0x461C4000#32))
    (Host.divf (Host.negf (sitofp .f32 (iotaInDim S16 32 0))) (broadcastInDim S16 ![] bcast_S_S16 (constant S_ .f32 0x41800000#32)))

/-- Numbers by frequencies. -/
def byFreq (p : IVec S16384 32) : FVec Ideal S16384x16 .f32 :=
  mulf (broadcastInDim S16384x16 ![0, 1] bcast_S16384x1_S16384x16_0_1 (broadcastInDim S16384x1 ![0] bcast_S16384_S16384x1_0 (sitofp (F := Ideal) .f32 p)))
    (broadcastInDim S16384x16 ![0, 1] bcast_S1x16_S16384x16_0_1 (broadcastInDim S1x16 ![1] bcast_S16_S1x16_1 freq))

/-- The angles: the rows' and the columns'. -/
def angles : FVec Ideal S16384x32 .f32 :=
  concatenate S16384x32 1 [⟨S16384x16, byFreq rowNo⟩, ⟨S16384x16, byFreq colNo⟩] concatenates_S16384x16_S16384x16_S16384x32_d1

/-! ## The rotation -/

/-- The latent rows' products with the weights, and the context rows'. -/
def latProd (h : FVec Ideal S2x16384x1024 .f32) (w : FVec Ideal S1024x1536 .f32) : FVec Ideal S2x16384x1536 .f32 :=
  Host.dotGeneral dot_S2x16384x1024_S1024x1536_S2x16384x1536_2_0_01_1_n_n none h w
def ctxProd (h : FVec Ideal S2x256x1024 .f32) (w : FVec Ideal S1024x1536 .f32) : FVec Ideal S2x256x1536 .f32 :=
  Host.dotGeneral dot_S2x256x1024_S1024x1536_S2x256x1536_2_0_01_1_n_n none h w

/-- An array of angles with the axes of the batches and the heads. -/
def wide (t : FVec Ideal S16384x32 .f32) : FVec Ideal S1x16384x1x32 .f32 := broadcastInDim S1x16384x1x32 ![1, 3] bcast_S16384x32_S1x16384x1x32_1_3 t

/-- The 16 query heads. -/
def qHeads (L : FVec Ideal S2x16384x1536 .f32) : FVec Ideal S2x16384x16x64 .f32 :=
  shapeCast _ (extractStridedSlice S2x16384x1024 ![0, 0, 0] L slices_S2x16384x1536_S2x16384x1024_0_0_0) shapeCasts_S2x16384x1024_S2x16384x16x64
/-- The 4 key heads. -/
def kHeads (L : FVec Ideal S2x16384x1536 .f32) : FVec Ideal S2x16384x4x64 .f32 :=
  shapeCast _ (extractStridedSlice S2x16384x256 ![0, 0, 1024] L slices_S2x16384x1536_S2x16384x256_0_0_1024) shapeCasts_S2x16384x256_S2x16384x4x64

/-- The query heads rotated, -/
def qTurn (A : FVec Ideal S16384x32 .f32) (q : FVec Ideal S2x16384x16x64 .f32) : FVec Ideal S2x16384x16x64 .f32 :=
  let t₁ := extractStridedSlice S2x16384x16x32 ![0, 0, 0, 0] q slices_S2x16384x16x64_S2x16384x16x32_0_0_0_0
  let t₂ := extractStridedSlice S2x16384x16x32 ![0, 0, 0, 32] q slices_S2x16384x16x64_S2x16384x16x32_0_0_0_32
  let cs := broadcastInDim S2x16384x16x32 ![0, 1, 2, 3] bcast_S1x16384x1x32_S2x16384x16x32_0_1_2_3 (wide (Host.cos A))
  let sn := broadcastInDim S2x16384x16x32 ![0, 1, 2, 3] bcast_S1x16384x1x32_S2x16384x16x32_0_1_2_3 (wide (Host.sin A))
  concatenate S2x16384x16x64 3 [⟨S2x16384x16x32, subf (mulf t₁ cs) (mulf t₂ sn)⟩, ⟨S2x16384x16x32, addf (mulf t₁ sn) (mulf t₂ cs)⟩]
    concatenates_S2x16384x16x32_S2x16384x16x32_S2x16384x16x64_d3

/-- and the key heads. -/
def kTurn (A : FVec Ideal S16384x32 .f32) (q : FVec Ideal S2x16384x4x64 .f32) : FVec Ideal S2x16384x4x64 .f32 :=
  let t₁ := extractStridedSlice S2x16384x4x32 ![0, 0, 0, 0] q slices_S2x16384x4x64_S2x16384x4x32_0_0_0_0
  let t₂ := extractStridedSlice S2x16384x4x32 ![0, 0, 0, 32] q slices_S2x16384x4x64_S2x16384x4x32_0_0_0_32
  let cs := broadcastInDim S2x16384x4x32 ![0, 1, 2, 3] bcast_S1x16384x1x32_S2x16384x4x32_0_1_2_3 (wide (Host.cos A))
  let sn := broadcastInDim S2x16384x4x32 ![0, 1, 2, 3] bcast_S1x16384x1x32_S2x16384x4x32_0_1_2_3 (wide (Host.sin A))
  concatenate S2x16384x4x64 3 [⟨S2x16384x4x32, subf (mulf t₁ cs) (mulf t₂ sn)⟩, ⟨S2x16384x4x32, addf (mulf t₁ sn) (mulf t₂ cs)⟩]
    concatenates_S2x16384x4x32_S2x16384x4x32_S2x16384x4x64_d3

/-! ## The results -/

/-- All rows' queries, rotated; -/
def qRows (A : FVec Ideal S16384x32 .f32) (L : FVec Ideal S2x16384x1536 .f32) (C : FVec Ideal S2x256x1536 .f32) : FVec Ideal S33280x1024 .f32 :=
  concatenate S33280x1024 0
    [⟨S32768x1024, shapeCast _ (qTurn A (qHeads L)) shapeCasts_S2x16384x16x64_S32768x1024⟩,
      ⟨S512x1024, shapeCast _ (shapeCast S2x256x16x64 (extractStridedSlice S2x256x1024 ![0, 0, 0] C slices_S2x256x1536_S2x256x1024_0_0_0)
        shapeCasts_S2x256x1024_S2x256x16x64) shapeCasts_S2x256x16x64_S512x1024⟩] concatenates_S32768x1024_S512x1024_S33280x1024_d0

/-- their keys, rotated; -/
def kRows (A : FVec Ideal S16384x32 .f32) (L : FVec Ideal S2x16384x1536 .f32) (C : FVec Ideal S2x256x1536 .f32) : FVec Ideal S33280x256 .f32 :=
  concatenate S33280x256 0
    [⟨S32768x256, shapeCast _ (kTurn A (kHeads L)) shapeCasts_S2x16384x4x64_S32768x256⟩,
      ⟨S512x256, shapeCast _ (shapeCast S2x256x4x64 (extractStridedSlice S2x256x256 ![0, 0, 1024] C slices_S2x256x1536_S2x256x256_0_0_1024)
        shapeCasts_S2x256x256_S2x256x4x64) shapeCasts_S2x256x4x64_S512x256⟩] concatenates_S32768x256_S512x256_S33280x256_d0

/-- and their values. -/
def vRows (L : FVec Ideal S2x16384x1536 .f32) (C : FVec Ideal S2x256x1536 .f32) : FVec Ideal S33280x256 .f32 :=
  concatenate S33280x256 0
    [⟨S32768x256, shapeCast _ (extractStridedSlice S2x16384x256 ![0, 0, 1280] L slices_S2x16384x1536_S2x16384x256_0_0_1280) shapeCasts_S2x16384x256_S32768x256⟩,
      ⟨S512x256, shapeCast _ (extractStridedSlice S2x256x256 ![0, 0, 1280] C slices_S2x256x1536_S2x256x256_0_0_1280) shapeCasts_S2x256x256_S512x256⟩]
    concatenates_S32768x256_S512x256_S33280x256_d0

def queries (R : FVec Ideal S33280x1024 .f32) : FVec Ideal S1024x33280 .bf16 :=
  truncf .bf16 (transpose S1024x33280 [1, 0] (mulf R (broadcastInDim S33280x1024 ![] bcast_S_S33280x1024 scaleArr))
    transposes_S33280x1024_S1024x33280_1_0) bitsLt_bf16_f32
def keys (R : FVec Ideal S33280x256 .f32) : FVec Ideal S33280x256 .bf16 := truncf .bf16 R bitsLt_bf16_f32
def values (R : FVec Ideal S33280x256 .f32) : FVec Ideal S256x33280 .bf16 :=
  truncf .bf16 (transpose S256x33280 [1, 0] R transposes_S33280x256_S256x33280_1_0) bitsLt_bf16_f32

/-! ## Entry by entry -/

/-- Row `i` of both products, one after the other. -/
def both (L : FVec Ideal S2x16384x1536 .f32) (C : FVec Ideal S2x256x1536 .f32) (i : Fin 33280) (e : Fin 1536) : EReal :=
  if h : i.val < 32768 then L (ix3 ⟨i.val / 16384, by omega⟩ ⟨i.val % 16384, by omega⟩ e)
  else C (ix3 ⟨(i.val - 32768) / 256, by omega⟩ ⟨(i.val - 32768) % 256, by omega⟩ e)

theorem both_apply (x ctx ml mc g) (w : FVec Ideal S1024x1536 .f32) (i : Fin 33280) (e : Fin 1536) :
    both (latProd (latents x ml g) w) (ctxProd (contexts ctx mc g) w) i e = projAt x ctx ml mc g w i e := by
  unfold both latProd ctxProd projAt rowAt modAt
  pointwise
  by_cases h : i.val < 32768
  · simp only [dif_pos h, latents_apply, Nat.zero_add]
  · simp only [dif_neg h, ↓reduceDIte, ↓reduceIte, contexts_apply, Nat.zero_add]

theorem qHeads_apply (L) (b : Fin 2) (n : Fin 16384) (h : Fin 16) (d : Fin 64) :
    qHeads L (ix4 b n h d) = L (ix3 b n ⟨h.val * 64 + d.val, by omega⟩) := by
  unfold qHeads
  pointwise

theorem kHeads_apply (L) (b : Fin 2) (n : Fin 16384) (h : Fin 4) (d : Fin 64) :
    kHeads L (ix4 b n h d) = L (ix3 b n ⟨1024 + (h.val * 64 + d.val), by omega⟩) := by
  unfold kHeads
  pointwise

/-- Two halves rotated, as the sum of the column and its partner. -/
theorem halves_eq (f : Fin 64 → EReal) (cs sn : Fin 32 → EReal) (d : Fin 64) :
    (if h : d.val < 32 then f d * cs ⟨d.val, h⟩ - f ⟨32 + d.val, by omega⟩ * sn ⟨d.val, h⟩
      else f ⟨d.val - 32, by omega⟩ * sn ⟨d.val - 32, by omega⟩ + f ⟨32 + (d.val - 32), by omega⟩ * cs ⟨d.val - 32, by omega⟩)
    = f d * cs ⟨d.val % 32, by omega⟩ + f (swap d) * (if d.val % 64 < 32 then -sn ⟨d.val % 32, by omega⟩ else sn ⟨d.val % 32, by omega⟩) := by
  have hd : d.val % 64 = d.val := by omega
  by_cases h : d.val < 32
  · have e₁ : (⟨32 + d.val, by omega⟩ : Fin 64) = swap d := Fin.ext (by simp only [swap, hd, if_pos h]; omega)
    have e₂ : (⟨d.val, h⟩ : Fin 32) = ⟨d.val % 32, by omega⟩ := Fin.ext (by show d.val = d.val % 32; omega)
    rw [dif_pos h, hd, if_pos h, e₁, e₂, mul_neg, sub_eq_add_neg]
  · have e₁ : (⟨d.val - 32, by omega⟩ : Fin 64) = swap d := Fin.ext (by simp only [swap, hd, if_neg h])
    have e₂ : (⟨d.val - 32, by omega⟩ : Fin 32) = ⟨d.val % 32, by omega⟩ := Fin.ext (by show d.val - 32 = d.val % 32; omega)
    have e₃ : (⟨32 + (d.val - 32), by omega⟩ : Fin 64) = d := Fin.ext (by show 32 + (d.val - 32) = d.val; omega)
    rw [dif_neg h, hd, if_neg h, e₁, e₂, e₃, add_comm]

theorem qTurn_apply (A q) (b : Fin 2) (n : Fin 16384) (h : Fin 16) (d : Fin 64) :
    qTurn A q (ix4 b n h d) = (q (ix4 b n h d) * Ideal.cos (A (ix2 n ⟨d.val % 32, by omega⟩))
      + q (ix4 b n h (swap d)) * (if d.val % 64 < 32 then -Ideal.sin (A (ix2 n ⟨d.val % 32, by omega⟩))
          else Ideal.sin (A (ix2 n ⟨d.val % 32, by omega⟩))) : EReal) := by
  refine Eq.trans ?_ (halves_eq (fun d => q (ix4 b n h d)) (fun k => Ideal.cos (A (ix2 n k))) (fun k => Ideal.sin (A (ix2 n k))) d)
  unfold qTurn wide
  pointwise

theorem kTurn_apply (A q) (b : Fin 2) (n : Fin 16384) (h : Fin 4) (d : Fin 64) :
    kTurn A q (ix4 b n h d) = (q (ix4 b n h d) * Ideal.cos (A (ix2 n ⟨d.val % 32, by omega⟩))
      + q (ix4 b n h (swap d)) * (if d.val % 64 < 32 then -Ideal.sin (A (ix2 n ⟨d.val % 32, by omega⟩))
          else Ideal.sin (A (ix2 n ⟨d.val % 32, by omega⟩))) : EReal) := by
  refine Eq.trans ?_ (halves_eq (fun d => q (ix4 b n h d)) (fun k => Ideal.cos (A (ix2 n k))) (fun k => Ideal.sin (A (ix2 n k))) d)
  unfold kTurn wide
  pointwise

/-- A latent row's column rotated within its head. -/
theorem head_eq (A : FVec Ideal S16384x32 .f32) (L C) (i : Fin 33280) (h : i.val < 32768) (e l l' : Fin 1536) (d : Fin 64)
    (hl : l = e) (hl' : l' = swap e) (hd : d.val = e.val % 64) :
    (L (ix3 ⟨i.val / 16384, by omega⟩ ⟨i.val % 16384, by omega⟩ l) * Ideal.cos (A (ix2 ⟨i.val % 16384, by omega⟩ ⟨d.val % 32, by omega⟩))
      + L (ix3 ⟨i.val / 16384, by omega⟩ ⟨i.val % 16384, by omega⟩ l') * (if d.val % 64 < 32
          then -Ideal.sin (A (ix2 ⟨i.val % 16384, by omega⟩ ⟨d.val % 32, by omega⟩))
          else Ideal.sin (A (ix2 ⟨i.val % 16384, by omega⟩ ⟨d.val % 32, by omega⟩))) : EReal) = turned A (both L C i) i e := by
  subst hl hl'
  unfold turned both
  simp only [if_pos h, dif_pos h, hd, Nat.mod_mod, Nat.mod_mod_of_dvd _ (show 32 ∣ 64 by decide)]

set_option maxRecDepth 200000 in
theorem qRows_apply (A L C) (i : Fin 33280) (a : Fin 1024) : qRows A L C (ix2 i a) = turned A (both L C i) i ⟨a.val, by omega⟩ := by
  unfold qRows
  pointwise
  by_cases h : i.val < 32768
  · rw [dif_pos h, qTurn_apply, qHeads_apply, qHeads_apply]
    refine head_eq A L C i h _ _ _ _ (Fin.ext ?_) (Fin.ext ?_) rfl
    · show a.val / 64 * 64 + a.val % 64 = a.val
      omega
    · simp only [swap]
      split_ifs <;> omega
  · rw [dif_neg h]
    unfold turned both
    rw [if_neg h, dif_neg h]

set_option maxRecDepth 200000 in
theorem kRows_apply (A L C) (i : Fin 33280) (a : Fin 256) : kRows A L C (ix2 i a) = turned A (both L C i) i ⟨1024 + a.val, by omega⟩ := by
  unfold kRows
  pointwise
  by_cases h : i.val < 32768
  · rw [dif_pos h, kTurn_apply, kHeads_apply, kHeads_apply]
    refine head_eq A L C i h _ _ _ _ (Fin.ext ?_) (Fin.ext ?_) ?_
    · show 1024 + (a.val / 64 * 64 + a.val % 64) = 1024 + a.val
      omega
    · simp only [swap]
      split_ifs <;> omega
    · show a.val % 64 = (1024 + a.val) % 64
      omega
  · rw [dif_neg h]
    unfold turned both
    rw [if_neg h, dif_neg h]

set_option maxRecDepth 200000 in
theorem vRows_apply (L C) (i : Fin 33280) (a : Fin 256) : vRows L C (ix2 i a) = both L C i ⟨1280 + a.val, by omega⟩ := by
  unfold vRows both
  pointwise

theorem queries_apply (R : FVec Ideal S33280x1024 .f32) (a : Fin 1024) (i : Fin 33280) :
    queries R (ix2 a i) = (R (ix2 i a) : EReal) * scaleArr ix0 := by
  unfold queries
  pointwise
theorem keys_apply (R : FVec Ideal S33280x256 .f32) (i : Fin 33280) (a : Fin 256) : keys R (ix2 i a) = R (ix2 i a) := by
  unfold keys
  pointwise
theorem values_apply (R : FVec Ideal S33280x256 .f32) (a : Fin 256) (i : Fin 33280) : values R (ix2 a i) = R (ix2 i a) := by
  unfold values
  pointwise

/-- The latent products of the reference's arguments, and the context products. -/
def lat (x : FVec Ideal S2x16384x1024 .f32) (ml : FVec Ideal S2x6144 .f32) (g : FVec Ideal S1024 .f32) (w : FVec Ideal S1024x1536 .f32) :
    FVec Ideal S2x16384x1536 .f32 := latProd (latents x ml g) w
def con (ctx : FVec Ideal S2x256x1024 .f32) (mc : FVec Ideal S6144 .f32) (g : FVec Ideal S1024 .f32) (w : FVec Ideal S1024x1536 .f32) :
    FVec Ideal S2x256x1536 .f32 := ctxProd (contexts ctx mc g) w

/-- Equal arguments have equal products. -/
theorem products_congr {x x' ctx ctx' ml ml' mc mc' g g' w w'} (h : x' = x ∧ ctx' = ctx ∧ ml' = ml ∧ mc' = mc ∧ g' = g ∧ w' = w) :
    lat x' ml' g' w' = lat x ml g w ∧ con ctx' mc' g' w' = con ctx mc g w := by
  obtain ⟨rfl, rfl, rfl, rfl, rfl, rfl⟩ := h
  exact ⟨rfl, rfl⟩

end Cert.Reference7Ideal.Rot

end
-- ==== Proof.Rot.Equation.lean ====
/- The rotated projections' kernel leaves the queries, keys and values the reference computes. -/
module

public import proofs.«01_k».proof.Proof.Rot.Value
public import proofs.«01_k».proof.Proof.Rot.Reference

@[expose] public section

set_option maxRecDepth 16384

noncomputable section

namespace Cert.Kernel7Ideal.Rot

open Idealize.ShloMosaic Idealize.ShloMosaic.TcCoe
open Cert.Kernel7Ideal.Gen Cert.Proj Cert.Rot
open Cert.Reference6Ideal.Proj (scaleArr_apply)
open Cert.Reference7Ideal.Rot (angles lat con both_apply qRows kRows vRows qRows_apply kRows_apply vRows_apply
  queries keys values values_apply)

variable (m : (ℓ : Loc nD τ sig) → Buf (Elt Ideal) ℓ) (c : Dev nD)

/-- The reference's products of the launch's arguments: the latent rows', -/
def latArr : FVec Ideal Cert.Reference7Ideal.S2x16384x1536 .f32 :=
  lat (m ((c.tc : Thread nD τ).loc main_arg0)) (m ((c.tc : Thread nD τ).loc main_arg2)) (m ((c.tc : Thread nD τ).loc main_arg4))
    (m ((c.tc : Thread nD τ).loc main_arg5))
/-- and the context rows'. -/
def conArr : FVec Ideal Cert.Reference7Ideal.S2x256x1536 .f32 :=
  con (m ((c.tc : Thread nD τ).loc main_arg1)) (m ((c.tc : Thread nD τ).loc main_arg3)) (m ((c.tc : Thread nD τ).loc main_arg4))
    (m ((c.tc : Thread nD τ).loc main_arg5))

/-- Both programs compute the same angles. -/
theorem V_angles : V m c main_v30 = angles := by
  sl_kernel_rfl

theorem both_eq (i : Fin 33280) : Cert.Reference7Ideal.Rot.both (latArr m c) (conArr m c) i = proj m c i :=
  funext fun e => both_apply _ _ _ _ _ _ i e

theorem array_queries : (dats m 0 c).arrAt 7 cfg0.N = queries (qRows angles (latArr m c) (conArr m c)) :=
  queries_eq m c _ fun a i => (Cert.Reference7Ideal.Rot.queries_apply _ a i).trans (congrArg₂ (fun p q : EReal => p * q)
    ((qRows_apply _ _ _ i a).trans (by rw [both_eq, V_angles])) scaleArr_apply)

theorem array_keys : (dats m 0 c).arrAt 8 cfg0.N = keys (kRows angles (latArr m c) (conArr m c)) :=
  keys_eq m c _ fun i a => (Cert.Reference7Ideal.Rot.keys_apply _ i a).trans ((kRows_apply _ _ _ i a).trans (by rw [both_eq, V_angles]))

theorem array_values : (dats m 0 c).arrAt 9 cfg0.N = values (vRows (latArr m c) (conArr m c)) :=
  values_eq m c _ fun a i => (values_apply _ a i).trans ((vRows_apply _ _ i a).trans (congrFun (both_eq m c i) _))

end Cert.Kernel7Ideal.Rot

end
-- ==== Proof.Attn.State.lean ====
/- The running values of one block of the attention kernel: the row of maxima, the accumulator (numerators over the
   row of denominators) and the scores computed ahead, from the block's queries, its keys and its values. -/
module

public import proofs.«01_k».proof.Proof.Gen.KernelIdeal.Skeleton
public import Idealize.ShloMosaic.Lib.Pipeline.Value

@[expose] public section

noncomputable section

namespace Cert.KernelIdeal.Attn

open Idealize.ShloMosaic Idealize.ShloMosaic.TcCoe
open Cert.KernelIdeal.Gen

variable {F : FTy → Type} [FloatOps F]

/-- The maxima so far, the accumulator so far, and the scores of the next 512 keys. -/
abbrev St (F : FTy → Type) : Type := FVec F S1x1024 .f32 × FVec F S144x1024 .f32 × FVec F S512x1024 .f32

variable (q : Vec F S1x256x1024 .bf16) (kc : Vec F S256x256 .bf16) (vc : Vec F S1x144x256 .bf16)
  (kl : Vec F S16384x256 .bf16) (vl : Vec F S1x144x16384 .bf16)

/-- The 512 keys from row `o 0` on. -/
abbrev keys (o : Fin 2 → Nat) (h : ∀ a, o a + S512x256.size a ≤ S16384x256.size a) : Vec F S512x256 .bf16 :=
  View.ld kl (Rect.unit (s := S16384x256) o S512x256.size h)

/-- The values of the 512 keys from column `o 2` on. -/
abbrev vals (o : Fin 3 → Nat) (h : ∀ a, o a + S1x144x512.size a ≤ S1x144x16384.size a) : Vec F S1x144x512 .bf16 :=
  View.ld vl (Rect.unit (s := S1x144x16384) o S1x144x512.size h)

/-- One trip: the scores at hand are added, then the ones of the 512 keys after them, and the scores of the 512 keys
    after those are left for the next trip. -/
def tripStep (k : Fin k0_t1_loop.trips) (s : St F) : St F :=
  let b := k0_pay2 (k0_pay5 q) (keys kl (k0_off1 k) (k0_off1_inb k))
  let m := k0_pay3 s.1 s.2.2
  let a := k0_pay10 (k0_pay4 s.1 s.2.2 (vals vl (k0_off2 k) (k0_off2_inb k)) s.2.1)
  (k0_pay12 m b, k0_pay13 m b (vals vl (k0_off4 k) (k0_off4_inb k)) a,
    k0_pay11 q (keys kl (k0_off3 k) (k0_off3_inb k)))

/-- The running values before trip `k`, from the ones at the loop's entry. -/
def stFrom (s : St F) : Nat → St F
  | 0 => s
  | k + 1 => if h : k < k0_t1_loop.trips then tripStep q kl vl ⟨k, h⟩ (stFrom s k) else stFrom s k

theorem stFrom_succ (s : St F) (k : Fin k0_t1_loop.trips) :
    stFrom q kl vl s (k.val + 1) = tripStep q kl vl k (stFrom q kl vl s k.val) := by
  rw [stFrom]; exact dif_pos k.isLt

/-- The running values at the loop's entry: what the 256 context keys give, and the scores of the first 512 keys. -/
def st0 : St F :=
  (k0_pay8 q kc, k0_pay9 q kc vc,
    k0_pay7 q (keys kl ![0, 0] inb_S16384x256_S512x256_0_0))

/-- The running values after the loop. -/
def stEnd : St F := stFrom q kl vl (st0 q kc vc kl) k0_t1_loop.trips

/-- The block the kernel writes. -/
def outBlk : FVec F S1024x128 .bf16 :=
  let a := (stEnd q kc vc kl vl).2.1
  k0_pay1 (k0_pay14 (View.ld a (Rect.unit (s := S144x1024) ![0, 0] S128x1024.size inb_S144x1024_S128x1024_0_0))
    (View.ld a (Rect.unit (s := S144x1024) ![128, 0] S1x1024.size inb_S144x1024_S1x1024_128_0)))

end Cert.KernelIdeal.Attn
-- ==== Proof.Attn.Trip.lean ====
/- One trip of the kernel's loop, run on memory, is one step of the running values; and the loop by that. -/
module

public import proofs.«01_k».proof.Proof.Attn.State
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.Pipeline.ValueKit.Basic

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- A store of the whole buffer, last, leaves its payload. -/
theorem read_whole {sg : RefSig} {κ : Kind} {sp : Space} {S : Shape} {e : EltTy} (v : View sg κ sp S e)
    (f : v.ty.Contents (Elt F)) {off : Fin S.rank → Nat} (inb : ∀ a, off a + S.size a ≤ S.size a) (w : S.Idx → Elt F e)
    (L : List (View.Piece (Elt F) S e)) (h : ∀ a, off a = 0) :
    v.read (Elt F) (v.writes (Elt F) f ((⟨Rect.unit off S.size inb, w⟩ : View.Piece (Elt F) S e) :: L)) = w := by
  obtain rfl : off = fun _ => 0 := funext h
  funext y
  have h' := View.read_writes_cons_emb v f (Rect.whole S) w L y
  rw [Rect.emb_whole_apply] at h'
  exact h'

/-- A load of the whole buffer reads its contents. -/
theorem load_whole {sg : RefSig} {κ : Kind} {sp : Space} {S : Shape} {e : EltTy} (v : View sg κ sp S e)
    (f : v.ty.Contents (Elt F)) {off : Fin S.rank → Nat} (inb : ∀ a, off a + S.size a ≤ S.size a) (h : ∀ a, off a = 0) :
    v.readAt (Elt F) (Rect.unit off S.size inb).toLoadRect f = v.read (Elt F) f :=
  (View.readAt_eq_ld v f _).trans (View.ld_unit_zero (funext h) inb _)

variable (c : Dev nD) (i : grid0.Coords) (arg3 : Memref sig .tc .vmem S1x256x1024 .bf16) (harg3 : arg3.IsWhole) (arg4 : Memref sig .tc .vmem S256x256 .bf16) (harg4 : arg4.IsWhole) (arg5 : Memref sig .tc .vmem S1x144x256 .bf16) (harg5 : arg5.IsWhole) (arg6 : Memref sig .tc .vmem S16384x256 .bf16) (harg6 : arg6.IsWhole) (arg7 : Memref sig .tc .vmem S1x144x16384 .bf16) (harg7 : arg7.IsWhole) (arg8 : Memref sig .tc .vmem S1024x128 .bf16) (harg8 : arg8.IsWhole) (arg9 : Memref sig .tc .vmem S144x1024 .f32) (harg9 : arg9.IsWhole) (arg10 : Memref sig .tc .vmem S512x1024 .f32) (harg10 : arg10.IsWhole) (arg11 : Memref sig .tc .vmem S512x1024 .f32) (harg11 : arg11.IsWhole)
  (v0 : Vec F S1x256x1024 .bf16)
  (X6 : BufTy.Contents (Elt F) arg6.view.ty) (X7 : BufTy.Contents (Elt F) arg7.view.ty)

/-- What the loop holds between trips: the keys and values as they were, and running values `s`. -/
abbrev held (s : St F) (acc : FVec F S1x1024 .f32) : sProp 𝕄 :=
  iprop(∃ f9 : BufTy.Contents (Elt F) arg9.view.ty, ∃ f10 : BufTy.Contents (Elt F) arg10.view.ty, ∃ f11 : BufTy.Contents (Elt F) arg11.view.ty,
    (arg6.view.loc (c : Thread nD τ) ↦[arg6.view.set]{fullShare} X6) ∗ (arg7.view.loc (c : Thread nD τ) ↦[arg7.view.set]{fullShare} X7)
    ∗ (arg9.view.loc (c : Thread nD τ) ↦[arg9.view.set]{fullShare} f9) ∗ (arg10.view.loc (c : Thread nD τ) ↦[arg10.view.set]{fullShare} f10)
    ∗ (arg11.view.loc (c : Thread nD τ) ↦[arg11.view.set]{fullShare} f11)
    ∗ ⌜s = (acc, arg9.view.read (Elt F) f9, arg10.view.read (Elt F) f10)⌝)

theorem trip (k : Fin k0_t1_loop.trips) (E : Set ℕ) (acc : FVec F S1x1024 .f32) (s : St F) :
    held c arg6 arg7 arg9 arg10 arg11 X6 X7 s acc
      ⊢ wp Idealize.ShloMosaic.frame (wpE (defs₀ (F := F)) Variants.none (c : Thread nD τ) none) E
          (k0_t1_body (F := F) i arg3 harg3 arg4 harg4 arg5 harg5 arg6 harg6 arg7 harg7 arg8 harg8 arg9 harg9 arg10 harg10 arg11 harg11 v0 k acc)
          (held c arg6 arg7 arg9 arg10 arg11 X6 X7
            (tripStep v0 (arg6.view.read (Elt F) X6) (arg7.view.read (Elt F) X7) k s)) := by
  have hk : k.val < 16 := Nat.lt_of_lt_of_le k.isLt k0_t1_abs.2.1
  unfold k0_t1_body
  iintro ⟨%f9, %f10, %f11, H6, H7, H9, H10, H11, %hs⟩
  subst hs
  sl_exec
  sl_step
  iexists _, _, _
  isplitl [H6]; · iexact H6
  isplitl [H7]; · iexact H7
  isplitl [H9]; · iexact H9
  isplitl [H10]; · iexact H10
  isplitl [H11]; · iexact H11
  ipureintro
  rw [read_whole _ _ _ _ _ (by decide), read_whole _ _ _ _ _ (by decide)]
  delta trip.sl.r trip.sl.v79 trip.sl.v88 trip.sl.H9_1 View.readCov trip.sl.H11_1 trip.sl.r_1
  rw [load_whole (S := S512x1024) arg10.view f10 inb_S512x1024_S512x1024_0_0 (by decide),
    load_whole (S := S144x1024) arg9.view f9 inb_S144x1024_S144x1024_0_0 (by decide),
    load_whole (S := S512x1024) arg11.view _ inb_S512x1024_S512x1024_0_0 (by decide),
    load_whole (S := S144x1024) arg9.view _ inb_S144x1024_S144x1024_0_0 (by decide),
    read_whole (S := S512x1024) arg11.view _ inb_S512x1024_S512x1024_0_0 _ _ (by decide),
    read_whole (S := S144x1024) arg9.view _ inb_S144x1024_S144x1024_0_0 _ _ (by decide)]
  rfl

set_option warn.classDefReducibility false in
/-- The loop: before trip `k` it holds the running values `stFrom … k`, `a₀` and `s₀` what the accumulator and the
    scores' buffer read at its entry. -/
@[sl_loop] def loopInv (E : Set ℕ) (init : FVec F S1x1024 .f32) (a₀ : FVec F S144x1024 .f32) (s₀ : FVec F S512x1024 .f32) :
    LoopInv (M := 𝕄) Idealize.ShloMosaic.frame (wpE (defs₀ (F := F)) Variants.none (c : Thread nD τ) none) E
      k0_t1_loop.lb k0_t1_loop.ub k0_t1_loop.st k0_t1_ok init
      (k0_t1_body (F := F) i arg3 harg3 arg4 harg4 arg5 harg5 arg6 harg6 arg7 harg7 arg8 harg8 arg9 harg9 arg10 harg10 arg11 harg11 v0) where
  inv k acc := held c arg6 arg7 arg9 arg10 arg11 X6 X7
    (stFrom v0 (arg6.view.read (Elt F) X6) (arg7.view.read (Elt F) X7) (init, a₀, s₀) k) acc
  step k acc := by
    rw [stFrom_succ v0 (arg6.view.read (Elt F) X6) (arg7.view.read (Elt F) X7) (init, a₀, s₀) k]
    exact trip c i arg3 harg3 arg4 harg4 arg5 harg5 arg6 harg6 arg7 harg7 arg8 harg8 arg9 harg9 arg10 harg10 arg11 harg11 v0 X6 X7 k E acc _

end Cert.KernelIdeal.Attn
-- ==== Proof.Attn.Run.lean ====
/- The kernel's body on its staging buffers: from the blocks it reads to the block it writes. -/
module

public import proofs.«01_k».proof.Proof.Attn.Trip

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (c : Dev nD) (i : grid0.Coords) (arg3 : Memref sig .tc .vmem S1x256x1024 .bf16) (harg3 : arg3.IsWhole) (arg4 : Memref sig .tc .vmem S256x256 .bf16) (harg4 : arg4.IsWhole) (arg5 : Memref sig .tc .vmem S1x144x256 .bf16) (harg5 : arg5.IsWhole) (arg6 : Memref sig .tc .vmem S16384x256 .bf16) (harg6 : arg6.IsWhole) (arg7 : Memref sig .tc .vmem S1x144x16384 .bf16) (harg7 : arg7.IsWhole) (arg8 : Memref sig .tc .vmem S1024x128 .bf16) (harg8 : arg8.IsWhole) (arg9 : Memref sig .tc .vmem S144x1024 .f32) (harg9 : arg9.IsWhole) (arg10 : Memref sig .tc .vmem S512x1024 .f32) (harg10 : arg10.IsWhole) (arg11 : Memref sig .tc .vmem S512x1024 .f32) (harg11 : arg11.IsWhole)

set_option maxHeartbeats 1000000 in
theorem run (x0 : Vec F S1x256x1024 .bf16) (x1 : Vec F S256x256 .bf16) (x2 : Vec F S1x144x256 .bf16)
    (x3 : Vec F S16384x256 .bf16) (x4 : Vec F S1x144x16384 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
            ∗ owns (c : Thread nD τ) arg8 fullShare (outBlk x0 x1 x2 x3 x4) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_mla_attn_latent i arg3 harg3 arg4 harg4 arg5 harg5 arg6 harg6 arg7 harg7 arg8 harg8 arg9 harg9 arg10 harg10 arg11 harg11) K := by
  simp only [cc0_mla_attn_latent_eq_skeleton]; unfold cc0_mla_attn_latent_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
  obtain rfl := harg3.eq_unread hf0; obtain rfl := harg4.eq_unread hf1; obtain rfl := harg5.eq_unread hf2; obtain rfl := harg6.eq_unread hf3; obtain rfl := harg7.eq_unread hf4
  sl_exec
  have hst : View.read (Elt F) arg9.view f9L0 = (stEnd x0 x1 x2 x3 x4).2.1 := by
    revert hL5
    delta run.sl.HS0_1 run.sl.HS1_1
    intro hL5
    rw [load_whole (S := S1x256x1024) arg3.view _ inb_S1x256x1024_S1x256x1024_0_0_0 (by decide),
      load_whole (S := S256x256) arg4.view _ inb_S256x256_S256x256_0_0 (by decide),
      load_whole (S := S1x144x256) arg5.view _ inb_S1x144x256_S1x144x256_0_0_0 (by decide),
      read_whole (S := S144x1024) arg9.view _ inb_S144x1024_S144x1024_0_0 _ _ (by decide),
      read_whole (S := S512x1024) arg10.view _ inb_S512x1024_S512x1024_0_0 _ _ (by decide),
      View.readAt_eq_ld, hf0, hf1, hf2, hf3, hf4] at hL5
    exact (congrArg (fun s : St F => s.2.1) hL5).symm
  have hout : View.read (Elt F) arg8.view (arg8.view.writes (Elt F) f5
      [⟨Rect.unit (s := S1024x128) ![0, 0] S1024x128.size inb_S1024x128_S1024x128_0_0, k0_pay1 (run.sl.r arg9 f9L0)⟩]) = outBlk x0 x1 x2 x3 x4 := by
    rw [read_whole (S := S1024x128) arg8.view _ inb_S1024x128_S1024x128_0_0 _ _ (by decide)]
    delta run.sl.r outBlk
    rw [View.readAt_eq_ld, View.readAt_eq_ld, hst]
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hout
    iexact H5
  isplitl [HS0]
  · iexists _, _; isplitr; swap; · iexact HS0
    ipureintro; rfl
  isplitl [HS1]
  · iexists _, _; isplitr; swap; · iexact HS1
    ipureintro; rfl
  iexists _, _; isplitr; swap; · iexact HS2
  ipureintro; rfl

end Cert.KernelIdeal.Attn
-- ==== Proof.Attn.Frame.lean ====
/- The kernel's launch: at every grid point the body takes the blocks staged to the block it writes, so the program runs,
   ends with every semaphore at zero and its arguments unchanged. -/
module

public import proofs.«01_k».proof.Proof.Attn.Run
public import proofs.«01_k».proof.Proof.Gen.KernelIdeal.Frame.Runs
public import Idealize.ShloMosaic.Lib.Quiescent
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block the body leaves at point `t`, from the blocks of the arrays it is given. -/
def outAt (c : Dev nD) (t : Fin cfg0.N) : Vec F S1024x128 .bf16 :=
  outBlk (X0_0 m c t) (iblk m c 1 t) (iblk m c 2 t) (X0_3 m c t) (X0_4 m c t)

/-! ## The pipeline's proof data -/

/-- What the launch is proved with on core `c`: each array as the host code left it; each input's buffer unchanged by the body,
    the result's buffer at `outAt`; the scratch buffers and the generator register passed from point to point at any
    contents. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => X0_3 m c t
    | ⟨4, _⟩ => X0_4 m c t
    | ⟨5, _⟩ => outAt m c t
  Φ _ := Pipeline.ΦA spec0 c
  q w := Pipeline.shareOf spec0 w
  owed _ := 0

/-- The arrays of `dats` are those the host code left (by `dsimp`, which keeps `V` folded). -/
theorem A_eq (c : Dev nD) (w : Fin cfg0.W) : (dats m 0 c).A w = V m c (Pipeline.arrRef spec0 w) := by
  dsimp only [dats]

/-- What each buffer holds after the body. -/
theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = X0_4 m c t := by dsimp only [dats]
theorem after0_5 (c : Dev nD) (t : Fin cfg0.N) : (dats m 0 c).after 5 t = outAt m c t := by dsimp only [dats]

/-- Before the body every input's buffer holds the block of its array that belongs to the point. -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = X0_4 m c t :=
  before0_4_of m (dats m 0 c) (A_eq m c 4) (after0_4 m c) t d

/-! ## The body obligation, at a generic point -/

/-- What the body starts from at point `t`: -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it must leave behind. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body's run (`run`) at any point: the inputs are at their blocks, the scratch buffers at whatever the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
  iapply (run c (grid0.coords t) _ _ _ _ _ _ _ _ _ _ _ _ _ _ _ _ _ _ (X0_0 m c t) (iblk m c 1 t) (iblk m c 2 t) (X0_3 m c t) (X0_4 m c t) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]
      · iexact HS0
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body called by the launch at point `t` is `bodyAt0 t`. -/
theorem defs₀_row (t : Fin cfg0.N) :
    defs₀ (F := F) .tc cfg0.body (cfg0.bodyArgs t (cfg0.slots t)) = bodyAt0 t := by
  unfold defs₀; rw [Defs.onTc_tc]

/-- Hence the body does at every point what the launch asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The program runs to its end, with the arrays at the blocks written and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same, without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- No argument is changed. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The program runs to its end, no argument is changed, and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Attn

end
-- ==== Proof.Attn.SameText.lean ====
/- The kernel as it is written and its ideal copy have the same text, so what runs of the one runs of the other. -/
module

public import proofs.«01_k».proof.Proof.Attn.Frame
public import proofs.«01_k».proof.Proof.Gen.Kernel
public import Idealize.ShloMosaic.Lib.Ring

@[expose] public section

noncomputable section

namespace Cert.KernelIdeal.Attn

open Idealize.ShloMosaic Idealize.ShloMosaic.TcCoe Idealize.ShloMosaic.Tactic Idealize.SL.Sem

/-- The kernel runs, ends with its arguments unchanged and every semaphore at zero. -/
abbrev Runs₁ (F : FTy → Type) [FloatOps F] : Prop :=
  ∀ (m : (ℓ : Loc Cert.Kernel.nD Cert.Kernel.τ Cert.Kernel.sig) → Buf (Elt F) ℓ) (g : Dev Cert.Kernel.nD → PrngReg),
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

/-- The same of its ideal copy. -/
abbrev Runs₂ (F : FTy → Type) [FloatOps F] : Prop :=
  ∀ (m : (ℓ : Loc nD τ sig) → Buf (Elt F) ℓ) (g : Dev nD → PrngReg),
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

theorem runs_eq (F : FTy → Type) [FloatOps F] : Runs₁ F = Runs₂ F := by sl_kernel_rfl

theorem kernel_frame (F : FTy → Type) [FloatOps F] : Runs₁ F :=
  (runs_eq F).mpr fun m g => frame m g

end Cert.KernelIdeal.Attn

end
-- ==== Proof.Attn.Blocks.lean ====
/- Which part of each packed array a grid point is given, and where its result goes. A point is a batch, a head and a
   block of 1024 queries. -/
module

public import proofs.«01_k».proof.Proof.Attn.Frame
public import Idealize.ShloMosaic.Lib.Pointwise
public import Idealize.ShloMosaic.Lib.Pipeline.ValueKit

@[expose] public section

set_option maxRecDepth 16384

noncomputable section

namespace Cert.KernelIdeal.Attn

open Idealize.ShloMosaic Idealize.ShloMosaic.TcCoe
open Cert.KernelIdeal.Gen

/-- The batch of point `t`. -/
def batch (t : Fin cfg0.N) : Fin 2 := grid0.coords t 0
/-- Its head. -/
def head (t : Fin cfg0.N) : Fin 8 := grid0.coords t 1
/-- Its block of queries. -/
def tile (t : Fin cfg0.N) : Fin 16 := grid0.coords t 2

theorem idx0 : ∀ t : Fin cfg0.N, win0_0.index t = ![(head t).val, 0, (batch t).val * 16 + (tile t).val] := by decide +kernel
theorem idx1 : ∀ t : Fin cfg0.N, win0_1.index t = ![128 + (batch t).val, (head t).val] := by decide +kernel
theorem idx2 : ∀ t : Fin cfg0.N, win0_2.index t = ![(head t).val, 0, 128 + (batch t).val] := by decide +kernel
theorem idx3 : ∀ t : Fin cfg0.N, win0_3.index t = ![(batch t).val, (head t).val] := by decide +kernel
theorem idx4 : ∀ t : Fin cfg0.N, win0_4.index t = ![(head t).val, 0, (batch t).val] := by decide +kernel
theorem idx5 : ∀ t : Fin cfg0.N, win0_5.index t = ![(batch t).val * 16 + (tile t).val, (head t).val] := by decide +kernel

variable (m : (ℓ : Loc nD τ sig) → Buf (Elt Ideal) ℓ) (c : Dev nD)

theorem block_q (t : Fin cfg0.N) (d : Fin 256) (y : Fin 1024) :
    (X0_0 m c t : Vec Ideal S1x256x1024 .bf16) (ix3 0 d y) =
      V m c main_v12 (ix3 (head t) d ⟨(batch t).val * 16384 + ((tile t).val * 1024 + y.val), by omega⟩) := by
  unfold X0_0 Pipeline.Window.fill
  rw [dif_pos (moved0_0 t _)]
  blk_ext [iblk, idx0 t]

theorem block_kc (t : Fin cfg0.N) (j : Fin 256) (d : Fin 256) :
    (iblk m c 1 t : Vec Ideal S256x256 .bf16) (ix2 j d) =
      V m c main_v25 (ix2 ⟨32768 + (batch t).val * 256 + j.val, by omega⟩ ⟨(head t).val * 256 + d.val, by omega⟩) := by
  blk_ext [iblk, idx1 t]

theorem block_vc (t : Fin cfg0.N) (r : Fin 144) (j : Fin 256) :
    (iblk m c 2 t : Vec Ideal S1x144x256 .bf16) (ix3 0 r j) =
      V m c main_v32 (ix3 (head t) r ⟨32768 + (batch t).val * 256 + j.val, by omega⟩) := by
  blk_ext [iblk, idx2 t]

theorem block_kl (t : Fin cfg0.N) (j : Fin 16384) (d : Fin 256) :
    (X0_3 m c t : Vec Ideal S16384x256 .bf16) (ix2 j d) =
      V m c main_v25 (ix2 ⟨(batch t).val * 16384 + j.val, by omega⟩ ⟨(head t).val * 256 + d.val, by omega⟩) := by
  unfold X0_3 Pipeline.Window.fill
  rw [dif_pos (moved0_3 t _)]
  blk_ext [iblk, idx3 t]

theorem block_vl (t : Fin cfg0.N) (r : Fin 144) (j : Fin 16384) :
    (X0_4 m c t : Vec Ideal S1x144x16384 .bf16) (ix3 0 r j) =
      V m c main_v32 (ix3 (head t) r ⟨(batch t).val * 16384 + j.val, by omega⟩) := by
  unfold X0_4 Pipeline.Window.fill
  rw [dif_pos (moved0_4 t _)]
  blk_ext [iblk, idx4 t]

/-- The kernel's result array is `G` if, at every point, entry (y, r) of what the body leaves is `G` at the row of query
    `y` and the column of lane `r` of the point's head. -/
theorem array_eq (G : Vec Ideal S32768x1024 .bf16)
    (hG : ∀ (t : Fin cfg0.N) (y : Fin 1024) (r : Fin 128), outAt m c t (ix2 y r)
      = G (ix2 ⟨(batch t).val * 16384 + ((tile t).val * 1024 + y.val), by omega⟩ ⟨(head t).val * 128 + r.val, by omega⟩)) :
    (dats m 0 c).arrAt 5 cfg0.N = G := by
  refine (dats m 0 c).arrAt_eq_of_covers 5 _ (by decide +kernel) fun t hf y => ?_
  blk_simp
  rw [after0_5]
  obtain ⟨a, r, rfl⟩ : ∃ (a : Fin 1024) (r : Fin 128), y = ix2 a r := ⟨y 0, y 1, eq_ix2 y⟩
  rw [hG]
  blk_ext [idx5 t]

end Cert.KernelIdeal.Attn

end
-- ==== Proof.Attn.Entry.lean ====
/- What the host code before the call leaves in the three arrays the kernel reads: queries, keys and values at an index. -/
module

public import proofs.«01_k».proof.Proof.Gen.KernelIdeal.Frame.Runs
public import Idealize.ShloMosaic.Lib.Pointwise
public import Idealize.ShloMosaic.Lib.Ring

@[expose] public section

set_option maxRecDepth 16384

noncomputable section

namespace Cert.KernelIdeal.Attn

open Idealize.ShloMosaic Idealize.ShloMosaic.TcCoe
open Cert.KernelIdeal.Gen

/-- The scale the host multiplies the queries by, as the one-element array it computes. -/
def scaleArr : FVec Ideal S_ .f32 :=
  Host.divf (constant S_ .f32 0x3F800000#32)
    (mulf (Host.sqrt (constant S_ .f32 0x43400000#32)) (Host.log (constant S_ .f32 0x40000000#32)))

/-- The queries as the host lays them out: per head, 256 lanes by 33280 columns. -/
def packQ (qn : FVec Ideal S2x16384x8x128 .f32) (qr : FVec Ideal S2x16384x8x64 .f32) : FVec Ideal S8x256x33280 .bf16 :=
  truncf .bf16 (concatenate S8x256x33280 2
    [⟨S8x256x32768, transpose S8x256x32768 [1, 2, 0]
        (shapeCast S32768x8x256
          (mulf (concatenate S2x16384x8x256 3
              [⟨S2x16384x8x128, qn⟩, ⟨S2x16384x8x64, qr⟩,
                ⟨S2x16384x8x64, broadcastInDim S2x16384x8x64 ![] bcast_S_S2x16384x8x64 (constant S_ .f32 0x00000000#32)⟩]
              concatenates_S2x16384x8x128_S2x16384x8x64_S2x16384x8x64_S2x16384x8x256_d3)
            (broadcastInDim S2x16384x8x256 ![] bcast_S_S2x16384x8x256 scaleArr))
          shapeCasts_S2x16384x8x256_S32768x8x256)
        transposes_S32768x8x256_S8x256x32768_1_2_0⟩,
      ⟨S8x256x512, broadcastInDim S8x256x512 ![] bcast_S_S8x256x512 (constant S_ .f32 0x00000000#32)⟩]
    concatenates_S8x256x32768_S8x256x512_S8x256x33280_d2) bitsLt_bf16_f32

/-- The latent keys, 256 lanes each: content part, rotary part (the same for every head), zeros. -/
def lanesL (kl : FVec Ideal S2x16384x8x128 .f32) (rl : FVec Ideal S2x16384x64 .f32) : FVec Ideal S2x16384x8x256 .f32 :=
  concatenate S2x16384x8x256 3
    [⟨S2x16384x8x128, kl⟩,
      ⟨S2x16384x8x64, broadcastInDim S2x16384x8x64 ![0, 1, 2, 3] bcast_S2x16384x1x64_S2x16384x8x64_0_1_2_3
        (broadcastInDim S2x16384x1x64 ![0, 1, 3] bcast_S2x16384x64_S2x16384x1x64_0_1_3 rl)⟩,
      ⟨S2x16384x8x64, broadcastInDim S2x16384x8x64 ![] bcast_S_S2x16384x8x64 (constant S_ .f32 0x00000000#32)⟩]
    concatenates_S2x16384x8x128_S2x16384x8x64_S2x16384x8x64_S2x16384x8x256_d3

/-- The context keys, laid out the same way. -/
def lanesC (kc : FVec Ideal S2x256x8x128 .f32) (rc : FVec Ideal S2x256x64 .f32) : FVec Ideal S2x256x8x256 .f32 :=
  concatenate S2x256x8x256 3
    [⟨S2x256x8x128, kc⟩,
      ⟨S2x256x8x64, broadcastInDim S2x256x8x64 ![0, 1, 2, 3] bcast_S2x256x1x64_S2x256x8x64_0_1_2_3
        (broadcastInDim S2x256x1x64 ![0, 1, 3] bcast_S2x256x64_S2x256x1x64_0_1_3 rc)⟩,
      ⟨S2x256x8x64, broadcastInDim S2x256x8x64 ![] bcast_S_S2x256x8x64 (constant S_ .f32 0x00000000#32)⟩]
    concatenates_S2x256x8x128_S2x256x8x64_S2x256x8x64_S2x256x8x256_d3

/-- One row per key, the latent rows of both batches first. -/
def rowsK (l : FVec Ideal S2x16384x8x256 .f32) (x : FVec Ideal S2x256x8x256 .f32) : FVec Ideal S33280x8x256 .f32 :=
  concatenate S33280x8x256 0
    [⟨S32768x8x256, shapeCast S32768x8x256 l shapeCasts_S2x16384x8x256_S32768x8x256⟩,
      ⟨S512x8x256, shapeCast S512x8x256 x shapeCasts_S2x256x8x256_S512x8x256⟩]
    concatenates_S32768x8x256_S512x8x256_S33280x8x256_d0

/-- The keys as the host lays them out: one row per key, 256 lanes per head side by side. -/
def packK (kl : FVec Ideal S2x16384x8x128 .f32) (rl : FVec Ideal S2x16384x64 .f32)
    (kc : FVec Ideal S2x256x8x128 .f32) (rc : FVec Ideal S2x256x64 .f32) : FVec Ideal S33280x2048 .bf16 :=
  truncf .bf16 (shapeCast S33280x2048 (rowsK (lanesL kl rl) (lanesC kc rc)) shapeCasts_S33280x8x256_S33280x2048) bitsLt_bf16_f32

/-- The values as the host lays them out: per head, 128 value rows and then 16 rows of ones. -/
def packV (vl : FVec Ideal S2x16384x8x128 .f32) (vc : FVec Ideal S2x256x8x128 .f32) : FVec Ideal S8x144x33280 .bf16 :=
  truncf .bf16 (concatenate S8x144x33280 1
    [⟨S8x128x33280, transpose S8x128x33280 [1, 2, 0] (concatenate S33280x8x128 0
        [⟨S32768x8x128, shapeCast S32768x8x128 vl shapeCasts_S2x16384x8x128_S32768x8x128⟩,
          ⟨S512x8x128, shapeCast S512x8x128 vc shapeCasts_S2x256x8x128_S512x8x128⟩]
        concatenates_S32768x8x128_S512x8x128_S33280x8x128_d0)
        transposes_S33280x8x128_S8x128x33280_1_2_0⟩,
      ⟨S8x16x33280, broadcastInDim S8x16x33280 ![] bcast_S_S8x16x33280 (constant S_ .f32 0x3F800000#32)⟩]
    concatenates_S8x128x33280_S8x16x33280_S8x144x33280_d1) bitsLt_bf16_f32

variable (m : (ℓ : Loc nD τ sig) → Buf (Elt Ideal) ℓ) (c : Dev nD)

theorem V_v : V m c main_v32 = packV (m ((c.tc : Thread nD τ).loc main_arg7)) (m ((c.tc : Thread nD τ).loc main_arg6)) := by
  sl_kernel_rfl

theorem V_q : V m c main_v12 = packQ (m ((c.tc : Thread nD τ).loc main_arg0)) (m ((c.tc : Thread nD τ).loc main_arg1)) := by
  sl_kernel_rfl

theorem V_k : V m c main_v25 = packK (m ((c.tc : Thread nD τ).loc main_arg3)) (m ((c.tc : Thread nD τ).loc main_arg5))
    (m ((c.tc : Thread nD τ).loc main_arg2)) (m ((c.tc : Thread nD τ).loc main_arg4)) := by
  sl_kernel_rfl

end Cert.KernelIdeal.Attn

end
-- ==== Proof.Attn.Packed.lean ====
/- The three packed arrays, entry by entry, in terms of the arguments. -/
module

public import proofs.«01_k».proof.Proof.Attn.Entry

@[expose] public section

set_option maxRecDepth 16384

noncomputable section

namespace Cert.KernelIdeal.Attn

open Idealize.ShloMosaic Idealize.ShloMosaic.TcCoe
open Cert.KernelIdeal.Gen

/-- The scale is one over the root of 192 times the logarithm of 2. -/
theorem scaleArr_apply : scaleArr ix0 = ((1 / (Real.sqrt 192 * Real.log 2) : ℝ) : EReal) := by
  have h192 : Ideal.ofBits .f32 0x43400000#32 = ((192 : ℝ) : EReal) := by
    simp [Ideal.ofBits, Ideal.ieee]
    rw [← EReal.coe_mul]; norm_num
  have h2 : Ideal.ofBits .f32 0x40000000#32 = ((2 : ℝ) : EReal) := by
    simp [Ideal.ofBits, Ideal.ieee]
    rw [← EReal.coe_mul]; norm_num
  have hl : 0 < Real.log 2 := Real.log_pos (by norm_num)
  have hs : 0 < Real.sqrt 192 := Real.sqrt_pos.mpr (by norm_num)
  unfold scaleArr
  pointwise
  rw [h192, h2, Ideal.sqrt_coe, Ideal.log_coe, if_neg (by norm_num), if_neg (by norm_num), ← EReal.coe_mul,
    Ideal.div_coe (mul_pos hs hl).ne', one_mul]

/-- A packed query lane: content, rotary or zero, times the scale. -/
theorem packQ_apply (qn qr) (h : Fin 8) (d : Fin 256) (b : Fin 2) (q : Fin 16384) :
    packQ qn qr (ix3 h d ⟨b.val * 16384 + q.val, by omega⟩) =
      (if h₂ : d.val < 128 then qn (ix4 b q h ⟨d.val, h₂⟩)
        else if h₃ : d.val - 128 < 64 then qr (ix4 b q h ⟨d.val - 128, h₃⟩) else (0 : EReal)) * scaleArr ix0 := by
  have hn : b.val * 16384 + q.val < 32768 := by omega
  unfold packQ
  pointwise
  rw [dif_pos hn]

theorem packV_latent (vl vc) (h : Fin 8) (r : Fin 144) (b : Fin 2) (k : Fin 16384) :
    packV vl vc (ix3 h r ⟨b.val * 16384 + k.val, by omega⟩) =
      if h₁ : r.val < 128 then vl (ix4 b k h ⟨r.val, h₁⟩) else (1 : EReal) := by
  have hn : b.val * 16384 + k.val < 32768 := by omega
  unfold packV
  pointwise
  simp only [dif_pos hn]

theorem packV_context (vl vc) (h : Fin 8) (r : Fin 144) (b : Fin 2) (k : Fin 256) :
    packV vl vc (ix3 h r ⟨32768 + b.val * 256 + k.val, by omega⟩) =
      if h₁ : r.val < 128 then vc (ix4 b k h ⟨r.val, h₁⟩) else (1 : EReal) := by
  have hn : ¬ 32768 + b.val * 256 + k.val < 32768 := by omega
  have e₁ : (32768 + b.val * 256 + k.val - 32768) / 256 = b.val := by omega
  have e₂ : (32768 + b.val * 256 + k.val - 32768) % 256 = k.val := by omega
  unfold packV
  pointwise
  simp only [dif_neg hn, e₁, e₂]

theorem packK_rows (kl rl kc rc) (n : Fin 33280) (h : Fin 8) (d : Fin 256) :
    packK kl rl kc rc (ix2 n ⟨h.val * 256 + d.val, by omega⟩) =
      rowsK (lanesL kl rl) (lanesC kc rc) (ix3 n h d) := by
  unfold packK
  pointwise

theorem rowsK_latent (l x) (h : Fin 8) (d : Fin 256) (b : Fin 2) (k : Fin 16384) :
    rowsK l x (ix3 ⟨b.val * 16384 + k.val, by omega⟩ h d) = l (ix4 b k h d) := by
  have hn : b.val * 16384 + k.val < 32768 := by omega
  unfold rowsK
  pointwise
  rw [dif_pos hn]

theorem rowsK_context (l x) (h : Fin 8) (d : Fin 256) (b : Fin 2) (k : Fin 256) :
    rowsK l x (ix3 ⟨32768 + b.val * 256 + k.val, by omega⟩ h d) = x (ix4 b k h d) := by
  have hn : ¬ 32768 + b.val * 256 + k.val < 32768 := by omega
  have e₁ : (32768 + b.val * 256 + k.val - 32768) / 256 = b.val := by omega
  have e₂ : (32768 + b.val * 256 + k.val - 32768) % 256 = k.val := by omega
  unfold rowsK
  pointwise
  simp only [dif_neg hn, e₁, e₂]

theorem lanesL_apply (kl rl) (b : Fin 2) (k : Fin 16384) (h : Fin 8) (d : Fin 256) :
    lanesL kl rl (ix4 b k h d) =
      if h₂ : d.val < 128 then kl (ix4 b k h ⟨d.val, h₂⟩)
        else if h₃ : d.val - 128 < 64 then rl (ix3 b k ⟨d.val - 128, h₃⟩) else (0 : EReal) := by
  unfold lanesL
  pointwise

theorem lanesC_apply (kc rc) (b : Fin 2) (k : Fin 256) (h : Fin 8) (d : Fin 256) :
    lanesC kc rc (ix4 b k h d) =
      if h₂ : d.val < 128 then kc (ix4 b k h ⟨d.val, h₂⟩)
        else if h₃ : d.val - 128 < 64 then rc (ix3 b k ⟨d.val - 128, h₃⟩) else (0 : EReal) := by
  unfold lanesC
  pointwise

end Cert.KernelIdeal.Attn

end
-- ==== Proof.Attn.Pay.lean ====
/- What each computed value of the kernel's block is at an index, over the extended reals. -/
module

public import proofs.«01_k».proof.Proof.Attn.State
public import Idealize.ShloMosaic.Lib.Pointwise

@[expose] public section

noncomputable section

namespace Cert.KernelIdeal.Attn

open Idealize.ShloMosaic Idealize.ShloMosaic.TcCoe
open Cert.KernelIdeal.Gen

/-- The pattern a maximum starts from is the least extended real. -/
theorem low : Ideal.ofBits .f32 0xFF800000#32 = ⊥ := by
  simp [Ideal.ofBits, Ideal.ieee]

theorem scores512 (q : Vec Ideal S1x256x1024 .bf16) (k : Vec Ideal S512x256 .bf16) (j : Fin 512) (t : Fin 1024) :
    k0_pay7 (F := Ideal) q k (ix2 j t) = ∑ d : Fin 256, k (ix2 j d) * q (ix3 0 d t) := by
  pointwise [k0_pay7, k0_pay5]

theorem scores512_ahead (q : Vec Ideal S1x256x1024 .bf16) (k : Vec Ideal S512x256 .bf16) (j : Fin 512) (t : Fin 1024) :
    k0_pay11 (F := Ideal) q k (ix2 j t) = ∑ d : Fin 256, k (ix2 j d) * q (ix3 0 d t) := by
  pointwise [k0_pay11, k0_pay5]

theorem scores512_second (q : Vec Ideal S1x256x1024 .bf16) (k : Vec Ideal S512x256 .bf16) (j : Fin 512) (t : Fin 1024) :
    k0_pay2 (F := Ideal) (k0_pay5 q) k (ix2 j t) = ∑ d : Fin 256, k (ix2 j d) * q (ix3 0 d t) := by
  pointwise [k0_pay2, k0_pay5]

theorem scores256 (q : Vec Ideal S1x256x1024 .bf16) (k : Vec Ideal S256x256 .bf16) (j : Fin 256) (t : Fin 1024) :
    k0_pay6 (F := Ideal) q k (ix2 j t) = ∑ d : Fin 256, k (ix2 j d) * q (ix3 0 d t) := by
  pointwise [k0_pay6, k0_pay5]

theorem max256 (q : Vec Ideal S1x256x1024 .bf16) (k : Vec Ideal S256x256 .bf16) (t : Fin 1024) :
    k0_pay8 (F := Ideal) q k (ix2 0 t)
      = Finset.univ.fold max (⊥ : EReal) fun j : Fin 256 => k0_pay6 (F := Ideal) q k (ix2 j t) := by
  pointwise [k0_pay8]
  rw [low]

theorem acc256 (q : Vec Ideal S1x256x1024 .bf16) (k : Vec Ideal S256x256 .bf16) (v : Vec Ideal S1x144x256 .bf16)
    (r : Fin 144) (t : Fin 1024) :
    k0_pay9 (F := Ideal) q k v (ix2 r t)
      = ∑ j : Fin 256, v (ix3 0 r j) * Ideal.exp2 (k0_pay6 (F := Ideal) q k (ix2 j t) - k0_pay8 (F := Ideal) q k (ix2 0 t)) := by
  pointwise [k0_pay9]
  rfl

theorem max512 (m : FVec Ideal S1x1024 .f32) (s : Vec Ideal S512x1024 .f32) (t : Fin 1024) :
    k0_pay3 (F := Ideal) m s (ix2 0 t)
      = max (m (ix2 0 t)) (Finset.univ.fold max (⊥ : EReal) fun j : Fin 512 => s (ix2 j t)) := by
  pointwise [k0_pay3]
  rw [low]

theorem max512' (m : FVec Ideal S1x1024 .f32) (s : Vec Ideal S512x1024 .f32) (t : Fin 1024) :
    k0_pay12 (F := Ideal) m s (ix2 0 t)
      = max (m (ix2 0 t)) (Finset.univ.fold max (⊥ : EReal) fun j : Fin 512 => s (ix2 j t)) := by
  pointwise [k0_pay12]
  rw [low]

theorem acc512 (m : FVec Ideal S1x1024 .f32) (s : Vec Ideal S512x1024 .f32) (v : Vec Ideal S1x144x512 .bf16)
    (a : Vec Ideal S144x1024 .f32) (r : Fin 144) (t : Fin 1024) :
    k0_pay10 (F := Ideal) (k0_pay4 (F := Ideal) m s v a) (ix2 r t)
      = Ideal.exp2 (m (ix2 0 t) - k0_pay3 (F := Ideal) m s (ix2 0 t)) * a (ix2 r t)
        + ∑ j : Fin 512, v (ix3 0 r j) * Ideal.exp2 (s (ix2 j t) - k0_pay3 (F := Ideal) m s (ix2 0 t)) := by
  pointwise [k0_pay10, k0_pay4]
  rfl

theorem acc512' (m : FVec Ideal S1x1024 .f32) (s : Vec Ideal S512x1024 .f32) (v : Vec Ideal S1x144x512 .bf16)
    (a : Vec Ideal S144x1024 .f32) (r : Fin 144) (t : Fin 1024) :
    k0_pay13 (F := Ideal) m s v a (ix2 r t)
      = Ideal.exp2 (m (ix2 0 t) - k0_pay12 (F := Ideal) m s (ix2 0 t)) * a (ix2 r t)
        + ∑ j : Fin 512, v (ix3 0 r j) * Ideal.exp2 (s (ix2 j t) - k0_pay12 (F := Ideal) m s (ix2 0 t)) := by
  pointwise [k0_pay13]
  rfl

theorem quotient (a : Vec Ideal S128x1024 .f32) (z : Vec Ideal S1x1024 .f32) (t : Fin 1024) (r : Fin 128) :
    k0_pay1 (F := Ideal) (k0_pay14 (F := Ideal) a z) (ix2 t r) = Ideal.div (a (ix2 r t)) (z (ix2 0 t)) := by
  pointwise [k0_pay1, k0_pay14]

end Cert.KernelIdeal.Attn

end
-- ==== Proof.Attn.Softmax.lean ====
/- Sums weighted by powers of two of real scores: how they are rescaled, extended by further keys, and normalised. The
   values that are weighted may be any extended reals. -/
module

public import Idealize.ShloMosaic.PureOps.Ideal

@[expose] public section

noncomputable section

namespace Cert.Softmax

open Idealize.ShloMosaic

/-- The largest of finitely many reals, at least one, is a real. -/
theorem fold_max_coe {ι : Type*} [Fintype ι] [Nonempty ι] (s : ι → ℝ) :
    ∃ M : ℝ, Finset.univ.fold max (⊥ : EReal) (fun j => (s j : EReal)) = (M : EReal) := by
  classical
  have h : ∀ t : Finset ι, t.Nonempty → ∃ M : ℝ, t.fold max (⊥ : EReal) (fun j => (s j : EReal)) = (M : EReal) := by
    intro t
    induction t using Finset.induction_on with
    | empty => intro h; exact absurd h (by simp)
    | insert a t ha ih =>
      intro _
      rw [Finset.fold_insert ha]
      rcases t.eq_empty_or_nonempty with rfl | hne
      · exact ⟨s a, by simp⟩
      · obtain ⟨M, hM⟩ := ih hne
        rw [hM]
        exact ⟨max (s a) M, (EReal.coe_strictMono.monotone.map_max).symm⟩
  exact h _ Finset.univ_nonempty

/-- A nonnegative real distributes over a sum of extended reals. -/
theorem coe_mul_sum {ι : Type*} (t : Finset ι) {c : ℝ} (hc : 0 ≤ c) (f : ι → EReal) :
    (c : EReal) * ∑ j ∈ t, f j = ∑ j ∈ t, (c : EReal) * f j := by
  classical
  induction t using Finset.induction_on with
  | empty => simp
  | insert a t ha ih =>
    rw [Finset.sum_insert ha, Finset.sum_insert ha,
      EReal.left_distrib_of_nonneg_of_ne_top (EReal.coe_nonneg.mpr hc) (EReal.coe_ne_top _), ih]

/-- A sum of reals is the sum of them as extended reals. -/
theorem coe_sum {ι : Type*} (t : Finset ι) (f : ι → ℝ) : ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

theorem exp2_sub (a b : ℝ) : Ideal.exp2 ((a : EReal) - (b : EReal)) = (((2 : ℝ) ^ (a - b) : ℝ) : EReal) := by
  rw [← EReal.coe_sub]; rfl

theorem exp_sub (a b : ℝ) : Ideal.exp ((a : EReal) - (b : EReal)) = ((Real.exp (a - b) : ℝ) : EReal) := by
  rw [← EReal.coe_sub]; rfl

/-- The values of the first `n` keys, weighted by two to their scores less `M`. -/
def part (v : ℕ → EReal) (s : ℕ → ℝ) (M : ℝ) (n : ℕ) : EReal :=
  ∑ κ ∈ Finset.range n, v κ * (((2 : ℝ) ^ (s κ - M) : ℝ) : EReal)

theorem part_rescale (v : ℕ → EReal) (s : ℕ → ℝ) (M M' : ℝ) (n : ℕ) :
    (((2 : ℝ) ^ (M - M') : ℝ) : EReal) * part v s M n = part v s M' n := by
  unfold part
  rw [coe_mul_sum _ (by positivity)]
  refine Finset.sum_congr rfl fun κ _ => ?_
  rw [mul_left_comm, ← EReal.coe_mul, ← Real.rpow_add (by norm_num), show M - M' + (s κ - M) = s κ - M' by ring]

theorem part_add (v : ℕ → EReal) (s : ℕ → ℝ) (M : ℝ) (n k : ℕ) :
    part v s M (n + k) = part v s M n
      + ∑ j : Fin k, v (n + j) * (((2 : ℝ) ^ (s (n + j) - M) : ℝ) : EReal) := by
  unfold part
  rw [Finset.sum_range_add, ← Finset.sum_range (fun j => v (n + j) * (((2 : ℝ) ^ (s (n + j) - M) : ℝ) : EReal))]

/-- The first keys' sums: nothing is rescaled. -/
theorem first (v : ℕ → EReal) (s : ℕ → ℝ) (k : ℕ) (v' s' : Fin k → EReal) (hv : ∀ j, v' j = v j)
    (hs : ∀ j, s' j = (s j : EReal)) (M : ℝ) :
    ∑ j : Fin k, v' j * Ideal.exp2 (s' j - (M : EReal)) = part v s M k := by
  unfold part
  rw [Finset.sum_range]
  refine Finset.sum_congr rfl fun j _ => ?_
  rw [hv, hs, exp2_sub]

/-- One step of the running sums: `k` further keys, from the maximum `M` to the maximum `M'`. -/
theorem step (v : ℕ → EReal) (s : ℕ → ℝ) (n k : ℕ) (v' s' : Fin k → EReal) (hv : ∀ j : Fin k, v' j = v (n + j))
    (hs : ∀ j : Fin k, s' j = (s (n + j) : EReal)) (M M' : ℝ) :
    Ideal.exp2 ((M : EReal) - (M' : EReal)) * part v s M n + ∑ j : Fin k, v' j * Ideal.exp2 (s' j - (M' : EReal))
      = part v s M' (n + k) := by
  rw [exp2_sub, part_rescale, part_add]
  congr 1
  refine Finset.sum_congr rfl fun j _ => ?_
  rw [hv, hs, exp2_sub]

/-- The running maximum stays real. -/
theorem step_max {k : ℕ} [NeZero k] (s' : Fin k → EReal) (s : Fin k → ℝ) (hs : ∀ j, s' j = (s j : EReal)) (M : ℝ) :
    ∃ M' : ℝ, max (M : EReal) (Finset.univ.fold max (⊥ : EReal) s') = (M' : EReal) := by
  obtain ⟨N, hN⟩ := fold_max_coe s
  rw [funext hs, hN]
  exact ⟨max M N, (EReal.coe_strictMono.monotone.map_max).symm⟩

/-- The share of key `κ` among the first `n` keys: the exponential of its score over the sum of all. -/
def share (s : ℕ → ℝ) (n κ : ℕ) : ℝ := Real.exp (s κ) / ∑ κ' ∈ Finset.range n, Real.exp (s κ')

/-- The running sums' quotient, the scores in units of log 2: the values weighted by their shares. -/
theorem part_div (v : ℕ → EReal) (s : ℕ → ℝ) (M : ℝ) {n : ℕ} (hn : 0 < n) :
    Ideal.div (part v (fun κ => s κ / Real.log 2) M n) (part (fun _ => 1) (fun κ => s κ / Real.log 2) M n)
      = ∑ κ ∈ Finset.range n, v κ * ((share s n κ : ℝ) : EReal) := by
  have hl : Real.log 2 ≠ 0 := (Real.log_pos (by norm_num)).ne'
  have h2 : ∀ κ, (2 : ℝ) ^ (s κ / Real.log 2 - M) = Real.exp (s κ) * (2 : ℝ) ^ (-M) := by
    intro κ
    rw [sub_eq_add_neg, Real.rpow_add (by norm_num), Real.rpow_def_of_pos (by norm_num) (s κ / Real.log 2)]
    congr 2
    field_simp
  have hc : (0 : ℝ) < (2 : ℝ) ^ (-M) := by positivity
  have hZ : 0 < ∑ κ' ∈ Finset.range n, Real.exp (s κ') :=
    Finset.sum_pos (fun _ _ => Real.exp_pos _) ⟨0, by simpa using hn⟩
  have hz : part (fun _ => 1) (fun κ => s κ / Real.log 2) M n
      = (((∑ κ' ∈ Finset.range n, Real.exp (s κ')) * (2 : ℝ) ^ (-M) : ℝ) : EReal) := by
    unfold part
    simp only [one_mul, h2]
    rw [← coe_sum, ← Finset.sum_mul]
  rw [hz, Ideal.div_coe (by positivity), mul_comm]
  unfold part share
  rw [coe_mul_sum _ (by positivity)]
  refine Finset.sum_congr rfl fun κ _ => ?_
  rw [mul_left_comm, ← EReal.coe_mul, h2]
  congr 2
  field_simp

/-- The softmax as the reference writes it, at a key: its share. -/
theorem softmax_eq {n : ℕ} (s : ℕ → ℝ) (M : ℝ) (k : Fin n) :
    Ideal.div (Ideal.exp ((s k : EReal) - (M : EReal))) (∑ j : Fin n, Ideal.exp ((s j : EReal) - (M : EReal)))
      = ((share s n k : ℝ) : EReal) := by
  have he : ∀ κ, Real.exp (s κ - M) = Real.exp (s κ) * Real.exp (-M) := fun κ => by
    rw [sub_eq_add_neg, Real.exp_add]
  have hZ : 0 < ∑ κ' ∈ Finset.range n, Real.exp (s κ') :=
    Finset.sum_pos (fun _ _ => Real.exp_pos _) ⟨0, by simpa using k.pos⟩
  have hz : ∑ j : Fin n, Ideal.exp ((s j : EReal) - (M : EReal))
      = (((∑ κ' ∈ Finset.range n, Real.exp (s κ')) * Real.exp (-M) : ℝ) : EReal) := by
    simp only [exp_sub, he]
    rw [← coe_sum, ← Finset.sum_mul, ← Finset.sum_range (fun κ => Real.exp (s κ))]
  have hM := Real.exp_pos (-M)
  rw [hz, Ideal.div_coe (by positivity), exp_sub, ← EReal.coe_mul, he]
  unfold share
  congr 1
  field_simp

end Cert.Softmax

end
-- ==== Proof.Attn.Loop.lean ====
/- One block of the kernel in closed form: after every trip a query's column of the accumulator is the sum of the values
   of the keys met so far, weighted by two to their scores less a real, and its row of ones' sum is the denominator; so
   the block written is the values weighted by their shares. -/
module

public import proofs.«01_k».proof.Proof.Attn.Pay
public import proofs.«01_k».proof.Proof.Attn.Softmax

@[expose] public section

noncomputable section

namespace Cert.KernelIdeal.Attn

open Idealize.ShloMosaic Idealize.ShloMosaic.TcCoe
open Cert.KernelIdeal.Gen
open Cert.Softmax (part share)

theorem trips_eq : k0_t1_loop.trips = 16 := by decide +kernel

/-- The rows a trip's loads start at. -/
theorem off1_eq : ∀ k : Fin k0_t1_loop.trips, k0_off1 k = ![1024 * k.val + 512, 0] := by decide +kernel
theorem off2_eq : ∀ k : Fin k0_t1_loop.trips, k0_off2 k = ![0, 0, 1024 * k.val] := by decide +kernel
theorem off3_eq : ∀ k : Fin k0_t1_loop.trips, k.val + 1 < 16 → k0_off3 k = ![1024 * k.val + 1024, 0] := by decide +kernel
theorem off4_eq : ∀ k : Fin k0_t1_loop.trips, k0_off4 k = ![0, 0, 1024 * k.val + 512] := by decide +kernel

theorem keys_apply (kl : Vec Ideal S16384x256 .bf16) (o : Fin 2 → Nat) (h) (n : Nat) (ho : o = ![n, 0]) (j : Fin 512)
    (d : Fin 256) (hn : n + j.val < 16384) : keys kl o h (ix2 j d) = kl (ix2 ⟨n + j.val, hn⟩ d) := by
  subst ho
  pointwise [keys]

theorem vals_apply (vl : Vec Ideal S1x144x16384 .bf16) (o : Fin 3 → Nat) (h) (n : Nat) (ho : o = ![0, 0, n]) (r : Fin 144)
    (j : Fin 512) (hn : n + j.val < 16384) : vals vl o h (ix3 0 r j) = vl (ix3 0 r ⟨n + j.val, hn⟩) := by
  subst ho
  pointwise [vals]

section
variable (q : Vec Ideal S1x256x1024 .bf16) (kc : Vec Ideal S256x256 .bf16) (vc : Vec Ideal S1x144x256 .bf16)
  (kl : Vec Ideal S16384x256 .bf16) (vl : Vec Ideal S1x144x16384 .bf16)
  (t : Fin 1024) (s : ℕ → ℝ) (v : Fin 144 → ℕ → EReal)

/-- What column `t` holds after `n` trips. -/
def Holds (n : ℕ) (S : St Ideal) : Prop :=
  ∃ M : ℝ, S.1 (ix2 0 t) = (M : EReal) ∧ (∀ r, S.2.1 (ix2 r t) = part (v r) s M (256 + 1024 * n))
    ∧ (n < 16 → ∀ j : Fin 512, S.2.2 (ix2 j t) = (s (256 + 1024 * n + j) : EReal))

variable (hkc : ∀ j : Fin 256, ∑ d : Fin 256, kc (ix2 j d) * q (ix3 0 d t) = (s j : EReal))
  (hkl : ∀ j : Fin 16384, ∑ d : Fin 256, kl (ix2 j d) * q (ix3 0 d t) = (s (256 + j) : EReal))
  (hvc : ∀ r (j : Fin 256), vc (ix3 0 r j) = v r j)
  (hvl : ∀ r (j : Fin 16384), vl (ix3 0 r j) = v r (256 + j))

include hkc hkl hvc in
theorem holds_zero : Holds t s v 0 (st0 q kc vc kl) := by
  obtain ⟨M, hM⟩ := Cert.Softmax.fold_max_coe fun j : Fin 256 => s j
  have hs : ∀ j : Fin 256, k0_pay6 (F := Ideal) q kc (ix2 j t) = (s j : EReal) := fun j => by rw [scores256, hkc]
  have hm : k0_pay8 (F := Ideal) q kc (ix2 0 t) = (M : EReal) := by rw [max256, funext hs, hM]
  unfold Holds st0
  dsimp only
  refine ⟨M, hm, fun r => ?_, fun _ j => ?_⟩
  · have ha : k0_pay9 (F := Ideal) q kc vc (ix2 r t) = part (v r) s M (256 + 1024 * 0) := by
      rw [acc256, hm]
      exact Cert.Softmax.first (v r) s 256 _ _ (hvc r) hs M
    exact ha
  · show k0_pay7 (F := Ideal) q _ (ix2 j t) = _
    rw [scores512]
    have hj : 0 + j.val < 16384 := by omega
    simp only [keys_apply kl _ _ 0 rfl j _ hj]
    rw [hkl]
    simp

include hkl hvl in
theorem holds_succ (n : Fin k0_t1_loop.trips) (S : St Ideal) (h : Holds t s v n.val S) :
    Holds t s v (n.val + 1) (tripStep q kl vl n S) := by
  obtain ⟨M, hm, ha, hs⟩ := h
  have hn : n.val < 16 := trips_eq ▸ n.isLt
  replace hs := hs hn
  -- the scores at hand
  obtain ⟨M₁, hM₁⟩ := Cert.Softmax.step_max (fun j : Fin 512 => S.2.2 (ix2 j t)) _ hs M
  have hm₁ : k0_pay3 (F := Ideal) S.1 S.2.2 (ix2 0 t) = (M₁ : EReal) := by rw [max512, hm, hM₁]
  have hv₁ : ∀ r (j : Fin 512), vals vl (k0_off2 n) (k0_off2_inb n) (ix3 0 r j) = v r (256 + 1024 * n.val + j) := fun r j => by
    rw [vals_apply vl _ _ (1024 * n.val) (off2_eq n) r j (by omega), hvl, Nat.add_assoc]
  have ha₁ : ∀ r, k0_pay10 (F := Ideal) (k0_pay4 (F := Ideal) S.1 S.2.2 (vals vl (k0_off2 n) (k0_off2_inb n)) S.2.1) (ix2 r t)
      = part (v r) s M₁ (256 + 1024 * n.val + 512) := fun r => by
    rw [acc512, hm, hm₁, ha, Cert.Softmax.step (v r) s _ 512 _ _ (hv₁ r) hs]
  -- the ones after them
  have hs₂ : ∀ j : Fin 512, k0_pay2 (F := Ideal) (k0_pay5 q) (keys kl (k0_off1 n) (k0_off1_inb n)) (ix2 j t)
      = (s (256 + 1024 * n.val + 512 + j) : EReal) := fun j => by
    rw [scores512_second]
    have hj : 1024 * n.val + 512 + j.val < 16384 := by omega
    simp only [keys_apply kl _ _ (1024 * n.val + 512) (off1_eq n) j _ hj]
    rw [hkl]
    congr 2
    simp only []
    omega
  obtain ⟨M₂, hM₂⟩ := Cert.Softmax.step_max _ _ hs₂ M₁
  have hm₂ : k0_pay12 (F := Ideal) (k0_pay3 (F := Ideal) S.1 S.2.2)
      (k0_pay2 (F := Ideal) (k0_pay5 q) (keys kl (k0_off1 n) (k0_off1_inb n))) (ix2 0 t) = (M₂ : EReal) := by
    rw [max512', hm₁, hM₂]
  have hv₂ : ∀ r (j : Fin 512), vals vl (k0_off4 n) (k0_off4_inb n) (ix3 0 r j) = v r (256 + 1024 * n.val + 512 + j) := fun r j => by
    rw [vals_apply vl _ _ (1024 * n.val + 512) (off4_eq n) r j (by omega), hvl]
    congr 1
    simp only []
    omega
  refine ⟨M₂, hm₂, fun r => ?_, fun hlt j => ?_⟩
  · show k0_pay13 (F := Ideal) (k0_pay3 (F := Ideal) S.1 S.2.2) _ _ _ (ix2 r t) = _
    rw [acc512', hm₁, hm₂, ha₁, Cert.Softmax.step (v r) s _ 512 _ _ (hv₂ r) hs₂,
      show 256 + 1024 * n.val + 512 + 512 = 256 + 1024 * (n.val + 1) by omega]
  · show k0_pay11 (F := Ideal) q _ (ix2 j t) = _
    rw [scores512_ahead]
    have hj : 1024 * n.val + 1024 + j.val < 16384 := by omega
    simp only [keys_apply kl _ _ (1024 * n.val + 1024) (off3_eq n hlt) j _ hj]
    rw [hkl]
    congr 2
    simp only []
    omega

include hkc hkl hvc hvl in
theorem holds_from (n : ℕ) (hn : n ≤ k0_t1_loop.trips) : Holds t s v n (stFrom q kl vl (st0 q kc vc kl) n) := by
  induction n with
  | zero => exact holds_zero q kc vc kl t s v hkc hkl hvc
  | succ n ih =>
    have := holds_succ q kl vl t s v hkl hvl ⟨n, hn⟩ _ (ih (by omega))
    rwa [← stFrom_succ] at this

end

/-- THE BLOCK: where a query's scores are reals, in units of log 2, its row of the block written is the values of the
    16640 keys weighted by their shares. -/
theorem outBlk_apply (q : Vec Ideal S1x256x1024 .bf16) (kc : Vec Ideal S256x256 .bf16) (vc : Vec Ideal S1x144x256 .bf16)
    (kl : Vec Ideal S16384x256 .bf16) (vl : Vec Ideal S1x144x16384 .bf16) (t : Fin 1024) (s : ℕ → ℝ) (v : Fin 144 → ℕ → EReal)
    (hkc : ∀ j : Fin 256, ∑ d : Fin 256, kc (ix2 j d) * q (ix3 0 d t) = ((s j / Real.log 2 : ℝ) : EReal))
    (hkl : ∀ j : Fin 16384, ∑ d : Fin 256, kl (ix2 j d) * q (ix3 0 d t) = ((s (256 + j) / Real.log 2 : ℝ) : EReal))
    (hvc : ∀ r (j : Fin 256), vc (ix3 0 r j) = v r j)
    (hvl : ∀ r (j : Fin 16384), vl (ix3 0 r j) = v r (256 + j))
    (hone : v 128 = fun _ => 1) (r : Fin 128) :
    outBlk q kc vc kl vl (ix2 t r)
      = ∑ κ ∈ Finset.range 16640, v ⟨r.val, by omega⟩ κ * ((share s 16640 κ : ℝ) : EReal) := by
  obtain ⟨M, -, ha, -⟩ := holds_from q kc vc kl vl t (fun κ => s κ / Real.log 2) v hkc hkl hvc hvl _ le_rfl
  have hN : 256 + 1024 * k0_t1_loop.trips = 16640 := by rw [trips_eq]
  rw [hN] at ha
  change ∀ r, (stEnd q kc vc kl vl).2.1 (ix2 r t) = _ at ha
  unfold outBlk
  simp only []
  rw [quotient]
  have h1 : (View.ld (stEnd q kc vc kl vl).2.1 (Rect.unit (s := S144x1024) ![0, 0] S128x1024.size inb_S144x1024_S128x1024_0_0) : Vec Ideal S128x1024 .f32) (ix2 r t)
      = (stEnd q kc vc kl vl).2.1 (ix2 ⟨r.val, by omega⟩ t) := by
    pointwise
  have h2 : (View.ld (stEnd q kc vc kl vl).2.1 (Rect.unit (s := S144x1024) ![128, 0] S1x1024.size inb_S144x1024_S1x1024_128_0) : Vec Ideal S1x1024 .f32) (ix2 0 t)
      = (stEnd q kc vc kl vl).2.1 (ix2 128 t) := by
    pointwise
  rw [h1, h2, ha, ha, hone]
  exact Cert.Softmax.part_div _ s M (by norm_num)

end Cert.KernelIdeal.Attn

end
-- ==== Proof.Attn.Spec.lean ====
/- What both programs compute: for one batch, head, query and value lane, the values of the 16640 keys (256 of the
   context, then 16384 latent ones) weighted by the softmax of the query's scores. -/
module

public import proofs.«01_k».proof.KernelIdeal
public import proofs.«01_k».proof.Proof.Attn.Softmax
public import Idealize.ShloMosaic.Lib.Pointwise

@[expose] public section

noncomputable section

namespace Cert.Attn

open Idealize.ShloMosaic Idealize.ShloMosaic.TcCoe
open Cert.KernelIdeal

/-- Every entry is a real number. -/
def AllReal {s : Shape} (x : FVec Ideal s .f32) : Prop := ∀ i, x i = ((x i).toReal : EReal)

variable (qn : FVec Ideal S2x16384x8x128 .f32) (qr : FVec Ideal S2x16384x8x64 .f32)
  (kc : FVec Ideal S2x256x8x128 .f32) (kl : FVec Ideal S2x16384x8x128 .f32)
  (rc : FVec Ideal S2x256x64 .f32) (rl : FVec Ideal S2x16384x64 .f32)
  (vc : FVec Ideal S2x256x8x128 .f32) (vl : FVec Ideal S2x16384x8x128 .f32)

/-- Entry `d` of key or value `κ` of a head: the context's for `κ < 256`, then the latent ones. -/
def joined (b : Fin 2) (h : Fin 8) (κ : ℕ) (d : Fin 128) : EReal :=
  if h₁ : κ < 256 then kc (ix4 b ⟨κ, h₁⟩ h d)
  else if h₂ : κ - 256 < 16384 then kl (ix4 b ⟨κ - 256, h₂⟩ h d) else 0

/-- Entry `d` of key `κ`'s rotary part, which all heads share. -/
def joinedRot (b : Fin 2) (κ : ℕ) (d : Fin 64) : EReal :=
  if h₁ : κ < 256 then rc (ix3 b ⟨κ, h₁⟩ d)
  else if h₂ : κ - 256 < 16384 then rl (ix3 b ⟨κ - 256, h₂⟩ d) else 0

/-- The score of key `κ` for query `q`: the two inner products, over the root of 192. -/
def score (b : Fin 2) (h : Fin 8) (q : Fin 16384) (κ : ℕ) : ℝ :=
  (∑ d : Fin 128, (joined kc kl b h κ d).toReal * (qn (ix4 b q h d)).toReal
    + ∑ d : Fin 64, (joinedRot rc rl b κ d).toReal * (qr (ix4 b q h d)).toReal) * (1 / Real.sqrt 192)

/-- One entry of the attention. -/
def attn (b : Fin 2) (h : Fin 8) (q : Fin 16384) (r : Fin 128) : EReal :=
  ∑ κ ∈ Finset.range 16640,
    joined vc vl b h κ r * ((Cert.Softmax.share (score qn qr kc kl rc rl b h q) 16640 κ : ℝ) : EReal)

theorem joined_context (b h) (κ : Fin 256) (d) : joined kc kl b h κ d = kc (ix4 b κ h d) := by
  unfold joined; rw [dif_pos κ.isLt]

theorem joined_latent (b h) (κ : Fin 16384) (d) : joined kc kl b h (256 + κ) d = kl (ix4 b κ h d) := by
  unfold joined
  rw [dif_neg (by omega), dif_pos (by omega)]
  congr 2
  exact Fin.ext (by simp)

theorem joinedRot_context (b) (κ : Fin 256) (d) : joinedRot rc rl b κ d = rc (ix3 b κ d) := by
  unfold joinedRot; rw [dif_pos κ.isLt]

theorem joinedRot_latent (b) (κ : Fin 16384) (d) : joinedRot rc rl b (256 + κ) d = rl (ix3 b κ d) := by
  unfold joinedRot
  rw [dif_neg (by omega), dif_pos (by omega)]
  congr 2
  exact Fin.ext (by simp)

variable {kc kl rc rl}

theorem joined_real (hc : AllReal kc) (hl : AllReal kl) (b h κ d) :
    joined kc kl b h κ d = ((joined kc kl b h κ d).toReal : EReal) := by
  unfold joined
  split_ifs
  · exact hc _
  · exact hl _
  · simp

theorem joinedRot_real (hc : AllReal rc) (hl : AllReal rl) (b κ d) :
    joinedRot rc rl b κ d = ((joinedRot rc rl b κ d).toReal : EReal) := by
  unfold joinedRot
  split_ifs
  · exact hc _
  · exact hl _
  · simp

end Cert.Attn

end
-- ==== Proof.Attn.Point.lean ====
/- What the kernel's result array holds: at every grid point the block's entries are the attention's, so the array is the
   attention laid out one row per query, head by head. -/
module

public import proofs.«01_k».proof.Proof.Attn.Blocks
public import proofs.«01_k».proof.Proof.Attn.Packed
public import proofs.«01_k».proof.Proof.Attn.Loop
public import proofs.«01_k».proof.Proof.Attn.Spec

@[expose] public section

set_option maxRecDepth 16384

noncomputable section

namespace Cert.KernelIdeal.Attn

open Idealize.ShloMosaic Idealize.ShloMosaic.TcCoe
open Cert.KernelIdeal.Gen Cert.Attn

/-- The inner product over 256 packed lanes, the second factor scaled: 128 content lanes, 64 rotary lanes, 64 zeros. -/
theorem lanes_sum (x : Fin 128 → EReal) (x' : Fin 64 → EReal) (y : Fin 128 → EReal) (y' : Fin 64 → EReal) (c : ℝ)
    (hx : ∀ d, x d = ((x d).toReal : EReal)) (hx' : ∀ d, x' d = ((x' d).toReal : EReal))
    (hy : ∀ d, y d = ((y d).toReal : EReal)) (hy' : ∀ d, y' d = ((y' d).toReal : EReal)) :
    ∑ d : Fin 256, (if h : d.val < 128 then x ⟨d.val, h⟩ else if h' : d.val - 128 < 64 then x' ⟨d.val - 128, h'⟩ else (0 : EReal))
        * ((if h : d.val < 128 then y ⟨d.val, h⟩ else if h' : d.val - 128 < 64 then y' ⟨d.val - 128, h'⟩ else (0 : EReal)) * (c : EReal))
      = (((∑ d, (x d).toReal * (y d).toReal + ∑ d, (x' d).toReal * (y' d).toReal) * c : ℝ) : EReal) := by
  have e : ∀ d : Fin 256,
      (if h : d.val < 128 then x ⟨d.val, h⟩ else if h' : d.val - 128 < 64 then x' ⟨d.val - 128, h'⟩ else (0 : EReal))
        * ((if h : d.val < 128 then y ⟨d.val, h⟩ else if h' : d.val - 128 < 64 then y' ⟨d.val - 128, h'⟩ else (0 : EReal)) * (c : EReal))
      = (((if h : d.val < 128 then (x ⟨d.val, h⟩).toReal * (y ⟨d.val, h⟩).toReal
          else if h' : d.val - 128 < 64 then (x' ⟨d.val - 128, h'⟩).toReal * (y' ⟨d.val - 128, h'⟩).toReal else 0) * c : ℝ) : EReal) := by
    intro d
    split_ifs with h h'
    · rw [hx, hy, ← EReal.coe_mul, ← EReal.coe_mul]; simp only [EReal.toReal_coe]; rw [mul_assoc]
    · rw [hx', hy', ← EReal.coe_mul, ← EReal.coe_mul]; simp only [EReal.toReal_coe]; rw [mul_assoc]
    · simp
  rw [Finset.sum_congr rfl fun d _ => e d, ← Cert.Softmax.coe_sum, ← Finset.sum_mul]
  congr 2
  rw [show (Finset.univ : Finset (Fin 256)) = (Finset.univ : Finset (Fin (128 + (64 + 64)))) from rfl,
    Fin.sum_univ_add, Fin.sum_univ_add]
  simp

variable (m : (ℓ : Loc nD τ sig) → Buf (Elt Ideal) ℓ) (c : Dev nD)

/-- The attention of the launch's arguments. -/
def attnOf (b : Fin 2) (h : Fin 8) (q : Fin 16384) (r : Fin 128) : EReal :=
  attn (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7)) b h q r

/-- Queries and keys are real. -/
structure Reals : Prop where
  qn : AllReal (m ((c.tc : Thread nD τ).loc main_arg0))
  qr : AllReal (m ((c.tc : Thread nD τ).loc main_arg1))
  kc : AllReal (m ((c.tc : Thread nD τ).loc main_arg2))
  kl : AllReal (m ((c.tc : Thread nD τ).loc main_arg3))
  rc : AllReal (m ((c.tc : Thread nD τ).loc main_arg4))
  rl : AllReal (m ((c.tc : Thread nD τ).loc main_arg5))

theorem scale_split (x : ℝ) : x * (1 / (Real.sqrt 192 * Real.log 2)) = x * (1 / Real.sqrt 192) / Real.log 2 := by
  rw [one_div, one_div, mul_inv, div_eq_mul_inv, mul_assoc]

theorem outAt_apply (hr : Reals m c) (t : Fin cfg0.N) (y : Fin 1024) (r : Fin 128) :
    outAt m c t (ix2 y r) = attnOf m c (batch t) (head t) ⟨(tile t).val * 1024 + y.val, by omega⟩ r := by
  have hq := fun d => (block_q m c t d y).trans ((congrFun (V_q m c) _).trans
    (packQ_apply _ _ (head t) d (batch t) ⟨(tile t).val * 1024 + y.val, by omega⟩))
  unfold outAt attnOf attn
  rw [outBlk_apply _ _ _ _ _ y
    (score (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) (batch t) (head t)
      ⟨(tile t).val * 1024 + y.val, by omega⟩)
    (fun r κ => if h : r.val < 128 then joined (m ((c.tc : Thread nD τ).loc main_arg6))
      (m ((c.tc : Thread nD τ).loc main_arg7)) (batch t) (head t) κ ⟨r.val, h⟩ else 1)]
  · simp only [r.isLt, dif_pos]
  · intro j
    have hk := fun d => (block_kc m c t j d).trans ((congrFun (V_k m c) _).trans
      ((packK_rows _ _ _ _ _ _ _).trans (rowsK_context _ _ (head t) d (batch t) j)))
    simp only [hq, hk, lanesC_apply, scaleArr_apply]
    refine (lanes_sum _ _ _ _ _ (fun d => hr.kc _) (fun d => hr.rc _) (fun d => hr.qn _) (fun d => hr.qr _)).trans ?_
    rw [scale_split]
    simp only [score, joined_context, joinedRot_context]
  · intro j
    have hk := fun d => (block_kl m c t j d).trans ((congrFun (V_k m c) _).trans
      ((packK_rows _ _ _ _ _ _ _).trans (rowsK_latent _ _ (head t) d (batch t) j)))
    simp only [hq, hk, lanesL_apply, scaleArr_apply]
    refine (lanes_sum _ _ _ _ _ (fun d => hr.kl _) (fun d => hr.rl _) (fun d => hr.qn _) (fun d => hr.qr _)).trans ?_
    rw [scale_split]
    simp only [score, joined_latent, joinedRot_latent]
  · intro r j
    rw [block_vc, V_v, packV_context]
    simp only [joined_context]
  · intro r j
    rw [block_vl, V_v, packV_latent]
    simp only [joined_latent]
  · funext κ
    rfl

/-- The attention as the result array: row b·16384 + q, column h·128 + r. -/
def attnArr : Vec Ideal S32768x1024 .bf16 := fun i =>
  attnOf m c ⟨(i 0).val / 16384, Nat.div_lt_of_lt_mul (i 0).isLt⟩ ⟨(i 1).val / 128, Nat.div_lt_of_lt_mul (i 1).isLt⟩
    ⟨(i 0).val % 16384, Nat.mod_lt _ (by norm_num)⟩ ⟨(i 1).val % 128, Nat.mod_lt _ (by norm_num)⟩

theorem attnArr_apply (b : Fin 2) (h : Fin 8) (q : Fin 16384) (r : Fin 128) :
    attnArr m c (ix2 ⟨b.val * 16384 + q.val, by omega⟩ ⟨h.val * 128 + r.val, by omega⟩) = attnOf m c b h q r := by
  have e₁ : (b.val * 16384 + q.val) / 16384 = b.val := by omega
  have e₂ : (b.val * 16384 + q.val) % 16384 = q.val := by omega
  have e₃ : (h.val * 128 + r.val) / 128 = h.val := by omega
  have e₄ : (h.val * 128 + r.val) % 128 = r.val := by omega
  show attnOf m c ⟨(b.val * 16384 + q.val) / 16384, _⟩ ⟨(h.val * 128 + r.val) / 128, _⟩
    ⟨(b.val * 16384 + q.val) % 16384, _⟩ ⟨(h.val * 128 + r.val) % 128, _⟩ = _
  simp only [e₁, e₂, e₃, e₄]

/-- The kernel's result array is the attention. -/
theorem array_attn (hr : Reals m c) : (dats m 0 c).arrAt 5 cfg0.N = attnArr m c :=
  array_eq m c _ fun t y r => by
    rw [outAt_apply m c hr]
    exact (attnArr_apply m c (batch t) (head t) ⟨(tile t).val * 1024 + y.val, by omega⟩ r).symm

end Cert.KernelIdeal.Attn

end
-- ==== Proof.Attn.Finite.lean ====
/- The precondition says that the queries and the keys are real numbers. -/
module

public import proofs.«01_k».proof.Defs
public import proofs.«01_k».proof.Proof.Gen.Pre_finite
public import proofs.«01_k».proof.Proof.Attn.Point
public import Idealize.ShloMosaic.Lib.ReduceAll

@[expose] public section

set_option maxRecDepth 16384

noncomputable section

namespace Cert.Attn

open Idealize.ShloMosaic Idealize.ShloMosaic.TcCoe

/-- A magnitude below the top element is a real number's. -/
theorem real_of_lt (x : EReal) (h : max x (-x) < ⊤) : x = (x.toReal : EReal) := by
  refine (EReal.coe_toReal ?_ ?_).symm
  · rintro rfl; simp at h
  · rintro rfl; simp at h

theorem top : Ideal.ofBits .f32 0x7F800000#32 = (⊤ : EReal) := by simp [Ideal.ofBits, Ideal.ieee]

/-- An array whose entries' magnitudes all compare below infinity holds real numbers. -/
theorem allReal_of {s t : Shape} [Subsingleton t.Idx] {axes : List (Fin s.rank)} (x : FVec Ideal s .f32) (u : Shape) (d : Fin u.rank → Fin s.rank)
    (hb : u.BroadcastsInDim s d) (init : IVec t 1) (hr : s.ReducesTo axes t) (hu : 0 < t.numel) (j : t.Idx)
    (e : Host.reduce IntOp.andi (cmpf .olt (Host.absf x) (broadcastInDim s d hb (constant u .f32 0x7F800000#32)))
      init hr hu j = 1#1) : AllReal x := by
  intro i
  have h : Ideal.cmp .olt (max (x i : EReal) (-(x i))) (Ideal.ofBits .f32 0x7F800000#32) = 1#1 :=
    Host.reduce_andi_all _ _ _ _ j e i
  refine real_of_lt _ ?_
  rw [top] at h
  by_contra hn
  simp [Ideal.cmp, hn] at h

end Cert.Attn

namespace Cert.KernelIdeal.Attn

open Idealize.ShloMosaic Idealize.ShloMosaic.TcCoe Cert.Attn

/-- Under the precondition the launch's queries and keys are real. -/
theorem reals_of (m : (ℓ : Loc nD τ sig) → Buf (Elt Ideal) ℓ)
    (h : Cert.Pre_KernelIdeal_finite (hPre_finite := Cert.Pre_finite.Gen.facts) m) (c : Dev nD) : Reals m c := by
  have e := congrFun (h c) ix0
  unfold Cert.Pre_finite.fn Cert.Pre_finite.fn_part1 at e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨allReal_of _ _ _ _ _ _ _ _ h0, allReal_of _ _ _ _ _ _ _ _ h1, allReal_of _ _ _ _ _ _ _ _ h2,
    allReal_of _ _ _ _ _ _ _ _ h3, allReal_of _ _ _ _ _ _ _ _ h4, allReal_of _ _ _ _ _ _ _ _ h5⟩

end Cert.KernelIdeal.Attn

end
-- ==== Proof.Attn.RowMax.lean ====
/- A maximum along the last of four axes, at sizes that are not spelt out. -/
module

public import Idealize.ShloMosaic.Lib.Pointwise

@[expose] public section

noncomputable section

namespace Cert.Attn

open Idealize.ShloMosaic

theorem reduce_max_last {n0 n1 n2 n3 : ℕ} {u : Shape} (x : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel)
    (a : Fin n0) (b : Fin n1) (c : Fin n2) :
    Host.reduce FloatOps.maximumf x init h hu (ix3 a b c)
      = Finset.univ.fold (max : EReal → EReal → EReal) (init (Shape.Idx.first hu)) fun k : Fin n3 => x (ix4 a b c k) := by
  rw [Host.reduce_eq_fold, Shape.ReducesTo.fold_fiber_r4_a3]
  rfl

end Cert.Attn

end
-- ==== Proof.Attn.Stages.lean ====
/- The reference's stages as functions of whole arrays, each read at an index. -/
module

public import proofs.«01_k».proof.Proof.Gen.ReferenceIdeal.Run
public import proofs.«01_k».proof.Proof.Attn.Spec
public import proofs.«01_k».proof.Proof.Attn.RowMax
public import Idealize.ShloMosaic.Lib.Ring

@[expose] public section

set_option maxRecDepth 16384

noncomputable section

namespace Cert.ReferenceIdeal.Attn

open Idealize.ShloMosaic Idealize.ShloMosaic.TcCoe
open Cert.ReferenceIdeal Cert.ReferenceIdeal.Gen Cert.Attn

/-- Context and latent entries of a head, one after the other. -/
def cat (x : FVec Ideal S2x256x8x128 .f32) (y : FVec Ideal S2x16384x8x128 .f32) : FVec Ideal S2x16640x8x128 .f32 :=
  concatenate S2x16640x8x128 1 [⟨S2x256x8x128, x⟩, ⟨S2x16384x8x128, y⟩]
    concatenates_S2x256x8x128_S2x16384x8x128_S2x16640x8x128_d1

/-- The same for the rotary parts. -/
def catRot (x : FVec Ideal S2x256x64 .f32) (y : FVec Ideal S2x16384x64 .f32) : FVec Ideal S2x16640x64 .f32 :=
  concatenate S2x16640x64 1 [⟨S2x256x64, x⟩, ⟨S2x16384x64, y⟩] concatenates_S2x256x64_S2x16384x64_S2x16640x64_d1

/-- One over the root of 192. -/
def rootInv : FVec Ideal S_ .f32 := Host.divf (constant S_ .f32 0x3F800000#32) (Host.sqrt (constant S_ .f32 0x43400000#32))

/-- The scores of all queries against all keys. -/
def scores (qn : FVec Ideal S2x16384x8x128 .f32) (qr : FVec Ideal S2x16384x8x64 .f32)
    (kn : FVec Ideal S2x16640x8x128 .f32) (kr : FVec Ideal S2x16640x64 .f32) (a : FVec Ideal S_ .f32) :
    FVec Ideal S2x8x16384x16640 .f32 :=
  mulf (addf (Host.dotGeneral dot_S2x16384x8x128_S2x16640x8x128_S2x8x16384x16640_3_3_1_1_02_02 none qn kn)
    (transpose S2x8x16384x16640 [0, 3, 2, 1]
      (Host.dotGeneral dot_S2x16640x64_S2x16384x8x64_S2x16640x16384x8_2_3_1_12_0_0 none kr qr)
      transposes_S2x16640x16384x8_S2x8x16384x16640_0_3_2_1))
    (broadcastInDim S2x8x16384x16640 ![] bcast_S_S2x8x16384x16640 a)

/-- The largest entry of each row, as the reduction computes it. -/
def redMax (s : FVec Ideal S2x8x16384x16640 .f32) : FVec Ideal S2x8x16384 .f32 :=
  Host.reduce FloatOps.maximumf s (constant S_ .f32 0xFF800000#32) reducesTo_S2x8x16384x16640_S2x8x16384_d3 h_S_

/-- The largest score of each query. -/
def rowMax (s : FVec Ideal S2x8x16384x16640 .f32) : FVec Ideal S2x8x16384 .f32 :=
  maximumf (broadcastInDim S2x8x16384 ![] bcast_S_S2x8x16384 (constant S_ .f32 0xFF800000#32)) (redMax s)

/-- A number per query, against every key. -/
def spread (x : FVec Ideal S2x8x16384 .f32) : FVec Ideal S2x8x16384x16640 .f32 :=
  broadcastInDim S2x8x16384x16640 ![0, 1, 2, 3] bcast_S2x8x16384x1_S2x8x16384x16640_0_1_2_3
    (broadcastInDim S2x8x16384x1 ![0, 1, 2] bcast_S2x8x16384_S2x8x16384x1_0_1_2 x)

/-- The exponentials of the scores less a number per query. -/
def expOf (s : FVec Ideal S2x8x16384x16640 .f32) (x : FVec Ideal S2x8x16384 .f32) : FVec Ideal S2x8x16384x16640 .f32 :=
  Host.exp (subf s (spread x))

/-- Their sum per query. -/
def rowSum (e : FVec Ideal S2x8x16384x16640 .f32) : FVec Ideal S2x8x16384 .f32 :=
  Host.reduceAdd e (constant S_ .f32 0x00000000#32) reducesTo_S2x8x16384x16640_S2x8x16384_d3 h_S_

/-- The weights. -/
def weights (e : FVec Ideal S2x8x16384x16640 .f32) : FVec Ideal S2x8x16384x16640 .f32 := Host.divf e (spread (rowSum e))

/-- The weighted values, laid out one row per query, head by head. -/
def weighted (v : FVec Ideal S2x16640x8x128 .f32) (w : FVec Ideal S2x8x16384x16640 .f32) : FVec Ideal S32768x1024 .bf16 :=
  truncf .bf16 (shapeCast S32768x1024 (transpose S2x16384x8x128 [0, 3, 1, 2]
    (Host.dotGeneral dot_S2x16640x8x128_S2x8x16384x16640_S2x8x128x16384_1_3_3_2_02_01 none v w)
    transposes_S2x8x128x16384_S2x16384x8x128_0_3_1_2) shapeCasts_S2x16384x8x128_S32768x1024) bitsLt_bf16_f32

theorem cat_apply (x y) (b : Fin 2) (k : Fin 16640) (h : Fin 8) (d : Fin 128) :
    cat x y (ix4 b k h d) = joined x y b h k d := by
  unfold cat joined
  pointwise
  have hk : k.val - 256 < 16384 := by omega
  simp only [hk, dif_pos]

theorem catRot_apply (x y) (b : Fin 2) (k : Fin 16640) (d : Fin 64) :
    catRot x y (ix3 b k d) = joinedRot x y b k d := by
  unfold catRot joinedRot
  pointwise
  have hk : k.val - 256 < 16384 := by omega
  simp only [hk, dif_pos]

theorem rootInv_apply : rootInv ix0 = ((1 / Real.sqrt 192 : ℝ) : EReal) := by
  have h192 : Ideal.ofBits .f32 0x43400000#32 = ((192 : ℝ) : EReal) := by
    simp [Ideal.ofBits, Ideal.ieee]
    rw [← EReal.coe_mul]; norm_num
  have hs : 0 < Real.sqrt 192 := Real.sqrt_pos.mpr (by norm_num)
  unfold rootInv
  pointwise
  rw [h192, Ideal.sqrt_coe, if_neg (by norm_num), Ideal.div_coe hs.ne', one_mul]

theorem scores_apply (qn qr kn kr a) (b : Fin 2) (h : Fin 8) (q : Fin 16384) (k : Fin 16640) :
    scores qn qr kn kr a (ix4 b h q k)
      = (∑ d : Fin 128, qn (ix4 b q h d) * kn (ix4 b k h d) + ∑ d : Fin 64, kr (ix3 b k d) * qr (ix4 b q h d)) * a ix0 := by
  unfold scores
  pointwise

theorem low : Ideal.ofBits .f32 0xFF800000#32 = (⊥ : EReal) := by simp [Ideal.ofBits, Ideal.ieee]

theorem redMax_apply (s) (b : Fin 2) (h : Fin 8) (q : Fin 16384) :
    redMax s (ix3 b h q) = Finset.univ.fold max (⊥ : EReal) (fun k : Fin 16640 => s (ix4 b h q k)) := by
  exact (reduce_max_last s _ _ _ b h q).trans (congrArg (fun z => Finset.univ.fold max z _) low)

theorem max_low (y : FVec Ideal S2x8x16384 .f32) (i : S2x8x16384.Idx) :
    maximumf (broadcastInDim S2x8x16384 ![] bcast_S_S2x8x16384 (constant S_ .f32 0xFF800000#32)) y i = y i := by
  have h : max (Ideal.ofBits .f32 0xFF800000#32) (y i : EReal) = y i := by
    rw [low]; exact max_eq_right bot_le
  exact h

theorem rowMax_apply (s) (b : Fin 2) (h : Fin 8) (q : Fin 16384) :
    rowMax s (ix3 b h q) = Finset.univ.fold max (⊥ : EReal) (fun k : Fin 16640 => s (ix4 b h q k)) :=
  (max_low (redMax s) _).trans (redMax_apply s b h q)

theorem expOf_apply (s x) (b : Fin 2) (h : Fin 8) (q : Fin 16384) (k : Fin 16640) :
    expOf s x (ix4 b h q k) = Ideal.exp (s (ix4 b h q k) - x (ix3 b h q)) := by
  unfold expOf spread
  pointwise

theorem weights_apply (e) (b : Fin 2) (h : Fin 8) (q : Fin 16384) (k : Fin 16640) :
    weights e (ix4 b h q k) = Ideal.div (e (ix4 b h q k)) (∑ j : Fin 16640, e (ix4 b h q j)) := by
  unfold weights spread rowSum
  pointwise

theorem weighted_apply (v w) (b : Fin 2) (h : Fin 8) (q : Fin 16384) (r : Fin 128) :
    weighted v w (ix2 ⟨b.val * 16384 + q.val, by omega⟩ ⟨h.val * 128 + r.val, by omega⟩)
      = ∑ k : Fin 16640, v (ix4 b k h r) * w (ix4 b h q k) := by
  unfold weighted
  pointwise

end Cert.ReferenceIdeal.Attn

end
-- ==== Proof.Attn.Reference.lean ====
/- What the reference computes, entry by entry. -/
module

public import proofs.«01_k».proof.Proof.Gen.ReferenceIdeal.Run
public import proofs.«01_k».proof.Proof.Attn.Stages
public import Idealize.ShloMosaic.Lib.Ring

@[expose] public section

set_option maxRecDepth 16384

noncomputable section

namespace Cert.ReferenceIdeal.Attn

open Idealize.ShloMosaic Idealize.ShloMosaic.TcCoe
open Cert.ReferenceIdeal Cert.ReferenceIdeal.Gen Cert.Attn

variable (m : (ℓ : Loc nD τ sig) → Buf (Elt Ideal) ℓ) (c : Dev nD)

/-- The scores of the launch's arguments. -/
def scoresOf : FVec Ideal S2x8x16384x16640 .f32 :=
  scores (m ((c.tc : Thread nD τ).loc main_arg0)) (m ((c.tc : Thread nD τ).loc main_arg1))
    (cat (m ((c.tc : Thread nD τ).loc main_arg2)) (m ((c.tc : Thread nD τ).loc main_arg3)))
    (catRot (m ((c.tc : Thread nD τ).loc main_arg4)) (m ((c.tc : Thread nD τ).loc main_arg5))) rootInv

theorem res_eq : Value.res_main_v25 m c =
    weighted (cat (m ((c.tc : Thread nD τ).loc main_arg6)) (m ((c.tc : Thread nD τ).loc main_arg7)))
      (weights (expOf (scoresOf m c) (rowMax (scoresOf m c)))) := by
  sl_kernel_rfl

/-- Queries and keys are real. -/
structure Reals : Prop where
  qn : AllReal (m ((c.tc : Thread nD τ).loc main_arg0))
  qr : AllReal (m ((c.tc : Thread nD τ).loc main_arg1))
  kc : AllReal (m ((c.tc : Thread nD τ).loc main_arg2))
  kl : AllReal (m ((c.tc : Thread nD τ).loc main_arg3))
  rc : AllReal (m ((c.tc : Thread nD τ).loc main_arg4))
  rl : AllReal (m ((c.tc : Thread nD τ).loc main_arg5))

/-- The attention of the launch's arguments. -/
def attnOf (b : Fin 2) (h : Fin 8) (q : Fin 16384) (r : Fin 128) : EReal :=
  attn (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7)) b h q r

theorem scoresOf_apply (hr : Reals m c) (b : Fin 2) (h : Fin 8) (q : Fin 16384) (k : Fin 16640) :
    scoresOf m c (ix4 b h q k) = ((score (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) b h q k : ℝ) : EReal) := by
  unfold scoresOf score
  rw [scores_apply, rootInv_apply, EReal.coe_mul, EReal.coe_add, Cert.Softmax.coe_sum, Cert.Softmax.coe_sum]
  congr 2
  · refine Finset.sum_congr rfl fun d _ => ?_
    rw [cat_apply, EReal.coe_mul, ← joined_real hr.kc hr.kl, ← hr.qn, mul_comm]
  · refine Finset.sum_congr rfl fun d _ => ?_
    rw [catRot_apply, EReal.coe_mul, ← joinedRot_real hr.rc hr.rl, ← hr.qr]

/-- The reference's result at row b·16384 + q, column h·128 + r, is the attention's entry. -/
theorem res_apply (hr : Reals m c) (b : Fin 2) (h : Fin 8) (q : Fin 16384) (r : Fin 128) :
    (Value.res_main_v25 m c : Vec Ideal S32768x1024 .bf16)
      (ix2 ⟨b.val * 16384 + q.val, by omega⟩ ⟨h.val * 128 + r.val, by omega⟩) = attnOf m c b h q r := by
  refine (congrFun (res_eq m c) _).trans ((weighted_apply _ _ b h q r).trans ?_)
  unfold attnOf attn
  rw [Finset.sum_range]
  obtain ⟨M, hM⟩ := Cert.Softmax.fold_max_coe (fun k : Fin 16640 =>
    score (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) b h q k)
  have hs := fun k => scoresOf_apply m c hr b h q k
  have hx : rowMax (scoresOf m c) (ix3 b h q) = (M : EReal) := by
    rw [rowMax_apply, ← hM]
    exact congrArg (Finset.univ.fold max ⊥) (funext hs)
  refine Finset.sum_congr rfl fun k _ => ?_
  rw [cat_apply, weights_apply]
  simp only [expOf_apply, hs, hx]
  rw [Cert.Softmax.softmax_eq]

end Cert.ReferenceIdeal.Attn

end
-- ==== Proof.Attn.Equation.lean ====
/- The equation: on real queries and keys the kernel's run and the reference's run end with the same result array. -/
module

public import proofs.«01_k».proof.Proof.Attn.Finite
public import proofs.«01_k».proof.Proof.Attn.Reference

@[expose] public section

set_option maxRecDepth 16384

noncomputable section

namespace Cert.KernelIdeal.Attn

open Idealize.ShloMosaic Idealize.ShloMosaic.TcCoe Idealize.SL.Sem Cert.Attn
open Cert.KernelIdeal.Gen

variable (m : (ℓ : Loc nD τ sig) → Buf (Elt Ideal) ℓ)

/-- The kernel's run leaves the attention in its result array. -/
theorem result (hr : ∀ c, Reals m c) (g : Dev nD → PrngReg) :
    θ_run (defs (F := Ideal)) (onTc (τ := τ) (main (F := Ideal))) ⟨m, fun _ => 0, g⟩
      (fun r => ∀ c : Dev nD, r.2.mem ((c.tc : Thread nD τ).loc main_v33) = attnArr m c) :=
  (θ_run (defs (F := Ideal)) _ _).mono (fun _ h c => ((h c).1 5).trans (array_attn m c (hr c))) (run_main m g)

variable (m' : (ℓ : Loc Cert.ReferenceIdeal.nD Cert.ReferenceIdeal.τ Cert.ReferenceIdeal.sig) → Buf (Elt Ideal) ℓ)

/-- The two launches are given the same arguments. -/
abbrev SameArgs (c : Dev nD) : Prop :=
  m' ((c.tc : Thread Cert.ReferenceIdeal.nD Cert.ReferenceIdeal.τ).loc Cert.ReferenceIdeal.main_arg0) = m ((c.tc : Thread nD τ).loc main_arg0)
  ∧ m' ((c.tc : Thread Cert.ReferenceIdeal.nD Cert.ReferenceIdeal.τ).loc Cert.ReferenceIdeal.main_arg1) = m ((c.tc : Thread nD τ).loc main_arg1)
  ∧ m' ((c.tc : Thread Cert.ReferenceIdeal.nD Cert.ReferenceIdeal.τ).loc Cert.ReferenceIdeal.main_arg2) = m ((c.tc : Thread nD τ).loc main_arg2)
  ∧ m' ((c.tc : Thread Cert.ReferenceIdeal.nD Cert.ReferenceIdeal.τ).loc Cert.ReferenceIdeal.main_arg3) = m ((c.tc : Thread nD τ).loc main_arg3)
  ∧ m' ((c.tc : Thread Cert.ReferenceIdeal.nD Cert.ReferenceIdeal.τ).loc Cert.ReferenceIdeal.main_arg4) = m ((c.tc : Thread nD τ).loc main_arg4)
  ∧ m' ((c.tc : Thread Cert.ReferenceIdeal.nD Cert.ReferenceIdeal.τ).loc Cert.ReferenceIdeal.main_arg5) = m ((c.tc : Thread nD τ).loc main_arg5)
  ∧ m' ((c.tc : Thread Cert.ReferenceIdeal.nD Cert.ReferenceIdeal.τ).loc Cert.ReferenceIdeal.main_arg6) = m ((c.tc : Thread nD τ).loc main_arg6)
  ∧ m' ((c.tc : Thread Cert.ReferenceIdeal.nD Cert.ReferenceIdeal.τ).loc Cert.ReferenceIdeal.main_arg7) = m ((c.tc : Thread nD τ).loc main_arg7)

/-- The reference's queries and keys are then real too. -/
theorem reference_reals {c : Dev nD} (hr : Reals m c) (h : SameArgs m m' c) : Cert.ReferenceIdeal.Attn.Reals m' c := by
  obtain ⟨h0, h1, h2, h3, h4, h5, -, -⟩ := h
  refine ⟨?_, ?_, ?_, ?_, ?_, ?_⟩
  · rw [h0]; exact hr.qn
  · rw [h1]; exact hr.qr
  · rw [h2]; exact hr.kc
  · rw [h3]; exact hr.kl
  · rw [h4]; exact hr.rc
  · rw [h5]; exact hr.rl

/-- The attention of the same arguments is the same. -/
theorem attn_same {c : Dev nD} (h : SameArgs m m' c) (b h' q r) :
    Cert.ReferenceIdeal.Attn.attnOf m' c b h' q r = attnOf m c b h' q r := by
  obtain ⟨h0, h1, h2, h3, h4, h5, h6, h7⟩ := h
  unfold Cert.ReferenceIdeal.Attn.attnOf attnOf
  rw [h0, h1, h2, h3, h4, h5, h6, h7]

/-- The reference's result array is the attention of the kernel's arguments. -/
theorem reference_result {c : Dev nD} (hr : Reals m c) (h : SameArgs m m' c) :
    Cert.ReferenceIdeal.Value.res_main_v25 m' c = attnArr m c := by
  refine funext fun (i : S32768x1024.Idx) => ?_
  have h0 : (i 0).val < 32768 := (i 0).isLt
  have h1 : (i 1).val < 1024 := (i 1).isLt
  have e : i = ix2 ⟨(i 0).val / 16384 * 16384 + (i 0).val % 16384, by omega⟩ ⟨(i 1).val / 128 * 128 + (i 1).val % 128, by omega⟩ := by
    refine (eq_ix2 i).trans ?_
    congr 1 <;> exact Fin.ext (by simp only []; omega)
  exact (congrArg (Cert.ReferenceIdeal.Value.res_main_v25 m' c) e).trans
    ((Cert.ReferenceIdeal.Attn.res_apply m' c (reference_reals m m' hr h) ⟨(i 0).val / 16384, by omega⟩ ⟨(i 1).val / 128, by omega⟩
      ⟨(i 0).val % 16384, by omega⟩ ⟨(i 1).val % 128, by omega⟩).trans (attn_same m m' h _ _ _ _))

end Cert.KernelIdeal.Attn

end
-- ==== Proof.Experts.Tables.lean ====
/- The experts' two tables, as the host code computes them from the counts: the expert of every block of 512 rows, and the
   number of blocks in use. -/
module

public import proofs.«01_k».proof.Proof.Gen.Kernel2Ideal.Launch
public import Idealize.ShloMosaic.Lib.IndicatorCount
public import Idealize.ShloMosaic.Lib.Ring
public import Idealize.ShloMosaic.Lib.Tactic
public import Idealize.ShloMosaic.Lib.Pipeline.FrameBody

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

/-! ## The tables as functions of the counts -/

/-- `jnp`'s quotient rounded down, of 32 words by 512. -/
def floorDiv32 (x : IVec S32 32) : IVec S32 32 :=
  select (andi (cmpi .ne (signi x) (broadcastInDim S32 ![] bcast_S_S32 (signi (id (constantI S_ 32 512#32)))))
      (cmpi .ne (Host.remsi x (broadcastInDim S32 ![] bcast_S_S32 (id (constantI S_ 32 512#32)))) (broadcastInDim S32 ![] bcast_S_S32 (constantI S_ 32 0#32))))
    (subi (Host.divsi x (broadcastInDim S32 ![] bcast_S_S32 (id (constantI S_ 32 512#32)))) (broadcastInDim S32 ![] bcast_S_S32 (constantI S_ 32 1#32)))
    (Host.divsi x (broadcastInDim S32 ![] bcast_S_S32 (id (constantI S_ 32 512#32))))

/-- The same, of one word. -/
def floorDiv1 (x : IVec S1 32) : IVec S1 32 :=
  select (andi (cmpi .ne (signi x) (broadcastInDim S1 ![] bcast_S_S1 (signi (id (constantI S_ 32 512#32)))))
      (cmpi .ne (Host.remsi x (broadcastInDim S1 ![] bcast_S_S1 (id (constantI S_ 32 512#32)))) (broadcastInDim S1 ![] bcast_S_S1 (constantI S_ 32 0#32))))
    (subi (Host.divsi x (broadcastInDim S1 ![] bcast_S_S1 (id (constantI S_ 32 512#32)))) (broadcastInDim S1 ![] bcast_S_S1 (constantI S_ 32 1#32)))
    (Host.divsi x (broadcastInDim S1 ![] bcast_S_S1 (id (constantI S_ 32 512#32))))

/-- Where each expert's rows end, the rows of an expert padded to whole blocks. -/
def ends (cnt : IVec S32 32) : IVec S32 32 :=
  Host.reduceWindow IntOp.addi ![32] ![1] ![31] ![0]
    (muli (floorDiv32 (subi (addi cnt (broadcastInDim S32 ![] bcast_S_S32 (constantI S_ 32 512#32))) (broadcastInDim S32 ![] bcast_S_S32 (constantI S_ 32 1#32))))
      (broadcastInDim S32 ![] bcast_S_S32 (constantI S_ 32 512#32)))
    (broadcastInDim S_ ![] bcast_S_S_ (constantI S_ 32 0#32)) reduceWindows_S32_S32_w32s1p31_0 h_S_

/-- Per block and expert, one bit: the expert's rows end at or before the block's first row. -/
def past (e : IVec S32 32) : IVec S162x32 1 :=
  cmpi .sle (broadcastInDim S162x32 ![0, 1] bcast_S1x32_S162x32_0_1 (broadcastInDim S1x32 ![1] bcast_S32_S1x32_1 e))
    (broadcastInDim S162x32 ![0, 1] bcast_S162x1_S162x32_0_1 (broadcastInDim S162x1 ![0] bcast_S162_S162x1_0
      (muli (iotaInDim S162 32 0) (broadcastInDim S162 ![] bcast_S_S162 (constantI S_ 32 512#32)))))

/-- The expert of every block: the number of experts whose rows are past, at most 31. -/
def expertOf (e : IVec S32 32) : IVec S162 32 :=
  minsi (Host.reduce IntOp.addi (extui 32 (past e) natLt_1_32) (constantI S_ 32 0#32) reducesTo_S162x32_S162_d1 h_S_)
    (broadcastInDim S162 ![] bcast_S_S162 (constantI S_ 32 31#32))

/-- How many blocks are in use. -/
def usedOf (e : IVec S32 32) : IVec S1 32 :=
  floorDiv1 (extractStridedSlice S1 ![31] e slices_S32_S1_31)

/-- A sum of bits, each taken as a word, is at most the number of the bits. -/
theorem bits_le (p : Nat → BitVec 1) : ∀ (l : List Nat) (v : BitVec 32), v.toNat + l.length < 2 ^ 31 →
    (l.foldl (fun r n => IntOp.addi r ((p n).setWidth 32)) v).toNat ≤ v.toNat + l.length
  | [], v, _ => by simp
  | n :: l, v, h => by
    have hb : ((p n).setWidth 32).toNat ≤ 1 := by
      rw [BitVec.toNat_setWidth]; have := (p n).isLt; omega
    have hv : (IntOp.addi v ((p n).setWidth 32)).toNat ≤ v.toNat + 1 := by
      show (v + (p n).setWidth 32).toNat ≤ _
      rw [BitVec.toNat_add]; exact (Nat.mod_le _ _).trans (by omega)
    rw [List.length_cons] at h ⊢
    rw [List.foldl_cons]
    exact (bits_le p l _ (by omega)).trans (by omega)

/-- Every entry of the experts' table is the number of an expert. -/
theorem expertOf_lt (e : IVec S32 32) (b : S162.Idx) : (expertOf e b).toNat < 32 := by
  have key : ∀ x : BitVec 32, x.toNat < 2 ^ 31 → (IntOp.minsi x 31#32).toNat < 32 := by
    intro x hx
    unfold IntOp.minsi
    split
    · next h =>
      rw [BitVec.slt_iff_toInt_lt, BitVec.toInt_eq_toNat_of_lt (by omega)] at h
      have h31 : (31#32 : BitVec 32).toInt = 31 := by decide
      omega
    · decide
  refine key _ ?_
  unfold Host.reduce
  set q : Nat → BitVec 1 := fun n => if h : n < S162x32.numel then past e (S162x32.rowMajor.symm ⟨n, h⟩) else 0#1 with hq
  set L := (List.finRange S162x32.numel).filter fun n => reducesTo_S162x32_S162_d1.drop (S162x32.rowMajor.symm n) = b with hL
  have hlen : L.length ≤ 5184 := (List.length_filter_le _ _).trans (by rw [List.length_finRange]; decide)
  have hmap : ∀ (l : List (Fin S162x32.numel)) (v : BitVec 32),
      l.foldl (fun r n => IntOp.addi r (extui 32 (past e) natLt_1_32 (S162x32.rowMajor.symm n))) v
        = (l.map Fin.val).foldl (fun r n => IntOp.addi r ((q n).setWidth 32)) v := by
    intro l
    induction l with
    | nil => intro v; rfl
    | cons a l ih =>
      intro v
      rw [List.map_cons, List.foldl_cons, List.foldl_cons, ih]
      congr 2
      simp only [hq, a.isLt, dite_true, Fin.eta]
      rfl
  rw [hmap L]
  refine lt_of_le_of_lt (bits_le q _ _ ?_) ?_ <;>
  · rw [List.length_map]
    show (0#32).toNat + _ < _
    simp only [BitVec.toNat_ofNat]; omega

/-! ## The buffers when the kernel is called -/

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The host operations before the call, line by line. -/
abbrev lines : List (List (HloOp τ sig (Elt F))) := [hostOps0, hostOps0_1, hostOps0_2, hostOps0_3, hostOps0_4, hostOps0_5]

/-- What core `c`'s buffers hold when the kernel is called. -/
abbrev V (c : Dev nD) (b : Ref sig .tc) : Buf (Elt F) ((c : Thread nD τ).loc b) :=
  StableHlo.after (lines (F := F)).flatten (fun b => m (c, b)) b

theorem lines_sub : (lines (F := F)).Forall fun ops => ops.Forall fun op => op.bufs ⊆ StableHlo.tcRefs τ sig :=
  ⟨hostOps0_sub, hostOps0_1_sub, hostOps0_2_sub, hostOps0_3_sub, hostOps0_4_sub, hostOps0_5_sub⟩

theorem lines_fresh : (lines (F := F)).Forall fun ops => ops.Forall fun op => op.fresh = ∅ := by
  simp only [List.Forall]; repeat' constructor

/-- A buffer no host operation writes is as launched. -/
theorem V_of_unwritten (c : Dev nD) (b : Ref sig .tc)
    (h : (lines (F := F)).flatten.Forall fun op => Proc.devRef .tc b ∉ op.writes) : V m c b = m ((c : Thread nD τ).loc b) :=
  StableHlo.after_of_forall_not_mem (b := Proc.devRef .tc b) _ _ (List.forall_iff_forall_mem.mp h)

theorem unwritten (b : Ref sig .tc) (h0 : b ∈ [main_arg0, main_arg1, main_arg2, main_arg3, main_arg4]) :
    (lines (F := F)).flatten.Forall fun op => Proc.devRef .tc b ∉ op.writes := by
  simp only [List.mem_cons, List.not_mem_nil, or_false] at h0
  simp only [lines, hostOps0, hostOps0_1, hostOps0_2, hostOps0_3, hostOps0_4, hostOps0_5,
    StableHlo.TRef.binary, StableHlo.TRef.nullary, StableHlo.TRef.ternary, StableHlo.TRef.unary,
    List.flatten_cons, List.flatten_nil, List.append_nil, List.cons_append,
    List.nil_append, List.Forall, StableHlo.nullary_writes, StableHlo.unary_writes, StableHlo.binary_writes, StableHlo.ternary_writes, Finset.mem_singleton]
  rcases h0 with rfl | rfl | rfl | rfl | rfl
  all_goals
    repeat' apply And.intro
    all_goals exact StableHlo.devRef_ne_of_ne (by decide)

open Idealize.ShloMosaic.StableHlo in
set_option maxHeartbeats 4000000 in
/-- The first table is `expertOf` the ends of the counts. -/
theorem V_experts (c : Dev nD) : V m c main_v19 = expertOf (ends (m ((c : Thread nD τ).loc main_arg1))) := by
  simp only [V, lines, hostOps0, hostOps0_1, hostOps0_2, hostOps0_3, hostOps0_4, hostOps0_5, List.flatten_cons, List.flatten_nil, List.append_nil, List.cons_append,
    List.nil_append, TRef.binary, TRef.nullary, TRef.ternary, TRef.unary, TRef.toBuf, TRef.ofBuf, cast_eq]
  after_results_simp <;> rfl

open Idealize.ShloMosaic.StableHlo in
set_option maxHeartbeats 4000000 in
/-- The second is `usedOf` them. -/
theorem V_used (c : Dev nD) : V m c main_v21 = usedOf (ends (m ((c : Thread nD τ).loc main_arg1))) := by
  simp only [V, lines, hostOps0, hostOps0_1, hostOps0_2, hostOps0_3, hostOps0_4, hostOps0_5, List.flatten_cons, List.flatten_nil, List.append_nil, List.cons_append,
    List.nil_append, TRef.binary, TRef.nullary, TRef.ternary, TRef.unary, TRef.toBuf, TRef.ofBuf, cast_eq]
  after_results_simp <;> rfl

end Cert.Kernel2Ideal.Experts

end
-- ==== Proof.Experts.Run.lean ====
/- The experts' body at one grid point: what it reads, what it leaves in the weights' buffers and in the result's block. -/
module

public import proofs.«01_k».proof.Proof.Experts.Tables
public import proofs.«01_k».proof.Proof.Gen.Kernel2Ideal.Skeleton
public import Idealize.ShloMosaic.Lib.Pipeline.ValueKit.Tiles
public import Idealize.ShloMosaic.Lib.Pipeline.Value

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal.Gen

variable {F : FTy → Type} [FloatOps F]

local notation "𝕄" => MT nD τ sig Unit (Elt F) ℕ (UR sig nD τ) ℕ

/-! ## The tables' entries the body reads -/

/-- The index of a table of one axis. -/
def at1 {n : Nat} (k : Fin n) : (⟨1, ![n]⟩ : Shape).Idx := fun | 0 => k

/-- An index of a table of one axis is determined by its coordinate. -/
theorem eq_at1 {n : Nat} (y : (⟨1, ![n]⟩ : Shape).Idx) (k : Fin n) (h : (y 0).val = k.val) : y = at1 k := by
  funext a; obtain rfl : a = 0 := Subsingleton.elim _ _; exact Fin.ext h

/-- The point before, or the first one. -/
def before (k : Fin 162) : Fin 162 := ⟨k.val - 1, by have := k.isLt; omega⟩

/-- The first grid coordinate, as the number of a block of rows. -/
def pt (i : grid0.Coords) : Fin 162 := i 0

/-- The body reads the table of the experts at the point, -/
theorem off1_eq (i : grid0.Coords) : k0_off1 i 0 = (pt i).val :=
  (by decide : ∀ k : Fin 162, (BitVec.ofNat 32 k.val).toNat = k.val) (pt i)

/-- and at the point before. -/
theorem off2_eq (i : grid0.Coords) : k0_off2 i 0 = (before (pt i)).val :=
  (by decide : ∀ k : Fin 162, (Scalar.maxsi (Scalar.subi (BitVec.ofNat 32 k.val) 1#32) 0#32).toNat = (before k).val) (pt i)

/-- Whether the weights have to be converted at a point: it is the first, or its expert is not that of the point before. -/
def fresh (be : IVec S162 32) (k : Fin 162) : BitVec 1 :=
  Scalar.cmpi .ne (Scalar.extui (Scalar.ori (Scalar.cmpi .eq (BitVec.ofNat 32 k.val) 0#32) (Scalar.cmpi .ne (be (at1 k)) (be (at1 (before k)))))) 0#32

/-- What a weights' buffer holds after a point: the point's own block converted, if it has to be, else what it held. -/
def kept {S : Shape} {e : EltTy} (b : BitVec 1) (s w : Vec F S e) : Vec F S e := if b = 1#1 then w else s

/-- The rows the body leaves at a point: the expert's, if the block is used, else zeros. -/
def rowsOut (i : grid0.Coords) (n : BitVec 32) (x : Vec F S512x1024 .f32) (w0 w1 : Vec F S1024x512 .bf16) (w2 : Vec F S512x1024 .bf16) :
    Vec F S512x1024 .f32 := if k0_cond2 i n = 1#1 then k0_pay4 x w0 w1 w2 else k0_pay5

/-- A bit widened to a word is not zero where the bit is set. -/
theorem bit_ne (p : Bool) : IntOp.cmpi .ne ((BitVec.ofBool p).setWidth 32) 0#32 = 1#1 ↔ p = true := by
  revert p; decide

/-- A block is used where its number is below the count of the used ones, -/
theorem cond2_iff (i : grid0.Coords) (n : BitVec 32) : k0_cond2 i n = 1#1 ↔ (BitVec.ofNat 32 (pt i).val).slt n = true :=
  bit_ne _

/-- and not used otherwise. -/
theorem cond3_iff (i : grid0.Coords) (n : BitVec 32) : k0_cond3 i n = 1#1 ↔ ¬ k0_cond2 i n = 1#1 := by
  rw [cond2_iff]
  refine (bit_ne _).trans ?_
  have h : n.sle (BitVec.ofNat 32 (pt i).val) = !(BitVec.ofNat 32 (pt i).val).slt n := BitVec.sle_eq_not_slt
  show n.sle (BitVec.ofNat 32 (pt i).val) = true ↔ _
  rw [h]
  simp

/-- The weights are converted at the first point and where the expert changes. -/
theorem fresh_iff (be : IVec S162 32) (k : Fin 162) : fresh be k = 1#1 ↔ k.val = 0 ∨ be (at1 k) ≠ be (at1 (before k)) := by
  have h : ∀ p r : Bool, IntOp.cmpi .ne ((IntOp.ori (BitVec.ofBool p) (BitVec.ofBool r)).setWidth 32) 0#32 = 1#1 ↔ p = true ∨ r = true := by
    decide
  refine (h _ _).trans (or_congr ?_ ?_)
  · exact (by decide : ∀ k : Fin 162, (BitVec.ofNat 32 k.val == 0#32) = true ↔ k.val = 0) k
  · simp

/-- The entry of the experts' table at an offset. -/
theorem entry_eq {off : Fin 1 → Nat} (inb : ∀ a, off a + S1.size a ≤ S162.size a) (fb : (Memref.whole main_v19).view.ty.Contents (Elt F))
    (k : Fin 162) (h : off 0 = k.val) (y : S1.Idx) :
    View.readAt (Elt F) (Memref.whole main_v19).view (Rect.unit (s := S162) off S1.size inb).toLoadRect fb y
      = View.read (Elt F) (Memref.whole main_v19).view fb (at1 k) := by
  rw [View.readAt_eq_ld]
  refine View.ld_unit_apply_of _ _ _ _ _ _ fun a => ?_
  obtain rfl : a = 0 := Subsingleton.elim (α := Fin 1) _ _
  have hy : (y 0).val < 1 := (y 0).isLt
  show k.val = off 0 + (y 0).val
  omega

/-- The count of used blocks. -/
theorem count_eq (fn : (Memref.whole main_v21).view.ty.Contents (Elt F)) (y : S1.Idx) :
    View.readAt (Elt F) (Memref.whole main_v21).view (Rect.unit (s := S1) ![0] S1.size inb_S1_S1_0).toLoadRect fn y
      = View.read (Elt F) (Memref.whole main_v21).view fn (at1 0) := by
  rw [View.readAt_eq_ld]
  refine View.ld_unit_apply_of _ _ _ _ _ _ fun a => ?_
  obtain rfl : a = 0 := Subsingleton.elim (α := Fin 1) _ _
  have hy : (y 0).val < 1 := (y 0).isLt
  show 0 = 0 + (y 0).val
  omega

/-- A store of the whole buffer, last, leaves its payload. -/
theorem store_whole {sg : RefSig} {κ : Kind} {sp : Space} {S : Shape} {e : EltTy} (v : View sg κ sp S e)
    (f : v.ty.Contents (Elt F)) {off : Fin S.rank → Nat} (inb : ∀ a, off a + S.size a ≤ S.size a) (w : S.Idx → Elt F e)
    (h : ∀ a, off a = 0) :
    v.read (Elt F) (v.writes (Elt F) f [(⟨Rect.unit off S.size inb, w⟩ : View.Piece (Elt F) S e)]) = w := by
  obtain rfl : off = fun _ => 0 := funext h
  funext y
  have h' := View.read_writes_cons_emb v f (Rect.whole S) w [] y
  rw [Rect.emb_whole_apply] at h'
  exact h'

/-- A load of the whole buffer reads its contents. -/
theorem whole_load {sg : RefSig} {κ : Kind} {sp : Space} {S : Shape} {e : EltTy} (v : View sg κ sp S e)
    (f : v.ty.Contents (Elt F)) {off : Fin S.rank → Nat} (inb : ∀ a, off a + S.size a ≤ S.size a) (h : ∀ a, off a = 0) :
    v.readAt (Elt F) (Rect.unit off S.size inb).toLoadRect f = v.read (Elt F) f :=
  (View.readAt_eq_ld v f _).trans (View.ld_unit_zero (funext h) inb _)

/-- A weights' buffer after its conversion, if there is one. -/
theorem read_kept {sg : RefSig} {κ : Kind} {sp : Space} {S : Shape} {e : EltTy} (v : View sg κ sp S e)
    (f : v.ty.Contents (Elt F)) {off : Fin S.rank → Nat} (inb : ∀ a, off a + S.size a ≤ S.size a) (w : S.Idx → Elt F e)
    (h : ∀ a, off a = 0) (b : BitVec 1) {s : Vec F S e} (hs : v.read (Elt F) f = s) :
    v.read (Elt F) (if b = 1#1 then v.writes (Elt F) f [(⟨Rect.unit off S.size inb, w⟩ : View.Piece (Elt F) S e)] else f) = kept b s w := by
  unfold kept
  split
  · exact store_whole v f inb w h
  · exact hs

variable (c : Dev nD) (i : grid0.Coords) (arg3 : Memref sig .tc .vmem S512x1024 .f32) (harg3 : arg3.IsWhole) (arg4 : Memref sig .tc .vmem S1x1x1024x512 .f32) (harg4 : arg4.IsWhole) (arg5 : Memref sig .tc .vmem S1x1x1024x512 .f32) (harg5 : arg5.IsWhole) (arg6 : Memref sig .tc .vmem S1x1x512x1024 .f32) (harg6 : arg6.IsWhole) (arg7 : Memref sig .tc .vmem S512x1024 .f32) (harg7 : arg7.IsWhole) (arg8 : Memref sig .tc .vmem S1024x512 .bf16) (harg8 : arg8.IsWhole) (arg9 : Memref sig .tc .vmem S1024x512 .bf16) (harg9 : arg9.IsWhole) (arg10 : Memref sig .tc .vmem S512x1024 .bf16) (harg10 : arg10.IsWhole)

set_option maxHeartbeats 1000000 in
/-- The body at one point, holding a share of each table: from the blocks staged and what the weights' buffers hold to the
    rows it leaves and what the weights' buffers hold after. -/
theorem run (be : Vec F S162 .i32) (nu : Vec F S1 .i32) (q : PosShare TreeShare)
    (x : Vec F S512x1024 .f32) (wg wu : Vec F S1x1x1024x512 .f32) (wd : Vec F S1x1x512x1024 .f32)
    (s0 s1 : Vec F S1024x512 .bf16) (s2 : Vec F S512x1024 .bf16) (E : Set ℕ) (K : PUnit → sProp 𝕄) :
    iprop(owns (c : Thread nD τ) (Memref.whole main_v19) q be ∗ owns (c : Thread nD τ) (Memref.whole main_v21) q nu
        ∗ owns (c : Thread nD τ) arg3 fullShare x ∗ owns (c : Thread nD τ) arg4 fullShare wg ∗ owns (c : Thread nD τ) arg5 fullShare wu ∗ owns (c : Thread nD τ) arg6 fullShare wd
        ∗ (∃ d, owns (c : Thread nD τ) arg7 fullShare d) ∗ owns (c : Thread nD τ) arg8 fullShare s0 ∗ owns (c : Thread nD τ) arg9 fullShare s1 ∗ owns (c : Thread nD τ) arg10 fullShare s2
        ∗ (iprop(owns (c : Thread nD τ) (Memref.whole main_v19) q be ∗ owns (c : Thread nD τ) (Memref.whole main_v21) q nu
            ∗ owns (c : Thread nD τ) arg3 fullShare x ∗ owns (c : Thread nD τ) arg4 fullShare wg ∗ owns (c : Thread nD τ) arg5 fullShare wu ∗ owns (c : Thread nD τ) arg6 fullShare wd
            ∗ owns (c : Thread nD τ) arg7 fullShare (rowsOut i (nu (at1 0)) x (kept (fresh be (pt i)) s0 (k0_pay1 wg)) (kept (fresh be (pt i)) s1 (k0_pay2 wu)) (kept (fresh be (pt i)) s2 (k0_pay3 wd)))
            ∗ owns (c : Thread nD τ) arg8 fullShare (kept (fresh be (pt i)) s0 (k0_pay1 wg)) ∗ owns (c : Thread nD τ) arg9 fullShare (kept (fresh be (pt i)) s1 (k0_pay2 wu))
            ∗ owns (c : Thread nD τ) arg10 fullShare (kept (fresh be (pt i)) s2 (k0_pay3 wd))) -∗ K ⟨⟩))
      ⊢ wp frame (wpE (defs₀ (F := F)) Variants.none c none) E (cc0_moe_experts i (Memref.whole main_v19) (Memref.isWhole_whole _) (Memref.whole main_v21) (Memref.isWhole_whole _) arg3 harg3 arg4 harg4 arg5 harg5 arg6 harg6 arg7 harg7 arg8 harg8 arg9 harg9 arg10 harg10) K := by
  simp only [cc0_moe_experts_eq_skeleton]; unfold cc0_moe_experts_skel
  unfold owns
  iintro ⟨⟨%fb, %hfb, HB⟩, ⟨%fn, %hfn, HN⟩, ⟨%f0, %hf0, H0⟩, ⟨%f1, %hf1, H1⟩, ⟨%f2, %hf2, H2⟩, ⟨%f3, %hf3, H3⟩, ⟨%d5, %f5, -, H4⟩, ⟨%fs0, %hs0, HS0⟩, ⟨%fs1, %hs1, HS1⟩, ⟨%fs2, %hs2, HS2⟩, Hk⟩
  obtain rfl := harg3.eq_unread hf0; obtain rfl := harg4.eq_unread hf1; obtain rfl := harg5.eq_unread hf2; obtain rfl := harg6.eq_unread hf3
  sl_exec
  have hb : run.sl.v10 c i fb = fresh be (pt i) := by
    have e1 : run.sl.r_1 c i fb = be (at1 (pt i)) := (entry_eq _ fb (pt i) (off1_eq i) _).trans (congrFun hfb _)
    have e2 : run.sl.r c i fb = be (at1 (before (pt i))) := (entry_eq _ fb (before (pt i)) (off2_eq i) _).trans (congrFun hfb _)
    delta run.sl.v10 run.sl.v9 run.sl.v8 run.sl.v7
    rw [e1, e2]
    rfl
  have hn : run.sl.r_2 c fn = nu (at1 0) := (count_eq fn _).trans (congrFun hfn _)
  have l0 : View.readAt (Elt F) arg3.view (Rect.unit ![0, 0] S512x1024.size inb_S512x1024_S512x1024_0_0).toLoadRect (harg3.unread x) = x :=
    (whole_load (S := S512x1024) arg3.view _ inb_S512x1024_S512x1024_0_0 (by decide)).trans hf0
  have l1 : View.readAt (Elt F) arg4.view (Rect.unit ![0, 0, 0, 0] S1x1x1024x512.size inb_S1x1x1024x512_S1x1x1024x512_0_0_0_0).toLoadRect (harg4.unread wg) = wg :=
    (whole_load (S := S1x1x1024x512) arg4.view _ inb_S1x1x1024x512_S1x1x1024x512_0_0_0_0 (by decide)).trans hf1
  have l2 : View.readAt (Elt F) arg5.view (Rect.unit ![0, 0, 0, 0] S1x1x1024x512.size inb_S1x1x1024x512_S1x1x1024x512_0_0_0_0).toLoadRect (harg5.unread wu) = wu :=
    (whole_load (S := S1x1x1024x512) arg5.view _ inb_S1x1x1024x512_S1x1x1024x512_0_0_0_0 (by decide)).trans hf2
  have l3 : View.readAt (Elt F) arg6.view (Rect.unit ![0, 0, 0, 0] S1x1x512x1024.size inb_S1x1x512x1024_S1x1x512x1024_0_0_0_0).toLoadRect (harg6.unread wd) = wd :=
    (whole_load (S := S1x1x512x1024) arg6.view _ inb_S1x1x512x1024_S1x1x512x1024_0_0_0_0 (by decide)).trans hf3
  simp only [hb, hn, l0, l1, l2, l3, dite_eq_ite]
  have k0 : View.read (Elt F) arg8.view (if fresh be (pt i) = 1#1 then arg8.view.writes (Elt F) fs0
      [⟨Rect.unit (s := S1024x512) ![0, 0] S1024x512.size inb_S1024x512_S1024x512_0_0, k0_pay1 wg⟩] else fs0) = kept (fresh be (pt i)) s0 (k0_pay1 wg) :=
    read_kept arg8.view fs0 inb_S1024x512_S1024x512_0_0 _ (by decide) _ hs0
  have k1 : View.read (Elt F) arg9.view (if fresh be (pt i) = 1#1 then arg9.view.writes (Elt F) fs1
      [⟨Rect.unit (s := S1024x512) ![0, 0] S1024x512.size inb_S1024x512_S1024x512_0_0, k0_pay2 wu⟩] else fs1) = kept (fresh be (pt i)) s1 (k0_pay2 wu) :=
    read_kept arg9.view fs1 inb_S1024x512_S1024x512_0_0 _ (by decide) _ hs1
  have k2 : View.read (Elt F) arg10.view (if fresh be (pt i) = 1#1 then arg10.view.writes (Elt F) fs2
      [⟨Rect.unit (s := S512x1024) ![0, 0] S512x1024.size inb_S512x1024_S512x1024_0_0, k0_pay3 wd⟩] else fs2) = kept (fresh be (pt i)) s2 (k0_pay3 wd) :=
    read_kept arg10.view fs2 inb_S512x1024_S512x1024_0_0 _ (by decide) _ hs2
  have e0 : run.sl.v21 c i arg4 harg4 arg8 wg fb fs0 = kept (fresh be (pt i)) s0 (k0_pay1 wg) := by
    delta run.sl.v21
    simp only [hb, l1, dite_eq_ite]
    exact (whole_load (S := S1024x512) arg8.view _ inb_S1024x512_S1024x512_0_0 (by decide)).trans k0
  have e1 : run.sl.v23 c i arg5 harg5 arg9 wu fb fs1 = kept (fresh be (pt i)) s1 (k0_pay2 wu) := by
    delta run.sl.v23
    simp only [hb, l2, dite_eq_ite]
    exact (whole_load (S := S1024x512) arg9.view _ inb_S1024x512_S1024x512_0_0 (by decide)).trans k1
  have e2 : run.sl.v29 c i arg6 harg6 arg10 wd fb fs2 = kept (fresh be (pt i)) s2 (k0_pay3 wd) := by
    delta run.sl.v29
    simp only [hb, l3, dite_eq_ite]
    exact (whole_load (S := S512x1024) arg10.view _ inb_S512x1024_S512x1024_0_0 (by decide)).trans k2
  simp only [e0, e1, e2, cond3_iff]
  sl_step
  iapply Hk
  isplitl [HB]
  · iexists _; isplitr; · ipureintro; exact hfb
    iexact HB
  isplitl [HN]
  · iexists _; isplitr; · ipureintro; exact hfn
    iexact HN
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; swap; · iexact H4
    ipureintro
    unfold rowsOut
    by_cases hu : k0_cond2 i (nu (at1 0)) = 1#1
    · simp only [hu, not_true_eq_false, if_true, if_false]
      exact store_whole (S := S512x1024) arg7.view _ inb_S512x1024_S512x1024_0_0 _ (by decide)
    · simp only [hu, not_false_eq_true, if_true, if_false]
      exact store_whole (S := S512x1024) arg7.view _ inb_S512x1024_S512x1024_0_0 _ (by decide)
  isplitl [HS0]
  · iexists _; isplitr; swap; · iexact HS0
    ipureintro; exact k0
  isplitl [HS1]
  · iexists _; isplitr; swap; · iexact HS1
    ipureintro; exact k1
  iexists _; isplitr; swap; · iexact HS2
  ipureintro; exact k2

end Cert.Kernel2Ideal.Experts

end
-- ==== Proof.Experts.Layers.lean ====
/- The experts' call of each of the four layers. The four programs differ only in the layer of the weights their index maps
   name; here is that program with the layer as a variable, over the first layer's buffers. -/
module

public import proofs.«01_k».proof.Proof.Experts.Tables

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open Idealize.SL.BI.BIBase Idealize.SL.Sem
open Idealize.ShloMosaic.Rounds
open Cert.Kernel2Ideal.Gen

variable {F : FTy → Type} [FloatOps F]

/-- Which block of a weights' array a point is given: its expert's, of the layer. -/
def weightMap (l : Fin 4) (pf : pre0.Contents (Elt F)) (i : grid0.Coords) : Fin 4 → Nat :=
  ![l.val, (pf.at 0 (Rect.unit (s := S162) (k0_off1 i) S1.size (k0_off1_inb i)) numel1_S1).toNat, 0, 0]

/-- Which block of each array a point is given. -/
abbrev maps (l : Fin 4) (pf : pre0.Contents (Elt F)) : (w : Fin 5) → grid0.Coords → Fin (spec0 w).shape.rank → Nat := fun
  | 0 => cc0_transform_0 inb_S1_S1_0 numel1_S1 pf
  | 1 => weightMap l pf
  | 2 => weightMap l pf
  | 3 => weightMap l pf
  | 4 => cc0_transform_4
  | ⟨_ + 5, h⟩ => absurd h (Nat.not_lt.2 (Nat.le_add_left _ _))

theorem weightMap_reads (l : Fin 4) (pf : pre0.Contents (Elt F)) (i i' : grid0.Coords) (h : i 0 = i' 0) : weightMap l pf i = weightMap l pf i' := by
  obtain rfl : i = i' := funext fun a => by obtain rfl : a = 0 := Subsingleton.elim (α := Fin 1) _ _; exact h
  rfl

/-- The maps depend on nothing but the grid's coordinate. -/
theorem maps_reads (l : Fin 4) : ∀ (pf : pre0.Contents (Elt F)) w (i i' : grid0.Coords), (∀ a, (spec0 w).reads a = true → i a = i' a) → maps l pf w i = maps l pf w i' :=
  fun pf => fun
  | 0 => hreads0_0 pf
  | 1 => fun i i' h => weightMap_reads l pf i i' (h 0 rfl)
  | 2 => fun i i' h => weightMap_reads l pf i i' (h 0 rfl)
  | 3 => fun i i' h => weightMap_reads l pf i i' (h 0 rfl)
  | 4 => hreads0_4
  | ⟨_ + 5, h⟩ => absurd h (Nat.not_lt.2 (Nat.le_add_left _ _))

/-- The tables' side condition: every block they choose lies within its array. -/
def Fits (l : Fin 4) (pf : pre0.Contents (Elt F)) : Prop :=
  (∀ i : grid0.Coords, ∃ h : (∀ a, (cc0_transform_0 inb_S1_S1_0 numel1_S1 pf i a + 1) * S512x1024.size a ≤ S82944x1024.size a), EltTy.bits .f32 = 32 ∨ (Rect.block (s := S82944x1024) S512x1024.size (cc0_transform_0 inb_S1_S1_0 numel1_S1 pf i) h).WholeWords (EltTy.packing .f32)) ∧
  (∀ i : grid0.Coords, ∃ h : (∀ a, (weightMap l pf i a + 1) * S1x1x1024x512.size a ≤ S4x32x1024x512.size a), EltTy.bits .f32 = 32 ∨ (Rect.block (s := S4x32x1024x512) S1x1x1024x512.size (weightMap l pf i) h).WholeWords (EltTy.packing .f32)) ∧
  (∀ i : grid0.Coords, ∃ h : (∀ a, (weightMap l pf i a + 1) * S1x1x1024x512.size a ≤ S4x32x1024x512.size a), EltTy.bits .f32 = 32 ∨ (Rect.block (s := S4x32x1024x512) S1x1x1024x512.size (weightMap l pf i) h).WholeWords (EltTy.packing .f32)) ∧
  (∀ i : grid0.Coords, ∃ h : (∀ a, (weightMap l pf i a + 1) * S1x1x512x1024.size a ≤ S4x32x512x1024.size a), EltTy.bits .f32 = 32 ∨ (Rect.block (s := S4x32x512x1024) S1x1x512x1024.size (weightMap l pf i) h).WholeWords (EltTy.packing .f32))
instance (l : Fin 4) (pf : pre0.Contents (Elt F)) : Decidable (Fits l pf) := decidable_of_iff' _ (Iff.of_eq (Fits.eq_1 l pf))

theorem maps_inb (l : Fin 4) : ∀ (pf : pre0.Contents (Elt F)), Fits l pf → ∀ w (i : grid0.Coords) a, (maps l pf w i a + 1) * (spec0 w).size a ≤ (spec0 w).shape.size a :=
  fun pf hok => fun
  | 0 => fun i a => (hok.1 i).elim fun h _ => h a
  | 1 => fun i a => (hok.2.1 i).elim fun h _ => h a
  | 2 => fun i a => (hok.2.2.1 i).elim fun h _ => h a
  | 3 => fun i a => (hok.2.2.2 i).elim fun h _ => h a
  | 4 => hinb0_4
  | ⟨_ + 5, h⟩ => absurd h (Nat.not_lt.2 (Nat.le_add_left _ _))

theorem maps_words (l : Fin 4) : ∀ (pf : pre0.Contents (Elt F)) (hok : Fits l pf) w (i : grid0.Coords), (spec0 w).elt.bits = 32 ∨ (Rect.block (spec0 w).size (maps l pf w i) (maps_inb l pf hok w i)).WholeWords (spec0 w).elt.packing :=
  fun pf hok => fun
  | 0 => fun i => (hok.1 i).elim fun _ h => h
  | 1 => fun i => (hok.2.1 i).elim fun _ h => h
  | 2 => fun i => (hok.2.2.1 i).elim fun _ h => h
  | 3 => fun i => (hok.2.2.2 i).elim fun _ h => h
  | 4 => hwx0_4
  | ⟨_ + 5, h⟩ => absurd h (Nat.not_lt.2 (Nat.le_add_left _ _))

/-- The launch of a layer, -/
abbrev launch (l : Fin 4) : Pipeline.PCfg sig Λ₀ (Elt F) :=
  Pipeline.PCfg.ofSpecs pre0 grid0 hrank0 (fun _ => grid0.bound) (fun _ _ _ => rfl)
    5 spec0 hcount0 harr0 (maps l) (maps_reads l) (Fits l) (maps_inb l) (maps_words l) 0 (fun _ _ t s => (t, s)) (fun pf => idle0 pf)
abbrev launches (l : Fin 4) : Fin 1 → Pipeline.PCfg sig Λ₀ (Elt F) := fun _ => launch l

/-- its labels' bodies, -/
def bodies (l : Fin 4) : Defs nD τ sig (Elt F) (Pipeline.Sig Λ₀ (Fin 1) fun p => (launches (F := F) l p).Adm) := Pipeline.defs (launches l) defs₀

/-- and the program: the host lines that make the tables, and the launch. -/
def prog (l : Fin 4) : Dev nD → Prog (TpuEff nD τ sig (Elt F) (Pipeline.Sig Λ₀ (Fin 1) fun p => (launches (F := F) l p).Adm) .tc) PUnit := fun _ =>
  StableHlo.seqK hostOps0 do
    StableHlo.seq hostOps0_1
    StableHlo.seqK hostOps0_2 do
      StableHlo.seq hostOps0_3
      StableHlo.seqK hostOps0_4 do
        StableHlo.seq hostOps0_5
        Prog.lift (.customCall (Pipeline.entry 0) ())
        Pipeline.chain []

set_option maxHeartbeats 800000 in
/-- The program is its host lines, then the launch. -/
theorem prog_chain (l : Fin 4) (c : Dev nD) : prog (F := F) l c = (Pipeline.chain
  [ StableHlo.seq hostOps0,
    StableHlo.seq hostOps0_1,
    StableHlo.seq hostOps0_2,
    StableHlo.seq hostOps0_3,
    StableHlo.seq hostOps0_4,
    StableHlo.seq hostOps0_5,
    Prog.lift (.customCall (Pipeline.entry 0) ()) ] : Prog (TpuEff nD τ sig (Elt F) (Pipeline.Sig Λ₀ (Fin 1) fun p => (launches (F := F) l p).Adm) .tc) PUnit) := by
  rewrite [StableHlo.chain_seq_cons, Pipeline.chain_cons, StableHlo.chain_seq_cons, Pipeline.chain_cons, StableHlo.chain_seq_cons, Pipeline.chain_cons, Pipeline.chain_cons]
  rfl

/-- The staging cells of a layer's launch are pairwise distinct, -/
theorem cells_inj (l : Fin 4) (a : (p : Fin 1) → (launches (F := F) l p).Adm) :
    Function.Injective (Pipeline.cellOf (nD := nD) (τ := τ) (Pipeline.pin (launches (F := F) l) a)) :=
  Pipeline.cellOf_injective_of_table (Pipeline.pin (launches (F := F) l) a) semTab (fun | 0 => rfl | ⟨_ + 1, h⟩ => absurd h (Nat.not_lt.2 (Nat.le_add_left _ _))) semsDistinct semsDisjoint

/-- and its buffers laid out as a launch asks. -/
theorem launch_facts (l : Fin 4) : Pipeline.PLaunchFacts (nD := nD) (τ := τ) (launches (F := F) l) 0 :=
  ⟨cells_inj l, winFacts0, preFacts0, block_pos0, arr_whole0, stage_whole0⟩

set_option maxHeartbeats 800000 in
/-- The program up to the call: the host operations take the buffers from their launch contents to `V`. -/
theorem hmain (m : (ℓ : Loc nD τ sig) → Buf (Elt F) ℓ) (l : Fin 4) (𝒱₀ : Variants) :
    Pipeline.HMainP (Ix := Unit) (Name := ℕ) (U := UR sig nD τ) (Lvl := ℕ) (launches (F := F) l) 0 defs₀ 𝒱₀ m (prog (F := F) l) (V m) :=
  Pipeline.hmainP_prefixes (launches l) 0 defs₀ 𝒱₀ m (prog l) lines lines_sub lines_fresh (prog_chain l)

end Cert.Kernel2Ideal.Experts

end
-- ==== Proof.Experts.Blocks.lean ====
/- The tables the pipeline runs at, and which block of each array a grid point is given. A point is a block of 512 rows; all
   its rows belong to one expert. -/
module

public import proofs.«01_k».proof.Proof.Experts.Run
public import proofs.«01_k».proof.Proof.Experts.Layers
public import Idealize.ShloMosaic.Lib.Pointwise
public import Idealize.ShloMosaic.Lib.Pipeline.ValueKit

@[expose] public section

set_option maxRecDepth 16384

noncomputable section

namespace Cert.Kernel2Ideal.Experts

open Idealize.ShloMosaic Idealize.ShloMosaic.TcCoe
open Cert.Kernel2Ideal.Gen

variable {F : FTy → Type} [FloatOps F]

set_option backward.proofsInPublic true in
/-- The two tables: the expert of every block, and the count of the used blocks. -/
def tables (be : IVec S162 32) (nu : IVec S1 32) : pre0.Contents (Elt F) := fun
  | ⟨0, _⟩ => be
  | ⟨1, _⟩ => nu
  | ⟨_ + 2, h⟩ => absurd h (by simp)

/-- The block of rows a point is given: its own, or the last used one past it. -/
def xBlk (n : BitVec 32) (k : Fin 162) : Nat := (Scalar.maxsi (Scalar.minsi (BitVec.ofNat 32 k.val) (Scalar.subi n 1#32)) 0#32).toNat

/-- The last row a point's number names, as a signed word. -/
theorem toInt_pt (k : Fin 162) : (BitVec.ofNat 32 k.val).toInt = k.val := by
  have h := k.isLt
  rw [BitVec.toInt_eq_toNat_of_lt (by rw [BitVec.toNat_ofNat]; omega), BitVec.toNat_ofNat]; omega

theorem xBlk_le (n : BitVec 32) (k : Fin 162) : xBlk n k ≤ 161 := by
  have hk := k.isLt
  have h0 : (0#32 : BitVec 32).toInt = 0 := by decide
  have hm : ∀ x : BitVec 32, (IntOp.minsi (BitVec.ofNat 32 k.val) x).toInt ≤ 161 := by
    intro x
    unfold IntOp.minsi
    split
    · rw [toInt_pt]; omega
    · next h => rw [BitVec.slt_iff_toInt_lt, toInt_pt] at h; omega
  have hM : ∀ y : BitVec 32, y.toInt ≤ 161 → (IntOp.maxsi y 0#32).toNat ≤ 161 := by
    intro y hy
    unfold IntOp.maxsi
    split
    · next h =>
      rw [BitVec.slt_iff_toInt_lt, h0] at h
      rw [BitVec.toInt_eq_toNat_cond] at h hy
      split at h <;> omega
    · exact Nat.zero_le _
  exact hM _ (hm _)

/-- A used block is given its own rows. -/
theorem xBlk_used (n : BitVec 32) (k : Fin 162) (h : (BitVec.ofNat 32 k.val).slt n = true) : xBlk n k = k.val := by
  have hk := k.isLt
  have h0 : (0#32 : BitVec 32).toInt = 0 := by decide
  rw [BitVec.slt_iff_toInt_lt, toInt_pt] at h
  have hn : n.toInt = n.toNat := by rw [BitVec.toInt_eq_toNat_cond] at *; split at h <;> omega
  have hx : (IntOp.subi n 1#32).toInt = n.toInt - 1 := by
    have hlt := BitVec.toInt_lt (x := n)
    have e : (IntOp.subi n 1#32).toNat = n.toNat - 1 := by
      show (n - 1#32).toNat = _
      rw [BitVec.toNat_sub_of_le (by rw [BitVec.le_def]; show 1 ≤ n.toNat; omega)]; rfl
    rw [BitVec.toInt_eq_toNat_of_lt (by rw [e]; omega), e]; omega
  unfold xBlk
  show (IntOp.maxsi (IntOp.minsi (BitVec.ofNat 32 k.val) (IntOp.subi n 1#32)) 0#32).toNat = k.val
  generalize IntOp.subi n 1#32 = x at hx
  have hm : IntOp.minsi (BitVec.ofNat 32 k.val) x = BitVec.ofNat 32 k.val ∨ IntOp.minsi (BitVec.ofNat 32 k.val) x = x ∧ x.toInt = k.val := by
    unfold IntOp.minsi
    split
    · exact .inl rfl
    · next h2 => rw [BitVec.slt_iff_toInt_lt, toInt_pt] at h2; exact .inr ⟨rfl, by omega⟩
  have hm' : IntOp.minsi (BitVec.ofNat 32 k.val) x = BitVec.ofNat 32 k.val := by
    rcases hm with hm | ⟨hm, hx'⟩
    · exact hm
    · rw [hm]; exact BitVec.eq_of_toInt_eq (hx'.trans (toInt_pt k).symm)
  rw [hm']
  unfold IntOp.maxsi
  split
  · rw [BitVec.toNat_ofNat]; omega
  · next h2 => rw [BitVec.slt_iff_toInt_lt, toInt_pt, h0] at h2; show 0 = k.val; omega

variable (l : Fin 4) (be : IVec S162 32) (nu : IVec S1 32) (hbe : ∀ b, (be b).toNat < 32)

/-- The entry of the count. -/
theorem table_count (h : S1.numel = 1) : (tables (F := F) be nu).at 1 (Rect.unit (s := S1) ![0] S1.size inb_S1_S1_0) h = nu (at1 0) := by
  refine congrArg nu (eq_at1 _ _ ?_)
  exact Nat.lt_one_iff.mp (Fin.isLt _)

/-- The entry of the experts' table at a point. -/
theorem table_expert (i : grid0.Coords) (h : S1.numel = 1) :
    (tables (F := F) be nu).at 0 (Rect.unit (s := S162) (k0_off1 i) S1.size (k0_off1_inb i)) h = be (at1 (pt i)) := by
  refine congrArg be (eq_at1 _ _ ?_)
  refine (Rect.idx_unit_val _ _ _ _ _).trans ?_
  exact (congrArg₂ (· + ·) (off1_eq i) (Nat.lt_one_iff.mp (Fin.isLt _))).trans (Nat.add_zero _)

/-- Where each window's block is. -/
theorem map0 (i : grid0.Coords) : cc0_transform_0 inb_S1_S1_0 numel1_S1 (tables (F := F) be nu) i = ![xBlk (nu (at1 0)) (pt i), 0] := by
  have e := table_count (F := F) be nu numel1_S1
  unfold cc0_transform_0
  exact congrArg (fun v : BitVec 32 => ![(Scalar.maxsi (Scalar.minsi (BitVec.ofNat 32 (i 0).val) (Scalar.subi v 1#32)) 0#32).toNat, 0]) e
theorem weightMap_eq (i : grid0.Coords) : weightMap l (tables (F := F) be nu) i = ![l.val, (be (at1 (pt i))).toNat, 0, 0] := by
  have e := table_expert (F := F) be nu i numel1_S1
  unfold weightMap
  exact congrArg (fun v : BitVec 32 => ![l.val, v.toNat, 0, 0]) e
theorem map4 (i : grid0.Coords) : cc0_transform_4 i = ![(pt i).val, 0] :=
  congrArg (fun n : Nat => ![n, 0]) ((by decide : ∀ k : Fin 162, (BitVec.ofNat 32 k.val).toNat = k.val) (pt i))

include hbe in
/-- Every block lies within its array, since every entry of the first table is an expert's number. -/
theorem tables_ok : Fits (F := F) l (tables be nu) := by
  have hx : ∀ i : grid0.Coords, ∀ a, (cc0_transform_0 inb_S1_S1_0 numel1_S1 (tables (F := F) be nu) i a + 1) * S512x1024.size a ≤ S82944x1024.size a := by
    intro i a
    rw [map0]
    have h := xBlk_le (nu (at1 0)) (pt i)
    fin_cases a
    · show (xBlk (nu (at1 0)) (pt i) + 1) * 512 ≤ 82944; omega
    · show (0 + 1) * 1024 ≤ 1024; omega
  have hw : ∀ v : BitVec 32, v.toNat < 32 → ∀ a : Fin 4, ((![l.val, v.toNat, 0, 0] : Fin 4 → Nat) a + 1) * S1x1x1024x512.size a ≤ S4x32x1024x512.size a := by
    intro v hv a
    fin_cases a
    · show (l.val + 1) * 1 ≤ 4; have := l.isLt; omega
    · show (v.toNat + 1) * 1 ≤ 32; omega
    · show (0 + 1) * 1024 ≤ 1024; omega
    · show (0 + 1) * 512 ≤ 512; omega
  have hw' : ∀ v : BitVec 32, v.toNat < 32 → ∀ a : Fin 4, ((![l.val, v.toNat, 0, 0] : Fin 4 → Nat) a + 1) * S1x1x512x1024.size a ≤ S4x32x512x1024.size a := by
    intro v hv a
    fin_cases a
    · show (l.val + 1) * 1 ≤ 4; have := l.isLt; omega
    · show (v.toNat + 1) * 1 ≤ 32; omega
    · show (0 + 1) * 512 ≤ 512; omega
    · show (0 + 1) * 1024 ≤ 1024; omega
  unfold Fits
  exact ⟨fun i => ⟨hx i, .inl rfl⟩, fun i => ⟨by rw [weightMap_eq]; exact hw _ (hbe _), .inl rfl⟩,
    fun i => ⟨by rw [weightMap_eq]; exact hw _ (hbe _), .inl rfl⟩, fun i => ⟨by rw [weightMap_eq]; exact hw' _ (hbe _), .inl rfl⟩⟩

/-- The tables as the pipeline admits them, -/
def adm : (launch (F := F) l).Adm := ⟨tables be nu, tables_ok l be nu hbe⟩

/-- the pipeline at them. -/
abbrev cfgT : Pipeline.Cfg sig Λ₀ := (launch (F := F) l).at (adm l be nu hbe)

/-- The number of the block of rows a point works on. -/
def row (t : Fin grid0.N) : Fin 162 := pt (grid0.coords t)

theorem row_val : ∀ t : Fin grid0.N, (row t).val = t.val := by decide +kernel

theorem idx0 (t : Fin grid0.N) : ((cfgT (F := F) l be nu hbe).win 0).index t = ![xBlk (nu (at1 0)) (row t), 0] := map0 be nu _
theorem idx1 (t : Fin grid0.N) : ((cfgT (F := F) l be nu hbe).win 1).index t = ![l.val, (be (at1 (row t))).toNat, 0, 0] := weightMap_eq l be nu _
theorem idx2 (t : Fin grid0.N) : ((cfgT (F := F) l be nu hbe).win 2).index t = ![l.val, (be (at1 (row t))).toNat, 0, 0] := weightMap_eq l be nu _
theorem idx3 (t : Fin grid0.N) : ((cfgT (F := F) l be nu hbe).win 3).index t = ![l.val, (be (at1 (row t))).toNat, 0, 0] := weightMap_eq l be nu _
theorem idx4 (t : Fin grid0.N) : ((cfgT (F := F) l be nu hbe).win 4).index t = ![(row t).val, 0] := map4 _

/-! ## The blocks -/

/-- Block `n` of 512 rows. -/
def rowsAt (X : Vec F S82944x1024 .f32) (n : Nat) (h : n ≤ 161) : Vec F S512x1024 .f32 := fun y =>
  X (ix2 ⟨n * 512 + (y 0).val, by have h' : (y 0).val < 512 := (y 0).isLt; omega⟩ (y 1))
/-- An expert's weights, of a layer's: the two of the first product, -/
def weightAt (l : Fin 4) (A : Vec F S4x32x1024x512 .f32) (e : BitVec 32) (h : e.toNat < 32) : Vec F S1x1x1024x512 .f32 := fun y => A (ix4 l ⟨e.toNat, h⟩ (y 2) (y 3))
/-- and that of the second. -/
def weightAt' (l : Fin 4) (A : Vec F S4x32x512x1024 .f32) (e : BitVec 32) (h : e.toNat < 32) : Vec F S1x1x512x1024 .f32 := fun y => A (ix4 l ⟨e.toNat, h⟩ (y 2) (y 3))

theorem block0 (X : Vec F S82944x1024 .f32) (t : Fin grid0.N) :
    (((cfgT (F := F) l be nu hbe).win 0).blk t).view.read (Elt F) X = rowsAt X (xBlk (nu (at1 0)) (row t)) (xBlk_le _ _) := by
  funext y
  blk_ext [idx0 l be nu hbe t, rowsAt]

theorem block1 (A : Vec F S4x32x1024x512 .f32) (t : Fin grid0.N) :
    (((cfgT (F := F) l be nu hbe).win 1).blk t).view.read (Elt F) A = weightAt l A (be (at1 (row t))) (hbe _) := by
  funext y
  blk_ext [idx1 l be nu hbe t, weightAt]

theorem block2 (A : Vec F S4x32x1024x512 .f32) (t : Fin grid0.N) :
    (((cfgT (F := F) l be nu hbe).win 2).blk t).view.read (Elt F) A = weightAt l A (be (at1 (row t))) (hbe _) := by
  funext y
  blk_ext [idx2 l be nu hbe t, weightAt]

theorem block3 (A : Vec F S4x32x512x1024 .f32) (t : Fin grid0.N) :
    (((cfgT (F := F) l be nu hbe).win 3).blk t).view.read (Elt F) A = weightAt' l A (be (at1 (row t))) (hbe _) := by
  funext y
  blk_ext [idx3 l be nu hbe t, weightAt']

end Cert.Kernel2Ideal.Experts

end
-- ==== Proof.Experts.Frame.lean ====
/- The experts' launch: at every grid point the body takes the blocks staged, and the weights it converted, to the rows it
   writes; so the program runs, ends with every semaphore at zero and its arguments unchanged. -/
module

public import proofs.«01_k».proof.Proof.Experts.Blocks
public import Idealize.ShloMosaic.Lib.Quiescent
public import Idealize.ShloMosaic.Lib.Claim

@[expose] public section

set_option maxRecDepth 16384

noncomputable section

namespace Cert.Kernel2Ideal.Experts

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal.Gen

variable {F : FTy → Type} [FloatOps F]

local notation "𝕄" => MT nD τ sig Unit (Elt F) ℕ (UR sig nD τ) ℕ

variable (l : Fin 4) (m : (ℓ : Loc nD τ sig) → Buf (Elt F) ℓ) (ρ : Dev nD → PrngReg)
  (be : IVec S162 32) (nu : IVec S1 32) (hbe : ∀ b, (be b).toNat < 32)

/-! ## What the body is given and leaves -/

/-- The weights of a block's expert as the body converts them. -/
def gate (c : Dev nD) (k : Fin 162) : Vec F S1024x512 .bf16 := k0_pay1 (weightAt l (V m c main_arg2) (be (at1 k)) (hbe _))
def up (c : Dev nD) (k : Fin 162) : Vec F S1024x512 .bf16 := k0_pay2 (weightAt l (V m c main_arg3) (be (at1 k)) (hbe _))
def down (c : Dev nD) (k : Fin 162) : Vec F S512x1024 .bf16 := k0_pay3 (weightAt' l (V m c main_arg4) (be (at1 k)) (hbe _))

/-- The rows the body is given at point `t`, -/
def rowsIn (c : Dev nD) (t : Fin grid0.N) : Vec F S512x1024 .f32 := rowsAt (V m c main_arg0) (xBlk (nu (at1 0)) (row t)) (xBlk_le _ _)

/-- and those it leaves. -/
def outAt (c : Dev nD) (t : Fin grid0.N) : Vec F S512x1024 .f32 :=
  rowsOut (grid0.coords t) (nu (at1 0)) (rowsIn m nu c t) (gate l m be hbe c (row t)) (up l m be hbe c (row t)) (down l m be hbe c (row t))

/-- Before point `n` the weights' buffers hold those of the point before, converted. -/
def held (c : Dev nD) (n : Nat) : sProp 𝕄 :=
  iprop(∃ s0 s1 s2, ⌜∀ k : Fin 162, n = k.val + 1 → s0 = gate l m be hbe c k ∧ s1 = up l m be hbe c k ∧ s2 = down l m be hbe c k⌝
    ∗ owns (c : Thread nD τ) (Memref.whole cc0_scratch0) fullShare s0 ∗ owns (c : Thread nD τ) (Memref.whole cc0_scratch1) fullShare s1
    ∗ owns (c : Thread nD τ) (Memref.whole cc0_scratch2) fullShare s2)

/-- The body's invariant: the weights' buffers, the generator register, and its share of each table. -/
def inv (c : Dev nD) (n : Nat) : sProp 𝕄 :=
  iprop(held l m be hbe c n ∗ (∃ r, prngReg c r) ∗ owns (c : Thread nD τ) (Memref.whole main_v19) fullShare.right be
    ∗ owns (c : Thread nD τ) (Memref.whole main_v21) fullShare.right nu)

/-! ## The pipeline's proof data -/

/-- What the launch is proved with on core `c`: each array as the host code left it; each input's buffer unchanged by the body,
    the result's at `outAt`. -/
def dats (_ : Fin 1) (c : Dev nD) : Dat τ (Elt F) Unit ℕ (UR sig nD τ) ℕ (cfgT (F := F) l be nu hbe) c where
  A w := V m c (Pipeline.arrRef spec0 w)
  after w t := match w with
    | ⟨0, _⟩ => rowsIn m nu c t
    | ⟨1, _⟩ => weightAt l (V m c main_arg2) (be (at1 (row t))) (hbe _)
    | ⟨2, _⟩ => weightAt l (V m c main_arg3) (be (at1 (row t))) (hbe _)
    | ⟨3, _⟩ => weightAt' l (V m c main_arg4) (be (at1 (row t))) (hbe _)
    | ⟨4, _⟩ => outAt l m be nu hbe c t
  Φ t := inv l m be nu hbe c t.val
  q _ := fullShare
  owed _ := 0

theorem A_eq (c : Dev nD) (w : Fin 5) : (dats l m be nu hbe 0 c).A w = V m c (Pipeline.arrRef spec0 w) := by dsimp only [dats]

/-- What each buffer holds after the body. -/
theorem after0 (c : Dev nD) (t : Fin grid0.N) : (dats l m be nu hbe 0 c).after 0 t = rowsIn m nu c t := rfl
theorem after1 (c : Dev nD) (t : Fin grid0.N) : (dats l m be nu hbe 0 c).after 1 t = weightAt l (V m c main_arg2) (be (at1 (row t))) (hbe _) := rfl
theorem after2 (c : Dev nD) (t : Fin grid0.N) : (dats l m be nu hbe 0 c).after 2 t = weightAt l (V m c main_arg3) (be (at1 (row t))) (hbe _) := rfl
theorem after3 (c : Dev nD) (t : Fin grid0.N) : (dats l m be nu hbe 0 c).after 3 t = weightAt' l (V m c main_arg4) (be (at1 (row t))) (hbe _) := rfl
theorem after4 (c : Dev nD) (t : Fin grid0.N) : (dats l m be nu hbe 0 c).after 4 t = outAt l m be nu hbe c t := rfl

/-- The block of each input's array that belongs to a point. -/
theorem blockOf0 (c : Dev nD) (t : Fin grid0.N) : (dats l m be nu hbe 0 c).blockOf 0 t = rowsIn m nu c t := by
  unfold Dat.blockOf; rw [A_eq]; exact block0 l be nu hbe _ t
theorem blockOf1 (c : Dev nD) (t : Fin grid0.N) : (dats l m be nu hbe 0 c).blockOf 1 t = weightAt l (V m c main_arg2) (be (at1 (row t))) (hbe _) := by
  unfold Dat.blockOf; rw [A_eq]; exact block1 l be nu hbe _ t
theorem blockOf2 (c : Dev nD) (t : Fin grid0.N) : (dats l m be nu hbe 0 c).blockOf 2 t = weightAt l (V m c main_arg3) (be (at1 (row t))) (hbe _) := by
  unfold Dat.blockOf; rw [A_eq]; exact block2 l be nu hbe _ t
theorem blockOf3 (c : Dev nD) (t : Fin grid0.N) : (dats l m be nu hbe 0 c).blockOf 3 t = weightAt' l (V m c main_arg4) (be (at1 (row t))) (hbe _) := by
  unfold Dat.blockOf; rw [A_eq]; exact block3 l be nu hbe _ t

/-- Before the body every input's buffer holds it. -/
theorem before0 (c : Dev nD) (t : Fin grid0.N) (d) : (dats l m be nu hbe 0 c).before 0 t d = rowsIn m nu c t :=
  ((dats l m be nu hbe 0 c).before_in_eq_fetched 0 rfl (fun _ => rfl) (fun _ _ _ => rfl)
    (fun t => (after0 l m be nu hbe c t).trans (blockOf0 l m be nu hbe c t).symm) t d).trans (blockOf0 l m be nu hbe c t)
theorem before1 (c : Dev nD) (t : Fin grid0.N) (d) : (dats l m be nu hbe 0 c).before 1 t d = weightAt l (V m c main_arg2) (be (at1 (row t))) (hbe _) :=
  ((dats l m be nu hbe 0 c).before_in_eq_fetched 1 rfl (fun _ => rfl) (fun _ _ _ => rfl)
    (fun t => (after1 l m be nu hbe c t).trans (blockOf1 l m be nu hbe c t).symm) t d).trans (blockOf1 l m be nu hbe c t)
theorem before2 (c : Dev nD) (t : Fin grid0.N) (d) : (dats l m be nu hbe 0 c).before 2 t d = weightAt l (V m c main_arg3) (be (at1 (row t))) (hbe _) :=
  ((dats l m be nu hbe 0 c).before_in_eq_fetched 2 rfl (fun _ => rfl) (fun _ _ _ => rfl)
    (fun t => (after2 l m be nu hbe c t).trans (blockOf2 l m be nu hbe c t).symm) t d).trans (blockOf2 l m be nu hbe c t)
theorem before3 (c : Dev nD) (t : Fin grid0.N) (d) : (dats l m be nu hbe 0 c).before 3 t d = weightAt' l (V m c main_arg4) (be (at1 (row t))) (hbe _) :=
  ((dats l m be nu hbe 0 c).before_in_eq_fetched 3 rfl (fun _ => rfl) (fun _ _ _ => rfl)
    (fun t => (after3 l m be nu hbe c t).trans (blockOf3 l m be nu hbe c t).symm) t d).trans (blockOf3 l m be nu hbe c t)

/-! ## The body obligation, at a generic point -/

/-- Each window's current buffer at point `t`. -/
abbrev ms0 (t : Fin grid0.N) : Memref sig .tc .vmem S512x1024 .f32 := spec0_0.stage ((cfgT (F := F) l be nu hbe).slots t 0)
abbrev ms1 (t : Fin grid0.N) : Memref sig .tc .vmem S1x1x1024x512 .f32 := spec0_1.stage ((cfgT (F := F) l be nu hbe).slots t 1)
abbrev ms2 (t : Fin grid0.N) : Memref sig .tc .vmem S1x1x1024x512 .f32 := spec0_2.stage ((cfgT (F := F) l be nu hbe).slots t 2)
abbrev ms3 (t : Fin grid0.N) : Memref sig .tc .vmem S1x1x512x1024 .f32 := spec0_3.stage ((cfgT (F := F) l be nu hbe).slots t 3)
abbrev ms4 (t : Fin grid0.N) : Memref sig .tc .vmem S512x1024 .f32 := spec0_4.stage ((cfgT (F := F) l be nu hbe).slots t 4)

/-- At every point the body stores the result's block. -/
theorem live4 (i : grid0.Coords) : (cfgT (F := F) l be nu hbe).idle 4 i = false := by
  show (!(k0_cond2 i _ == 1#1) && !(k0_cond3 i _ == 1#1)) = false
  by_cases h : k0_cond2 i ((adm (F := F) l be nu hbe).1.atD 1 ![0]) = 1#1
  · rw [show k0_cond2 i ((adm (F := F) l be nu hbe).1.atD 1 ![0]) = 1#1 from h]; rfl
  · rw [show k0_cond3 i ((adm (F := F) l be nu hbe).1.atD 1 ![0]) = 1#1 from (cond3_iff i _).mpr h]; exact Bool.and_false _

/-- So the result's buffer is asked for as the body leaves it. -/
def left4 (c : Dev nD) (t : Fin grid0.N) : sProp 𝕄 :=
  match (cfgT (F := F) l be nu hbe).idle 4 ((cfgT (F := F) l be nu hbe).grid.coords t) with
  | true =>
    match ((cfgT (F := F) l be nu hbe).win 4).flush t with
    | false => iprop(∃ d, owns (c : Thread nD τ) (ms4 (F := F) l be nu hbe t) fullShare ((dats l m be nu hbe 0 c).before 4 t d))
    | true => owns (c : Thread nD τ) (ms4 (F := F) l be nu hbe t) fullShare ((dats l m be nu hbe 0 c).after 4 t)
  | false => owns (c : Thread nD τ) (ms4 (F := F) l be nu hbe t) fullShare ((dats l m be nu hbe 0 c).after 4 t)

theorem left4_eq (c : Dev nD) (t : Fin grid0.N) :
    left4 l m be nu hbe c t = owns (c : Thread nD τ) (ms4 (F := F) l be nu hbe t) fullShare ((dats l m be nu hbe 0 c).after 4 t) := by
  unfold left4
  rw [live4]

/-- The body at point `t`. -/
def bodyAt (t : Fin grid0.N) : Prog (TpuEff nD τ sig (Elt F) Λ₀ .tc) PUnit :=
  defs₀ .tc (cfgT (F := F) l be nu hbe).body ((cfgT (F := F) l be nu hbe).bodyArgs t ((cfgT (F := F) l be nu hbe).slots t))

/-- What the body starts from at point `t`: -/
def bodyPre (c : Dev nD) (t : Fin grid0.N) : sProp 𝕄 :=
  iprop(inv l m be nu hbe c t.val ∗ (dats l m be nu hbe 0 c).owesAt () t.castSucc
    ∗ (∃ d, owns (c : Thread nD τ) (ms0 (F := F) l be nu hbe t) fullShare ((dats l m be nu hbe 0 c).before 0 t d))
    ∗ (∃ d, owns (c : Thread nD τ) (ms1 (F := F) l be nu hbe t) fullShare ((dats l m be nu hbe 0 c).before 1 t d))
    ∗ (∃ d, owns (c : Thread nD τ) (ms2 (F := F) l be nu hbe t) fullShare ((dats l m be nu hbe 0 c).before 2 t d))
    ∗ (∃ d, owns (c : Thread nD τ) (ms3 (F := F) l be nu hbe t) fullShare ((dats l m be nu hbe 0 c).before 3 t d))
    ∗ (∃ d, owns (c : Thread nD τ) (ms4 (F := F) l be nu hbe t) fullShare ((dats l m be nu hbe 0 c).before 4 t d)))

/-- and what it must leave behind. -/
def bodyPost (c : Dev nD) (t : Fin grid0.N) : sProp 𝕄 :=
  iprop(inv l m be nu hbe c (t.val + 1) ∗ (dats l m be nu hbe 0 c).owesAt () t.castSucc
    ∗ owns (c : Thread nD τ) (ms0 (F := F) l be nu hbe t) fullShare ((dats l m be nu hbe 0 c).after 0 t)
    ∗ owns (c : Thread nD τ) (ms1 (F := F) l be nu hbe t) fullShare ((dats l m be nu hbe 0 c).after 1 t)
    ∗ owns (c : Thread nD τ) (ms2 (F := F) l be nu hbe t) fullShare ((dats l m be nu hbe 0 c).after 2 t)
    ∗ owns (c : Thread nD τ) (ms3 (F := F) l be nu hbe t) fullShare ((dats l m be nu hbe 0 c).after 3 t)
    ∗ left4 l m be nu hbe c t)

/-- Equal experts have equal weights. -/
theorem weightAt_congr (A : Vec F S4x32x1024x512 .f32) {e e' : BitVec 32} (h : e.toNat < 32) (h' : e'.toNat < 32) (he : e = e') :
    weightAt l A e h = weightAt l A e' h' := by subst he; rfl
theorem weightAt'_congr (A : Vec F S4x32x512x1024 .f32) {e e' : BitVec 32} (h : e.toNat < 32) (h' : e'.toNat < 32) (he : e = e') :
    weightAt' l A e h = weightAt' l A e' h' := by subst he; rfl

/-- Whether they are converted at a point or kept from the point before, the weights after it are those of its expert. -/
theorem kept_eq (c : Dev nD) (t : Fin grid0.N) (s0 s1 : Vec F S1024x512 .bf16) (s2 : Vec F S512x1024 .bf16)
    (h : ∀ k : Fin 162, t.val = k.val + 1 → s0 = gate l m be hbe c k ∧ s1 = up l m be hbe c k ∧ s2 = down l m be hbe c k) :
    kept (fresh be (row t)) s0 (gate l m be hbe c (row t)) = gate l m be hbe c (row t)
    ∧ kept (fresh be (row t)) s1 (up l m be hbe c (row t)) = up l m be hbe c (row t)
    ∧ kept (fresh be (row t)) s2 (down l m be hbe c (row t)) = down l m be hbe c (row t) := by
  unfold kept
  by_cases hf : fresh be (row t) = 1#1
  · simp only [if_pos hf, and_self]
  · simp only [if_neg hf]
    rw [fresh_iff, not_or, not_ne_iff] at hf
    obtain ⟨hk, he⟩ := hf
    have hv : t.val = (before (row t)).val + 1 := by
      have := row_val t
      show t.val = (row t).val - 1 + 1
      omega
    obtain ⟨h0, h1, h2⟩ := h _ hv
    rw [h0, h1, h2]
    unfold gate up down
    exact ⟨congrArg k0_pay1 (weightAt_congr l _ _ _ he.symm), congrArg k0_pay2 (weightAt_congr l _ _ _ he.symm), congrArg k0_pay3 (weightAt'_congr l _ _ _ he.symm)⟩

set_option maxHeartbeats 1600000 in
/-- The body's run at any point. -/
theorem sound_body (c : Dev nD) (t : Fin grid0.N) :
    bodyPre l m be nu hbe c t ⊢ wp frame (wpE (defs₀ (F := F)) Variants.none c none) Set.univ (bodyAt (F := F) l be nu hbe t) (fun _ => bodyPost l m be nu hbe c t) := by
  unfold bodyPre bodyPost bodyAt defs₀
  rw [Defs.onTc_tc]
  simp only [before0, before1, before2, before3]
  rw [left4_eq, after0, after1, after2, after3, after4]
  unfold outAt inv held
  iintro ⟨⟨⟨%s0, %s1, %s2, %hs, HS0, HS1, HS2⟩, Hg, HB, HN⟩, Ho, ⟨%d0, H0⟩, ⟨%d1, H1⟩, ⟨%d2, H2⟩, ⟨%d3, H3⟩, ⟨%d4, H4⟩⟩
  obtain ⟨e0, e1, e2⟩ := kept_eq l m be hbe c t s0 s1 s2 hs
  iapply (run c (grid0.coords t) _ _ _ _ _ _ _ _ _ _ _ _ _ _ _ _ be nu fullShare.right (rowsIn m nu c t) (weightAt l (V m c main_arg2) (be (at1 (row t))) (hbe _))
    (weightAt l (V m c main_arg3) (be (at1 (row t))) (hbe _)) (weightAt' l (V m c main_arg4) (be (at1 (row t))) (hbe _)) s0 s1 s2 Set.univ _)
  isplitl [HB]; · iexact HB
  isplitl [HN]; · iexact HN
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  isplitl [HS2]; · iexact HS2
  rw [show kept (fresh be (pt (grid0.coords t))) s0 (k0_pay1 (weightAt l (V m c main_arg2) (be (at1 (row t))) (hbe _))) = gate l m be hbe c (row t) from e0,
    show kept (fresh be (pt (grid0.coords t))) s1 (k0_pay2 (weightAt l (V m c main_arg3) (be (at1 (row t))) (hbe _))) = up l m be hbe c (row t) from e1,
    show kept (fresh be (pt (grid0.coords t))) s2 (k0_pay3 (weightAt' l (V m c main_arg4) (be (at1 (row t))) (hbe _))) = down l m be hbe c (row t) from e2]
  iintro ⟨HB, HN, H0, H1, H2, H3, H4, HS0, HS1, HS2⟩
  isplitl [HS0 HS1 HS2 Hg HB HN]
  · isplitl [HS0 HS1 HS2]
    · iexists _, _, _
      isplitr; swap
      · isplitl [HS0]; · iexact HS0
        isplitl [HS1]; · iexact HS1
        iexact HS2
      ipureintro
      intro k hk
      obtain rfl : row t = k := Fin.ext (by have := row_val t; omega)
      exact ⟨rfl, rfl, rfl⟩
    isplitl [Hg]; · iexact Hg
    isplitl [HB]; · iexact HB
    iexact HN
  isplitl [Ho]; · iexact Ho
  isplitl [H0]; · iexact H0
  isplitl [H1]; · iexact H1
  isplitl [H2]; · iexact H2
  isplitl [H3]; · iexact H3
  iexact H4

/-- Hence the body does at every point what the launch asks of it. -/
theorem body_obligation (c : Dev nD) : BodyObligation (dats (F := F) l m be nu hbe 0 c) (defs₀ (F := F)) Variants.none () Set.univ := fun t => by
  rw [bigSep_W0, bigSep_W0]
  exact triple_restated (sound_body l m be nu hbe c t) rfl .rfl fun _ => .rfl

/-! ## The launch -/

/-- The number of rows of each expert, as an argument gives them, -/
abbrev cnt (c : Dev nD) : IVec S32 32 := m ((c.tc : Thread nD τ).loc main_arg1)

/-- and what the launch takes for the tables. -/
abbrev tab (c : Dev nD) : IVec S162 32 := expertOf (ends (cnt m c))
abbrev used (c : Dev nD) : IVec S1 32 := usedOf (ends (cnt m c))
theorem tab_lt (c : Dev nD) : ∀ b, (tab m c b).toNat < 32 := expertOf_lt _

/-- The one core. -/
abbrev c₀ : Dev nD := 0

/-- The launch's data, at the tables the host code makes. -/
abbrev datsM (p : Fin 1) (c : Dev nD) : Dat τ (Elt F) Unit ℕ (UR sig nD τ) ℕ (Pipeline.pin (launches l) (fun _ => adm (F := F) l (tab m c₀) (used m c₀) (tab_lt m c₀)) p) c :=
  dats (F := F) l m (tab m c₀) (used m c₀) (tab_lt m c₀) p c

/-- The tables the host code makes are those. -/
theorem tables_held (c : Dev nD) (k : Fin 2) : V m c (pre0.ref k) = tables (F := F) (tab m c₀) (used m c₀) k := by
  obtain rfl : c = c₀ := Subsingleton.elim _ _
  match k with
  | 0 => exact V_experts m _
  | 1 => exact V_used m _

theorem tables_split (c : Dev nD) :
    bigSepL [(0 : Fin 2), 1] (fun k => ((((c.tc : Thread nD τ).loc (pre0.ref k)) ↦{fullShare.right} tables (F := F) be nu k) : sProp 𝕄))
      ⊢ iprop((((c.tc : Thread nD τ).loc main_v19) ↦{fullShare.right} be) ∗ (((c.tc : Thread nD τ).loc main_v21) ↦{fullShare.right} nu)) := .rfl

/-- What the launch hands the body before the first point, -/
theorem inv_in (c : Dev nD) : iprop(Pipeline.ΦA spec0 c ∗ Pipeline.ΦT pre0 (tables (F := F) be nu) c) ⊢ inv l m be nu hbe c 0 := by
  unfold Pipeline.ΦA Pipeline.ΦT Pipeline.prefHeld inv held
  rw [scopedRest0_eq, bigSep_univ_eq_bigSepL [(0 : Fin 2), 1] (by decide) (by decide)]
  simp only [owns_whole]
  iintro ⟨⟨⟨⟨%f0, H0⟩, ⟨%f1, H1⟩, ⟨%f2, H2⟩⟩, Hg⟩, HT⟩
  ihave HT := tables_split be nu c $$ HT
  icases HT with ⟨HB, HN⟩
  isplitl [H0 H1 H2]
  · iexists f0, f1, f2
    isplitr
    · ipureintro; exact fun k hk => absurd hk (by omega)
    isplitl [H0]; · iexact H0
    isplitl [H1]; · iexact H1
    iexact H2
  isplitl [Hg]; · iexact Hg
  isplitl [HB]; · iexact HB
  iexact HN

/-- and what it takes back after the last. -/
theorem inv_out (c : Dev nD) (n : Nat) : inv l m be nu hbe c n ⊢ Pipeline.ΦA spec0 c := by
  unfold Pipeline.ΦA inv held
  rw [scopedRest0_eq]
  simp only [owns_whole]
  iintro ⟨⟨%s0, %s1, %s2, -, H0, H1, H2⟩, Hg, HB, HN⟩
  isplitr [Hg]
  · isplitl [H0]; · iexists s0; iexact H0
    isplitl [H1]; · iexists s1; iexact H1
    iexists s2; iexact H2
  iexact Hg

set_option backward.isDefEq.respectTransparency.types false in
/-- The program runs; its arrays end as the launch left them, and every semaphore at zero. -/
theorem run_main_quiescent : θ_run (bodies (F := F) l) (onTc (τ := τ) (prog (F := F) l)) (s₀ m ρ)
    (fun r => Pipeline.FramePost (Pipeline.pin (launches l) fun _ => adm (F := F) l (tab m c₀) (used m c₀) (tab_lt m c₀)) (datsM l m) 0 (V m) r ∧ r.2.sem = fun _ => 0) :=
  Pipeline.θ_run_frameP_track (Q' := _) (launches l) (fun _ => adm (F := F) l (tab m c₀) (used m c₀) (tab_lt m c₀)) (datsM l m) (0 : Fin 1) (launch_facts l) defs₀ Variants.none m ρ (prog l)
    (hbody := fun c => (body_obligation l m _ _ _ c).loose) (hshare := fun c => (datsM l m 0 c).share_full fun _ => rfl) (howed := fun _ _ => rfl) (V := V m)
    (hmain := hmain m l Variants.none) (hA := A_eq l m _ _ _) (hpf := tables_held m)
    (hin := fun c => inv_in l m _ _ _ c) (hout := fun c => inv_out l m _ _ _ c _)

/-- No argument is changed, -/
theorem unchanged_of (r) (h : Pipeline.FramePost (Pipeline.pin (launches l) fun _ => adm (F := F) l (tab m c₀) (used m c₀) (tab_lt m c₀)) (datsM l m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have key : ∀ b, b ∈ [main_arg0, main_arg1, main_arg2, main_arg3, main_arg4] → V m c b = m ((c.tc : Thread nD τ).loc b) :=
    fun b hb => V_of_unwritten m c b (unwritten b hb)
  refine ⟨?_, ?_, ?_, ?_, ?_⟩
  · exact ((h c).1 0).trans (((datsM l m 0 c).arrAt_in 0 rfl _).trans ((A_eq l m _ _ _ c 0).trans (key main_arg0 (by decide))))
  · exact ((h c).2 main_arg1 (show main_arg1 ∈ Pipeline.restRefs sig spec0 from Pipeline.mem_restRefs_of main_arg1 (by decide) (by decide))).trans (key main_arg1 (by decide))
  · exact ((h c).1 1).trans (((datsM l m 0 c).arrAt_in 1 rfl _).trans ((A_eq l m _ _ _ c 1).trans (key main_arg2 (by decide))))
  · exact ((h c).1 2).trans (((datsM l m 0 c).arrAt_in 2 rfl _).trans ((A_eq l m _ _ _ c 2).trans (key main_arg3 (by decide))))
  · exact ((h c).1 3).trans (((datsM l m 0 c).arrAt_in 3 rfl _).trans ((A_eq l m _ _ _ c 3).trans (key main_arg4 (by decide))))

/-- The program runs to its end, no argument is changed, and every semaphore is at zero. -/
theorem frame : θ_run (bodies (F := F) l) (onTc (τ := τ) (prog (F := F) l)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run (bodies l) _ _).mono (fun r h => ⟨unchanged_of l m r h.1, h.2⟩) (run_main_quiescent l m ρ)

end Cert.Kernel2Ideal.Experts

end
-- ==== Proof.Experts.SameText.lean ====
/- What every layer's program is proved to do, of its arguments: it runs, and leaves them as they were. The programs as they are
   written, and their ideal copies, are this one text at their layer. -/
module

public import proofs.«01_k».proof.Proof.Experts.Frame
public import Idealize.ShloMosaic.Lib.Ring

@[expose] public section

noncomputable section

namespace Cert.Kernel2Ideal.Experts

open Idealize.ShloMosaic Idealize.ShloMosaic.TcCoe Idealize.ShloMosaic.Tactic Idealize.SL.Sem

/-- The program of a layer runs, ends with its arguments unchanged and every semaphore at zero. -/
abbrev Runs (F : FTy → Type) [FloatOps F] (l : Fin 4) : Prop :=
  ∀ (m : (ℓ : Loc nD τ sig) → Buf (Elt F) ℓ) (g : Dev nD → PrngReg), True →
    θ_run (bodies (F := F) l) (onTc (τ := τ) (prog (F := F) l)) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem runs (F : FTy → Type) [FloatOps F] (l : Fin 4) : Runs F l := fun m g _ => frame l m g

end Cert.Kernel2Ideal.Experts

end
-- ==== Proof.Experts.Spec.lean ====
/- What an expert's layer computes for one row. -/
module

public import Idealize.ShloMosaic.Lib.Pointwise

@[expose] public section

noncomputable section

namespace Cert.Experts

open Idealize.ShloMosaic

/-- The gate's activation: a number by its logistic. -/
def swish (a : EReal) : EReal := a * Ideal.logistic a

/-- A hidden unit's value: the activated gate by the up projection. -/
def hiddenAt (x : Fin 1024 → EReal) (g u : Fin 1024 → Fin 512 → EReal) (f : Fin 512) : EReal :=
  swish (∑ j, x j * g j f) * ∑ j, x j * u j f

/-- The row's result in column `d`. -/
def result (x : Fin 1024 → EReal) (g u : Fin 1024 → Fin 512 → EReal) (w : Fin 512 → Fin 1024 → EReal) (d : Fin 1024) : EReal :=
  ∑ f, hiddenAt x g u f * w f d

end Cert.Experts

end
-- ==== Proof.Experts.Gather.lean ====
/- Blocks of a rank-3 array picked by a column of row numbers. -/
module

public import Idealize.ShloMosaic.Lib.Pointwise

@[expose] public section

noncomputable section

namespace Cert.Experts

open Idealize.ShloMosaic

section
variable {α : Type}

/-- Dimension numbers of the operation that takes, for every row of a column of numbers, the operand's block of that number. -/
abbrev blockDims (N P Q R : Nat)
    (wf : GatherDims.WF ⟨3, ![N, P, Q]⟩ ⟨2, ![R, 1]⟩ ⟨3, ![R, P, Q]⟩ [1, 2] [0] [] [0] [] 1 ![1, P, Q]) :
    GatherDims ⟨3, ![N, P, Q]⟩ ⟨2, ![R, 1]⟩ ⟨3, ![R, P, Q]⟩ where
  offsetDims := [1, 2]
  collapsedSliceDims := [0]
  operandBatchingDims := []
  startIndicesBatchingDims := []
  startIndexMap := [0]
  indexVectorDim := 1
  sliceSizes := ![1, P, Q]
  wf := wf

/-- Entry (k, p, q) is the operand's entry (p, q) of block `e`, where `e` is the k-th number, if it is a block's. -/
theorem blocks_apply {N P Q R : Nat}
    (wf : GatherDims.WF ⟨3, ![N, P, Q]⟩ ⟨2, ![R, 1]⟩ ⟨3, ![R, P, Q]⟩ [1, 2] [0] [] [0] [] 1 ![1, P, Q])
    (x : (⟨3, ![N, P, Q]⟩ : Shape).Idx → α) (idx : IVec ⟨2, ![R, 1]⟩ 32) (k : Fin R) (p : Fin P) (q : Fin Q) (e : Fin N)
    (he : (idx (ix2 k 0)).toInt.toNat = e.val) :
    Host.gather (blockDims N P Q R wf) x idx (ix3 k p q) = x (ix3 e p q) := by
  unfold Host.gather
  congr 1
  funext a
  refine Fin.ext ?_
  show (blockDims N P Q R wf).start (ix3 k p q) idx a + (blockDims N P Q R wf).batchCoord (ix3 k p q) a
      + (blockDims N P Q R wf).offCoord (ix3 k p q) a = _
  rw [GatherDims.batchCoord_eq_zero _ _ _ List.not_mem_nil, Nat.add_zero]
  have h012 : a = (0 : Fin 3) ∨ a = (1 : Fin 3) ∨ a = (2 : Fin 3) := by
    match a with
    | ⟨0, _⟩ => exact .inl rfl
    | ⟨1, _⟩ => exact .inr (.inl rfl)
    | ⟨2, _⟩ => exact .inr (.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (blockDims N P Q R wf).startIndexMap from List.mem_singleton.mpr rfl)]
    have hsi : (blockDims N P Q R wf).siIdx (ix3 k p q) ⟨List.idxOf (0 : Fin 3) (blockDims N P Q R wf).startIndexMap,
        List.idxOf_lt_length_iff.2 (List.mem_singleton.mpr rfl)⟩ = ix2 k 0 := by
      funext b; refine Fin.ext ?_
      match b with
      | ⟨0, _⟩ => rfl
      | ⟨1, _⟩ => rfl
    rw [hsi, he]
    show min e.val (N - 1) = e.val
    omega
  · unfold GatherDims.start GatherDims.offCoord
    rw [dif_neg (show (1 : Fin 3) ∉ (blockDims N P Q R wf).startIndexMap from (by decide : _ ∉ [(0 : Fin 3)])),
      dif_pos ((GatherDims.mem_sKept _ _).mpr ⟨show (1 : Fin 3) ∉ [(0 : Fin 3)] from by decide, List.not_mem_nil⟩), Nat.zero_add]
    rfl
  · unfold GatherDims.start GatherDims.offCoord
    rw [dif_neg (show (2 : Fin 3) ∉ (blockDims N P Q R wf).startIndexMap from (by decide : _ ∉ [(0 : Fin 3)])),
      dif_pos ((GatherDims.mem_sKept _ _).mpr ⟨show (2 : Fin 3) ∉ [(0 : Fin 3)] from by decide, List.not_mem_nil⟩), Nat.zero_add]
    rfl

end

end Cert.Experts

end
-- ==== Proof.Experts.Stages.lean ====
/- The experts' reference as stages, each a function of whole arrays read at an index. -/
module

public import proofs.«01_k».proof.Proof.Gen.Reference2Ideal.Run
public import proofs.«01_k».proof.Proof.Experts.Spec
public import proofs.«01_k».proof.Proof.Experts.Gather
public import Idealize.ShloMosaic.Lib.Ring

@[expose] public section

set_option maxRecDepth 16384

noncomputable section

namespace Cert.Reference2Ideal.Experts

open Idealize.ShloMosaic Idealize.ShloMosaic.TcCoe
open Cert.Reference2Ideal Cert.Reference2Ideal.Gen Cert.Experts

/-- The experts of the blocks as a column of row numbers, a negative one counted from the end. -/
def column (be : IVec S162 32) : IVec S162x1 32 :=
  broadcastInDim S162x1 ![0] bcast_S162_S162x1_0
    (select (cmpi .slt be (broadcastInDim S162 ![] bcast_S_S162 (constantI S_ 32 0#32)))
      (addi be (broadcastInDim S162 ![] bcast_S_S162 (constantI S_ 32 32#32))) be)

/-- A layer lies within the weights. -/
theorem slices (l : Fin 4) : S4x32x1024x512.Slices ![l.val, 0, 0, 0] S1x32x1024x512 := by revert l; decide
theorem slices' (l : Fin 4) : S4x32x512x1024.Slices ![l.val, 0, 0, 0] S1x32x512x1024 := by revert l; decide

/-- A layer of the weights. -/
def layer (l : Fin 4) (A : FVec Ideal S4x32x1024x512 .f32) : FVec Ideal S32x1024x512 .f32 :=
  shapeCast _ (extractStridedSlice S1x32x1024x512 ![l.val, 0, 0, 0] A (slices l))
    shapeCasts_S1x32x1024x512_S32x1024x512
def layer' (l : Fin 4) (A : FVec Ideal S4x32x512x1024 .f32) : FVec Ideal S32x512x1024 .f32 :=
  shapeCast _ (extractStridedSlice S1x32x512x1024 ![l.val, 0, 0, 0] A (slices' l))
    shapeCasts_S1x32x512x1024_S32x512x1024

/-- The weights of every block's expert. -/
def pick (A : FVec Ideal S32x1024x512 .f32) (ix : IVec S162x1 32) : FVec Ideal S162x1024x512 .f32 :=
  Host.gather gather_S32x1024x512_S162x1_S162x1024x512_12_0_n_n_0_1_11024512 A ix
def pick' (A : FVec Ideal S32x512x1024 .f32) (ix : IVec S162x1 32) : FVec Ideal S162x512x1024 .f32 :=
  Host.gather gather_S32x512x1024_S162x1_S162x512x1024_12_0_n_n_0_1_15121024 A ix

/-- Rows by weights, block by block. -/
def proj (X : FVec Ideal S82944x1024 .f32) (w : FVec Ideal S162x1024x512 .f32) : FVec Ideal S162x512x512 .f32 :=
  Host.dotGeneral dot_S162x512x1024_S162x1024x512_S162x512x512_2_1_1_2_0_0 none (shapeCast _ X shapeCasts_S82944x1024_S162x512x1024) w

/-- The gate's activation. -/
def act (a : FVec Ideal S162x512x512 .f32) : FVec Ideal S162x512x512 .f32 :=
  mulf a (Host.divf (broadcastInDim S162x512x512 ![] bcast_S_S162x512x512 (constant S_ .f32 0x3F800000#32))
    (addf (broadcastInDim S162x512x512 ![] bcast_S_S162x512x512 (constant S_ .f32 0x3F800000#32)) (Host.exp (Host.negf a))))

/-- Back to the layer's width. -/
def back (h : FVec Ideal S162x512x512 .f32) (w : FVec Ideal S162x512x1024 .f32) : FVec Ideal S162x512x1024 .f32 :=
  Host.dotGeneral dot_S162x512x512_S162x512x1024_S162x512x1024_2_1_1_2_0_0 none h w

/-- Blocks not in use are zero; the blocks one below the other. -/
def masked (nu : IVec S1 32) (y : FVec Ideal S162x512x1024 .f32) : FVec Ideal S82944x1024 .f32 :=
  shapeCast _ (select (broadcastInDim S162x512x1024 ![0, 1, 2] bcast_S162x1x1_S162x512x1024_0_1_2
      (broadcastInDim S162x1x1 ![0] bcast_S162_S162x1x1_0 (cmpi .slt (iotaInDim S162 32 0) (broadcastInDim S162 ![0] bcast_S1_S162_0 nu))))
    y (broadcastInDim S162x512x1024 ![] bcast_S_S162x512x1024 (id (constant S_ .f32 0x00000000#32)))) shapeCasts_S162x512x1024_S82944x1024

theorem layer_apply (l : Fin 4) (A) (e : Fin 32) (j : Fin 1024) (f : Fin 512) : layer l A (ix3 e j f) = A (ix4 l e j f) := by
  unfold layer
  pointwise
theorem layer'_apply (l : Fin 4) (A) (e : Fin 32) (f : Fin 512) (d : Fin 1024) : layer' l A (ix3 e f d) = A (ix4 l e f d) := by
  unfold layer'
  pointwise

theorem column_apply (be : IVec S162 32) (k : Fin 162) (h : (be (ix1 k)).toNat < 32) : column be (ix2 k 0) = be (ix1 k) := by
  unfold column
  pointwise
  generalize be (ix1 k) = x at h
  have hn : x.slt 0#32 = false := by
    simp only [BitVec.slt, BitVec.toInt_eq_toNat_of_lt (show 2 * x.toNat < 2 ^ 32 by omega), BitVec.toInt_zero, decide_eq_false_iff_not]
    omega
  show Scalar.select (BitVec.ofBool (x.slt 0#32)) _ _ = x
  rw [hn]
  rfl

theorem pick_apply (A) (ix : IVec S162x1 32) (k : Fin 162) (j : Fin 1024) (f : Fin 512) (e : Fin 32)
    (h : (ix (ix2 k 0)).toInt.toNat = e.val) : pick A ix (ix3 k j f) = A (ix3 e j f) :=
  blocks_apply gather_S32x1024x512_S162x1_S162x1024x512_12_0_n_n_0_1_11024512.wf A ix k j f e h

theorem pick'_apply (A) (ix : IVec S162x1 32) (k : Fin 162) (f : Fin 512) (d : Fin 1024) (e : Fin 32)
    (h : (ix (ix2 k 0)).toInt.toNat = e.val) : pick' A ix (ix3 k f d) = A (ix3 e f d) :=
  blocks_apply gather_S32x512x1024_S162x1_S162x512x1024_12_0_n_n_0_1_15121024.wf A ix k f d e h

theorem proj_apply (X w) (k : Fin 162) (r : Fin 512) (f : Fin 512) :
    proj X w (ix3 k r f) = ∑ j : Fin 1024, X (ix2 ⟨k.val * 512 + r.val, by omega⟩ j) * w (ix3 k j f) := by
  unfold proj
  pointwise

theorem act_apply (a) (k : Fin 162) (r : Fin 512) (f : Fin 512) : act a (ix3 k r f) = swish (a (ix3 k r f)) := by
  unfold act swish Ideal.logistic
  pointwise

theorem back_apply (h w) (k : Fin 162) (r : Fin 512) (d : Fin 1024) :
    back h w (ix3 k r d) = ∑ f : Fin 512, h (ix3 k r f) * w (ix3 k f d) := by
  unfold back
  pointwise

theorem masked_apply (nu y) (k : Fin 162) (r : Fin 512) (d : Fin 1024) :
    masked nu y (ix2 ⟨k.val * 512 + r.val, by omega⟩ d)
      = if (BitVec.ofNat 32 k.val).slt (nu (ix1 0)) = true then y (ix3 k r d) else (0 : EReal) := by
  unfold masked
  pointwise
  show Scalar.select (BitVec.ofBool ((BitVec.ofNat 32 k.val).slt (nu (ix1 0)))) _ (Ideal.ofBits .f32 0#32) = _
  cases (BitVec.ofNat 32 k.val).slt (nu (ix1 0))
  · exact Ideal.ofBits_zero_f32
  · rfl

end Cert.Reference2Ideal.Experts

end
-- ==== Proof.Experts.Value.lean ====
/- What the experts' kernel writes: at every point the rows of its expert's layer, or zeros past the blocks in use. -/
module

public import proofs.«01_k».proof.Proof.Experts.Frame
public import proofs.«01_k».proof.Proof.Experts.Spec
public import Idealize.ShloMosaic.Lib.Ring

@[expose] public section

set_option maxRecDepth 16384

noncomputable section

namespace Cert.Kernel2Ideal.Experts

open Idealize.ShloMosaic Idealize.ShloMosaic.TcCoe
open Idealize.ShloMosaic.Pipeline (Dat)
open Cert.Kernel2Ideal.Gen Cert.Experts

theorem pay1_apply (w : Vec Ideal S1x1x1024x512 .f32) (j : Fin 1024) (f : Fin 512) : k0_pay1 w (ix2 j f) = w (ix4 0 0 j f) := by
  unfold k0_pay1
  pointwise
theorem pay2_apply (w : Vec Ideal S1x1x1024x512 .f32) (j : Fin 1024) (f : Fin 512) : k0_pay2 w (ix2 j f) = w (ix4 0 0 j f) := by
  unfold k0_pay2
  pointwise
theorem pay3_apply (w : Vec Ideal S1x1x512x1024 .f32) (f : Fin 512) (d : Fin 1024) : k0_pay3 w (ix2 f d) = w (ix4 0 0 f d) := by
  unfold k0_pay3
  pointwise

theorem pay4_apply (x : Vec Ideal S512x1024 .f32) (g u : Vec Ideal S1024x512 .bf16) (w : Vec Ideal S512x1024 .bf16) (r : Fin 512) (d : Fin 1024) :
    k0_pay4 x g u w (ix2 r d)
      = result (fun j => x (ix2 r j)) (fun j f => g (ix2 j f)) (fun j f => u (ix2 j f)) (fun f d => w (ix2 f d)) d := by
  unfold k0_pay4 result hiddenAt swish
  pointwise

theorem pay5_apply (r : Fin 512) (d : Fin 1024) : (k0_pay5 : FVec Ideal S512x1024 .f32) (ix2 r d) = (0 : EReal) := by
  unfold k0_pay5
  pointwise

/-- What the rows of point `t` are to be, in terms of the launch's arguments. -/
def layerAt (l : Fin 4) (X : Vec Ideal S82944x1024 .f32) (be : IVec S162 32) (nu : IVec S1 32) (G U : Vec Ideal S4x32x1024x512 .f32)
    (W : Vec Ideal S4x32x512x1024 .f32) (hbe : ∀ b, (be b).toNat < 32) (k : Fin 162) (r : Fin 512) (d : Fin 1024) : EReal :=
  if (BitVec.ofNat 32 k.val).slt (nu (ix1 0)) = true then
    result (fun j => X (ix2 ⟨k.val * 512 + r.val, by omega⟩ j)) (fun j f => G (ix4 l ⟨(be (ix1 k)).toNat, hbe _⟩ j f))
      (fun j f => U (ix4 l ⟨(be (ix1 k)).toNat, hbe _⟩ j f)) (fun f d => W (ix4 l ⟨(be (ix1 k)).toNat, hbe _⟩ f d)) d
  else 0

theorem at1_eq {n : Nat} (k : Fin n) : at1 k = ix1 k := (eq_at1 (ix1 k) k rfl).symm

variable (l : Fin 4) (m : (ℓ : Loc nD τ sig) → Buf (Elt Ideal) ℓ) (be : IVec S162 32) (nu : IVec S1 32) (hbe : ∀ b, (be b).toNat < 32)

theorem outAt_apply (c : Dev nD) (t : Fin grid0.N) (r : Fin 512) (d : Fin 1024) :
    outAt l m be nu hbe c t (ix2 r d)
      = layerAt l (V m c main_arg0) be nu (V m c main_arg2) (V m c main_arg3) (V m c main_arg4) hbe (row t) r d := by
  unfold outAt rowsOut layerAt
  simp only [cond2_iff]
  rw [at1_eq]
  show (if (BitVec.ofNat 32 (row t).val).slt (nu (ix1 0)) = true then _ else _ : Vec Ideal S512x1024 .f32) (ix2 r d) = _
  split_ifs with h
  · rw [pay4_apply]
    unfold gate up down rowsIn
    simp only [pay1_apply, pay2_apply, pay3_apply, rowsAt, weightAt, weightAt', at1_eq, xBlk_used _ _ h]
    rfl
  · exact pay5_apply r d

/-- Every point writes its block back, -/
theorem flush4 (t : Fin grid0.N) : ((cfgT (F := Ideal) l be nu hbe).win 4).flush t = true := by
  unfold Pipeline.Window.flush
  rw [Bool.and_eq_true, Bool.or_eq_true, decide_eq_true_eq, decide_eq_true_eq]
  refine ⟨rfl, ?_⟩
  by_cases hN : t.val + 1 = grid0.N
  · exact .inl hN
  · refine .inr ⟨lt_of_le_of_ne t.isLt hN, fun h => ?_⟩
    have h' := congrFun ((idx4 (F := Ideal) l be nu hbe _).symm.trans (h.trans (idx4 (F := Ideal) l be nu hbe t))) (0 : Fin 2)
    have e : (row ⟨t.val + 1, lt_of_le_of_ne t.isLt hN⟩).val = (row t).val := h'
    rw [row_val, row_val] at e
    exact absurd e (Nat.succ_ne_self _)

/-- and the blocks are the whole array. -/
theorem covers4 : ((cfgT (F := Ideal) l be nu hbe).win 4).Covers := by
  refine ⟨fun a => ?_, fun β => ?_⟩
  · match a with
    | ⟨0, _⟩ => exact (by decide : 0 < 512)
    | ⟨1, _⟩ => exact (by decide : 0 < 1024)
  · have h0 : (β (0 : Fin 2)).val < 162 := (β (0 : Fin 2)).isLt.trans_eq (show (82944 + 512 - 1) / 512 = 162 from rfl)
    have h1 : (β (1 : Fin 2)).val < 1 := (β (1 : Fin 2)).isLt.trans_eq (show (1024 + 1024 - 1) / 1024 = 1 from rfl)
    let t : Fin grid0.N := ⟨(β (0 : Fin 2)).val, h0.trans_eq N_0.symm⟩
    have ht : (row t).val = (β (0 : Fin 2)).val := row_val t
    refine ⟨t, flush4 l be nu hbe t, fun a => ⟨?_, .inl ?_⟩⟩
    · refine (congrFun (idx4 (F := Ideal) l be nu hbe t) a).trans ?_
      match a with
      | ⟨0, _⟩ => exact ht
      | ⟨1, _⟩ => exact (Nat.lt_one_iff.mp h1).symm
    · rfl

/-- The kernel's result array is `Y` if every point's rows are `Y`'s at the point's block. -/
theorem array_eq (c : Dev nD) (Y : Vec Ideal S82944x1024 .f32)
    (hY : ∀ (k : Fin 162) (r : Fin 512) (d : Fin 1024),
      layerAt l (V m c main_arg0) be nu (V m c main_arg2) (V m c main_arg3) (V m c main_arg4) hbe k r d
        = Y (ix2 ⟨k.val * 512 + r.val, by omega⟩ d)) :
    (dats l m be nu hbe 0 c).arrAt 4 grid0.N = Y := by
  refine (dats l m be nu hbe 0 c).arrAt_eq_of_covers 4 _ (covers4 l be nu hbe) fun t hf (y : S512x1024.Idx) => ?_
  blk_simp
  rw [after4]
  obtain ⟨r, d, rfl⟩ : ∃ (r : Fin 512) (d : Fin 1024), y = ix2 r d := ⟨y 0, y 1, eq_ix2 y⟩
  rw [outAt_apply, hY]
  blk_ext [idx4 l be nu hbe t]

end Cert.Kernel2Ideal.Experts

end
-- ==== Proof.Experts.Reference.lean ====
/- What the experts' reference computes, entry by entry. -/
module

public import proofs.«01_k».proof.Proof.Experts.Stages
public import proofs.«01_k».proof.Proof.Experts.Value
public import Idealize.ShloMosaic.Lib.Ring

@[expose] public section

set_option maxRecDepth 16384

noncomputable section

namespace Cert.Reference2Ideal.Experts

open Idealize.ShloMosaic Idealize.ShloMosaic.TcCoe
open Cert.Reference2Ideal Cert.Reference2Ideal.Gen Cert.Experts
open Cert.Kernel2Ideal.Experts (ends expertOf usedOf expertOf_lt layerAt)

/-- A layer's reference's result, of the rows, the tables and the weights. -/
def experts (l : Fin 4) (X : FVec Ideal S82944x1024 .f32) (be : IVec S162 32) (nu : IVec S1 32) (G U : FVec Ideal S4x32x1024x512 .f32)
    (W : FVec Ideal S4x32x512x1024 .f32) : FVec Ideal S82944x1024 .f32 :=
  masked nu (back (mulf (act (proj X (pick (layer l G) (column be)))) (proj X (pick (layer l U) (column be)))) (pick' (layer' l W) (column be)))

theorem experts_apply (l : Fin 4) (X be nu G U W) (hbe : ∀ b, (be b).toNat < 32) (k : Fin 162) (r : Fin 512) (d : Fin 1024) :
    experts l X be nu G U W (ix2 ⟨k.val * 512 + r.val, by omega⟩ d) = layerAt l X be nu G U W hbe k r d := by
  have hk := hbe (ix1 k)
  have hi : (column be (ix2 k 0)).toInt.toNat = (⟨(be (ix1 k)).toNat, hk⟩ : Fin 32).val := by
    rw [column_apply be k hk, BitVec.toInt_eq_toNat_of_lt (show 2 * (be (ix1 k)).toNat < 2 ^ 32 by omega)]
    rfl
  have hw : ∀ (A : FVec Ideal S4x32x1024x512 .f32) (j : Fin 1024) (f : Fin 512),
      pick (layer l A) (column be) (ix3 k j f) = A (ix4 l ⟨(be (ix1 k)).toNat, hk⟩ j f) :=
    fun A j f => (pick_apply _ _ k j f _ hi).trans (layer_apply l A _ j f)
  unfold experts layerAt
  rw [masked_apply]
  split_ifs with h
  · rw [back_apply]
    unfold result hiddenAt
    refine Finset.sum_congr rfl fun f _ => ?_
    rw [pick'_apply _ _ k f d _ hi, layer'_apply]
    refine congrArg (fun z : EReal => z * _) ?_
    show (act _ (ix3 k r f) : EReal) * proj _ _ (ix3 k r f) = _
    rw [act_apply, proj_apply, proj_apply]
    simp only [hw]
  · rfl

/-- The reference's result, of its arguments: the tables are those the counts make. -/
def rows (l : Fin 4) (X : FVec Ideal S82944x1024 .f32) (n : IVec S32 32) (G U : FVec Ideal S4x32x1024x512 .f32)
    (W : FVec Ideal S4x32x512x1024 .f32) : FVec Ideal S82944x1024 .f32 :=
  experts l X (expertOf (ends n)) (usedOf (ends n)) G U W

/-- Equal arguments have equal results. -/
theorem rows_congr (l : Fin 4) {X X' : FVec Ideal S82944x1024 .f32} {n n' : IVec S32 32} {G G' U U' : FVec Ideal S4x32x1024x512 .f32}
    {W W' : FVec Ideal S4x32x512x1024 .f32} (h : X' = X ∧ n' = n ∧ G' = G ∧ U' = U ∧ W' = W) :
    rows l X' n' G' U' W' = rows l X n G U W := by
  obtain ⟨rfl, rfl, rfl, rfl, rfl⟩ := h
  rfl

end Cert.Reference2Ideal.Experts

end
-- ==== Proof.Experts.Equation.lean ====
/- The experts' kernel of a layer leaves the rows the layer's reference computes. -/
module

public import proofs.«01_k».proof.Proof.Experts.Reference

@[expose] public section

set_option maxRecDepth 16384

noncomputable section

namespace Cert.Kernel2Ideal.Experts

open Idealize.ShloMosaic Idealize.ShloMosaic.TcCoe Idealize.SL.Sem
open Cert.Kernel2Ideal.Gen

variable (l : Fin 4) (m : (ℓ : Loc nD τ sig) → Buf (Elt Ideal) ℓ)

/-- The experts' rows of the launch's arguments, at a layer. -/
def layerArr (c : Dev nD) : Vec Ideal S82944x1024 .f32 :=
  Cert.Reference2Ideal.Experts.rows l (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

/-- The launch's result array is that. -/
theorem array_layer (c : Dev nD) : (datsM l m 0 c).arrAt 4 grid0.N = layerArr l m c := by
  obtain rfl : c = c₀ := Subsingleton.elim _ _
  refine array_eq l m (tab m c₀) (used m c₀) (tab_lt m c₀) c₀ _ fun k r d => ?_
  have key : ∀ b, b ∈ [main_arg0, main_arg1, main_arg2, main_arg3, main_arg4] → V m c₀ b = m ((c₀.tc : Thread nD τ).loc b) :=
    fun b hb => V_of_unwritten m c₀ b (unwritten b hb)
  rw [key main_arg0 (by decide), key main_arg2 (by decide), key main_arg3 (by decide), key main_arg4 (by decide)]
  exact (Cert.Reference2Ideal.Experts.experts_apply l _ _ _ _ _ _ (tab_lt m c₀) k r d).symm

/-- A layer's run leaves the experts' rows in its result array, and its arguments unchanged. -/
abbrev Leaves (g : Dev nD → PrngReg) : Prop :=
  θ_run (bodies (F := Ideal) l) (onTc (τ := τ) (prog (F := Ideal) l)) ⟨m, fun _ => 0, g⟩
    (fun r => ∀ c : Dev nD, r.2.mem ((c.tc : Thread nD τ).loc main_v22) = layerArr l m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))

theorem leaves (g : Dev nD → PrngReg) : Leaves l m g :=
  (θ_run (bodies l) _ _).mono (fun r h c => ⟨((h.1 c).1 4).trans (array_layer l m c), unchanged_of l m r h.1 c⟩)
    (run_main_quiescent l m g)

end Cert.Kernel2Ideal.Experts

end
-- ==== Proof.Proj.Point.lean ====
/- What one point of the projections' kernel leaves in its three blocks. -/
module

public import proofs.«01_k».proof.Proof.Proj.Spec
public import proofs.«01_k».proof.Proof.Gen.Kernel6Ideal.Value
public import Idealize.ShloMosaic.Lib.Ring

@[expose] public section

set_option maxRecDepth 16384

noncomputable section

namespace Cert.Kernel6Ideal.Proj

open Idealize.ShloMosaic Idealize.ShloMosaic.TcCoe
open Cert.Kernel6Ideal.Gen Cert.Proj

/-- The queries' scale. -/
def scale : EReal := (((1 / 8) * (Real.log 2)⁻¹ : ℝ) : EReal)

/-- The kernel's constant is the scale. -/
theorem scale_eq : Named.named (F := Ideal) κ "q_scale" (φ := .f32) 0x3E38AA3B#32 = scale :=
  IdealRules.named_const.ideal_named_scalar _ _ _ _ rfl

theorem pay2_apply (x : Vec Ideal S512x1024 .f32) (g : Vec Ideal S1x1024 .f32) (sc sh : Vec Ideal S1x1x1024 .f32) (r : Fin 512) (j : Fin 1024) :
    k0_pay2 x g sc sh (ix2 r j)
      = normed (fun j => x (ix2 r j)) (fun j => g (ix2 0 j)) (fun j => sc (ix3 0 0 j)) (fun j => sh (ix3 0 0 j)) j := by
  unfold k0_pay2 normed
  pointwise

theorem pay4_apply (h : FVec Ideal S512x1024 .bf16) (w : Vec Ideal S1024x256 .bf16) (a : Fin 256) (r : Fin 512) :
    k0_pay4 h w (ix2 a r) = (∑ j, h (ix2 r j) * w (ix2 j a) : EReal) * scale := by
  unfold k0_pay4
  pointwise
  rw [scale_eq]

theorem pay7_apply (h : FVec Ideal S512x1024 .bf16) (w : Vec Ideal S1024x256 .bf16) (r : Fin 512) (a : Fin 256) :
    k0_pay7 h w (ix2 r a) = (∑ j, h (ix2 r j) * w (ix2 j a) : EReal) := by
  unfold k0_pay7
  pointwise

theorem pay11_apply (h : FVec Ideal S512x1024 .bf16) (w : Vec Ideal S1024x256 .bf16) (a : Fin 256) (r : Fin 512) :
    k0_pay11 h w (ix2 a r) = (∑ j, h (ix2 r j) * w (ix2 j a) : EReal) := by
  unfold k0_pay11
  pointwise

/-- A block of 256 of the weights' columns. -/
theorem cols_apply (w : Vec Ideal S1024x3072 .bf16) (o : Nat) (inb : ∀ a, ![0, o] a + S1024x256.size a ≤ S1024x3072.size a)
    (j : Fin 1024) (a : Fin 256) (e : Fin 3072) (he : e.val = o + a.val) :
    View.ld w (Rect.unit (s := S1024x3072) ![0, o] S1024x256.size inb) (ix2 j a) = w (ix2 j e) := by
  refine congrArg w (funext fun d => Fin.ext ?_)
  match d with
  | ⟨0, _⟩ => show 0 + 1 * j.val = j.val; omega
  | ⟨1, _⟩ => show o + 1 * a.val = e.val; omega

/-- The rows' products with a column of the weights. -/
def prod (h : FVec Ideal S512x1024 .bf16) (w : Vec Ideal S1024x3072 .bf16) (r : Fin 512) (e : Fin 3072) : EReal :=
  ∑ j, h (ix2 r j) * w (ix2 j e)

/-- The queries' block. -/
def qBlk (h : FVec Ideal S512x1024 .bf16) (w : Vec Ideal S1024x3072 .bf16) : Vec Ideal S1024x512 .bf16 :=
  fun y => prod h w (y 1) ⟨(y 0).val, by have := (y 0).isLt; exact this.trans (by decide)⟩ * scale

/-- The keys' block. -/
def kBlk (h : FVec Ideal S512x1024 .bf16) (w : Vec Ideal S1024x3072 .bf16) : Vec Ideal S512x1024 .bf16 :=
  fun y => prod h w (y 0) ⟨1024 + (y 1).val, by have : (y 1).val < 1024 := (y 1).isLt; omega⟩

/-- The values' block. -/
def vBlk (h : FVec Ideal S512x1024 .bf16) (w : Vec Ideal S1024x3072 .bf16) : Vec Ideal S1024x512 .bf16 :=
  fun y => prod h w (y 1) ⟨2048 + (y 0).val, by have : (y 0).val < 1024 := (y 0).isLt; omega⟩

/-- Every store of 256 query rows is a part of the queries' block, -/
theorem q_piece (h : FVec Ideal S512x1024 .bf16) (w : Vec Ideal S1024x3072 .bf16) (o : Nat)
    (inb : ∀ a, ![o, 0] a + S256x512.size a ≤ S1024x512.size a) (inb' : ∀ a, ![0, o] a + S1024x256.size a ≤ S1024x3072.size a) (x : S256x512.Idx) :
    k0_pay4 h (View.ld w (Rect.unit (s := S1024x3072) ![0, o] S1024x256.size inb')) x
      = qBlk h w ((Rect.unit (s := S1024x512) ![o, 0] S256x512.size inb).emb x) := by
  obtain ⟨a, r, rfl⟩ : ∃ (a : Fin 256) (r : Fin 512), x = ix2 a r := ⟨x 0, x 1, eq_ix2 x⟩
  refine (pay4_apply h _ a r).trans ?_
  unfold qBlk prod
  refine congrArg (fun z : EReal => z * scale) (Finset.sum_congr rfl fun j _ => ?_)
  refine congrArg₂ (fun p q : EReal => p * q) (congrArg (fun r => h (ix2 r j)) (Fin.ext ?_)) (cols_apply w o inb' j a _ ?_)
  · show r.val = 0 + 1 * r.val
    omega
  · show o + 1 * a.val = o + a.val
    omega

/-- every store of 256 key columns a part of the keys', -/
theorem k_piece (h : FVec Ideal S512x1024 .bf16) (w : Vec Ideal S1024x3072 .bf16) (o o' : Nat) (ho : o' = 1024 + o)
    (inb : ∀ a, ![0, o] a + S512x256.size a ≤ S512x1024.size a) (inb' : ∀ a, ![0, o'] a + S1024x256.size a ≤ S1024x3072.size a) (x : S512x256.Idx) :
    k0_pay7 h (View.ld w (Rect.unit (s := S1024x3072) ![0, o'] S1024x256.size inb')) x
      = kBlk h w ((Rect.unit (s := S512x1024) ![0, o] S512x256.size inb).emb x) := by
  obtain ⟨r, a, rfl⟩ : ∃ (r : Fin 512) (a : Fin 256), x = ix2 r a := ⟨x 0, x 1, eq_ix2 x⟩
  refine (pay7_apply h _ r a).trans ?_
  unfold kBlk prod
  refine Finset.sum_congr rfl fun j _ => ?_
  refine congrArg₂ (fun p q : EReal => p * q) (congrArg (fun r => h (ix2 r j)) (Fin.ext ?_)) (cols_apply w o' inb' j a _ ?_)
  · show r.val = 0 + 1 * r.val
    omega
  · show 1024 + (o + 1 * a.val) = o' + a.val
    omega

/-- and every store of 256 value rows a part of the values'. -/
theorem v_piece (h : FVec Ideal S512x1024 .bf16) (w : Vec Ideal S1024x3072 .bf16) (o o' : Nat) (ho : o' = 2048 + o)
    (inb : ∀ a, ![o, 0] a + S256x512.size a ≤ S1024x512.size a) (inb' : ∀ a, ![0, o'] a + S1024x256.size a ≤ S1024x3072.size a) (x : S256x512.Idx) :
    k0_pay11 h (View.ld w (Rect.unit (s := S1024x3072) ![0, o'] S1024x256.size inb')) x
      = vBlk h w ((Rect.unit (s := S1024x512) ![o, 0] S256x512.size inb).emb x) := by
  obtain ⟨a, r, rfl⟩ : ∃ (a : Fin 256) (r : Fin 512), x = ix2 a r := ⟨x 0, x 1, eq_ix2 x⟩
  refine (pay11_apply h _ a r).trans ?_
  unfold vBlk prod
  refine Finset.sum_congr rfl fun j _ => ?_
  refine congrArg₂ (fun p q : EReal => p * q) (congrArg (fun r => h (ix2 r j)) (Fin.ext ?_)) (cols_apply w o' inb' j a _ ?_)
  · show r.val = 0 + 1 * r.val
    omega
  · show 2048 + (o + 1 * a.val) = o' + a.val
    omega

variable (x0 : Vec Ideal S512x1024 .f32) (x1 : Vec Ideal S1x1024 .f32) (x2 x3 : Vec Ideal S1x1x1024 .f32) (x4 : Vec Ideal S1024x3072 .bf16)
  (x5 x6 : Vec Ideal S512x128 .f32)

theorem rows_eq : k0_pay14 x0 x1 x2 x3 x4 x5 x6 = k0_pay2 x0 x1 x2 x3 := by
  unfold k0_pay14
  rw [View.ld_unit_zero (by decide), View.ld_unit_zero (by decide), View.ld_unit_zero (by decide), View.ld_unit_zero (by decide)]

theorem out7_eq : out0_7 x0 x1 x2 x3 x4 x5 x6 = qBlk (k0_pay2 x0 x1 x2 x3) x4 := by
  rw [← rows_eq x0 x1 x2 x3 x4 x5 x6]
  funext y
  refine View.canon_apply_of_pieces (qBlk (k0_pay14 x0 x1 x2 x3 x4 x5 x6) x4) _ (fun p hp x => ?_) y (cover0_7 _ _ _ _ y)
  simp only [List.mem_cons, List.not_mem_nil, or_false] at hp
  rcases hp with rfl | rfl | rfl | rfl
  · exact q_piece _ x4 768 inb_S1024x512_S256x512_768_0 _ x
  · exact q_piece _ x4 512 inb_S1024x512_S256x512_512_0 _ x
  · exact q_piece _ x4 256 inb_S1024x512_S256x512_256_0 _ x
  · exact q_piece _ x4 0 inb_S1024x512_S256x512_0_0 _ x

theorem out8_eq : out0_8 x0 x1 x2 x3 x4 x5 x6 = kBlk (k0_pay2 x0 x1 x2 x3) x4 := by
  rw [← rows_eq x0 x1 x2 x3 x4 x5 x6]
  funext y
  refine View.canon_apply_of_pieces (kBlk (k0_pay14 x0 x1 x2 x3 x4 x5 x6) x4) _ (fun p hp x => ?_) y (cover0_8 _ _ _ _ y)
  simp only [List.mem_cons, List.not_mem_nil, or_false] at hp
  rcases hp with rfl | rfl | rfl | rfl
  · exact k_piece _ x4 768 1792 rfl inb_S512x1024_S512x256_0_768 _ x
  · exact k_piece _ x4 512 1536 rfl inb_S512x1024_S512x256_0_512 _ x
  · exact k_piece _ x4 256 1280 rfl inb_S512x1024_S512x256_0_256 _ x
  · exact k_piece _ x4 0 1024 rfl inb_S512x1024_S512x256_0_0 _ x

theorem out9_eq : out0_9 x0 x1 x2 x3 x4 x5 x6 = vBlk (k0_pay2 x0 x1 x2 x3) x4 := by
  rw [← rows_eq x0 x1 x2 x3 x4 x5 x6]
  funext y
  refine View.canon_apply_of_pieces (vBlk (k0_pay14 x0 x1 x2 x3 x4 x5 x6) x4) _ (fun p hp x => ?_) y (cover0_9 _ _ _ _ y)
  simp only [List.mem_cons, List.not_mem_nil, or_false] at hp
  rcases hp with rfl | rfl | rfl | rfl
  · exact v_piece _ x4 768 2816 rfl inb_S1024x512_S256x512_768_0 _ x
  · exact v_piece _ x4 512 2560 rfl inb_S1024x512_S256x512_512_0 _ x
  · exact v_piece _ x4 256 2304 rfl inb_S1024x512_S256x512_256_0 _ x
  · exact v_piece _ x4 0 2048 rfl inb_S1024x512_S256x512_0_0 _ x

end Cert.Kernel6Ideal.Proj

end
-- ==== Proof.Proj.Value.lean ====
/- The three arrays the projections' kernel leaves: queries, keys and values of every row. A point is a block of 512 rows. -/
module

public import proofs.«01_k».proof.Proof.Proj.Point
public import proofs.«01_k».proof.Proof.Proj.Entry
public import Idealize.ShloMosaic.Lib.Pipeline.ValueKit

@[expose] public section

set_option maxRecDepth 16384

noncomputable section

namespace Cert.Kernel6Ideal.Proj

open Idealize.ShloMosaic Idealize.ShloMosaic.TcCoe
open Idealize.ShloMosaic.Pipeline (Dat)
open Cert.Kernel6Ideal.Gen Cert.Proj

/-- The block of rows of point `t`. -/
def tile (t : Fin cfg0.N) : Fin 65 := grid0.coords t 0
/-- The modulation vector its rows have: their batch's, or the third. -/
def vec (t : Fin cfg0.N) : Fin 8 := if h : (tile t).val < 64 then ⟨(tile t).val / 32, by omega⟩ else 2

theorem idx0 : ∀ t : Fin cfg0.N, win0_0.index t = ![(tile t).val, 0] := by decide +kernel
theorem idx1 : ∀ t : Fin cfg0.N, win0_1.index t = ![0, 0] := by decide +kernel
theorem idx2 : ∀ t : Fin cfg0.N, win0_2.index t = ![8 + (vec t).val, 0, 0] := by decide +kernel
theorem idx3 : ∀ t : Fin cfg0.N, win0_3.index t = ![(vec t).val, 0, 0] := by decide +kernel
theorem idx4 : ∀ t : Fin cfg0.N, win0_4.index t = ![0, 0] := by decide +kernel
theorem idx7 : ∀ t : Fin cfg0.N, win0_7.index t = ![0, (tile t).val] := by decide +kernel
theorem idx8 : ∀ t : Fin cfg0.N, win0_8.index t = ![(tile t).val, 0] := by decide +kernel
theorem idx9 : ∀ t : Fin cfg0.N, win0_9.index t = ![0, (tile t).val] := by decide +kernel

/-- Row `r` of point `t` among all rows. -/
def rowOf (t : Fin cfg0.N) (r : Fin 512) : Fin 33280 := ⟨(tile t).val * 512 + r.val, by omega⟩

theorem vec_latent (t : Fin cfg0.N) (r : Fin 512) (h : (rowOf t r).val < 32768) : (vec t).val = (rowOf t r).val / 16384 := by
  have h' : (tile t).val * 512 + r.val < 32768 := h
  have ht : (tile t).val < 64 := by omega
  unfold vec
  rw [dif_pos ht]
  show (tile t).val / 32 = ((tile t).val * 512 + r.val) / 16384
  omega

theorem vec_context (t : Fin cfg0.N) (r : Fin 512) (h : ¬ (rowOf t r).val < 32768) : (vec t).val = 2 := by
  have h' : ¬ (tile t).val * 512 + r.val < 32768 := h
  unfold vec
  rw [dif_neg (show ¬ (tile t).val < 64 by omega)]
  rfl

variable (m : (ℓ : Loc nD τ sig) → Buf (Elt Ideal) ℓ) (c : Dev nD)

theorem block_rows (t : Fin cfg0.N) (r : Fin 512) (j : Fin 1024) :
    (iblk m c 0 t : Vec Ideal S512x1024 .f32) (ix2 r j) = V m c main_v2 (ix2 (rowOf t r) j) := by
  unfold rowOf
  blk_ext [iblk, idx0 t]

theorem block_gain (t : Fin cfg0.N) (j : Fin 1024) : (iblk m c 1 t : Vec Ideal S1x1024 .f32) (ix2 0 j) = V m c main_v10 (ix2 0 j) := by
  blk_ext [iblk, idx1 t]

theorem block_scale (t : Fin cfg0.N) (j : Fin 1024) :
    (iblk m c 2 t : Vec Ideal S1x1x1024 .f32) (ix3 0 0 j) = V m c main_v8 (ix3 ⟨8 + (vec t).val, by omega⟩ 0 j) := by
  blk_ext [iblk, idx2 t]

theorem block_shift (t : Fin cfg0.N) (j : Fin 1024) :
    (iblk m c 3 t : Vec Ideal S1x1x1024 .f32) (ix3 0 0 j) = V m c main_v8 (ix3 ⟨(vec t).val, by omega⟩ 0 j) := by
  blk_ext [iblk, idx3 t]

theorem block_weights (t : Fin cfg0.N) (j : Fin 1024) (e : Fin 3072) :
    (iblk m c 4 t : Vec Ideal S1024x3072 .bf16) (ix2 j e) = V m c main_v11 (ix2 j e) := by
  blk_ext [iblk, idx4 t]

/-- The projection of row `i` on column `e`, of the launch's arguments. -/
def proj (i : Fin 33280) (e : Fin 3072) : EReal :=
  projAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) i e

/-- The products of a point's rows are the projections of those rows. -/
theorem prod_eq (t : Fin cfg0.N) (r : Fin 512) (e : Fin 3072) :
    prod (k0_pay2 (iblk m c 0 t) (iblk m c 1 t) (iblk m c 2 t) (iblk m c 3 t)) (iblk m c 4 t) r e = proj m c (rowOf t r) e := by
  unfold prod proj projAt
  refine Finset.sum_congr rfl fun j _ => ?_
  refine congrArg₂ (fun p q : EReal => p * q) ((pay2_apply _ _ _ _ r j).trans ?_) ((block_weights m c t j e).trans ?_)
  · have e₀ : (fun j => (iblk m c 0 t : Vec Ideal S512x1024 .f32) (ix2 r j) : Fin 1024 → EReal)
        = rowAt (m ((c.tc : Thread nD τ).loc main_arg0)) (m ((c.tc : Thread nD τ).loc main_arg1)) (rowOf t r) :=
      funext fun j => (block_rows m c t r j).trans ((congrFun (V_rows m c) _).trans (rows_apply _ _ _ _))
    have e₁ : (fun j => (iblk m c 1 t : Vec Ideal S1x1024 .f32) (ix2 0 j) : Fin 1024 → EReal)
        = fun j => (m ((c.tc : Thread nD τ).loc main_arg4) : Vec Ideal S1024 .f32) (ix1 j) :=
      funext fun j => (block_gain m c t j).trans ((congrFun (V_gain m c) _).trans (gain_apply _ _))
    have e₂ : (fun j => (iblk m c 2 t : Vec Ideal S1x1x1024 .f32) (ix3 0 0 j) : Fin 1024 → EReal)
        = modAt (m ((c.tc : Thread nD τ).loc main_arg2)) (m ((c.tc : Thread nD τ).loc main_arg3)) 1024 (by omega) (rowOf t r) :=
      funext fun j => (block_scale m c t j).trans ((congrFun (V_parts m c) _).trans
        ((parts_apply _ 1 (vec t) _ rfl j).trans (mods_apply _ _ _ _ (vec_latent t r) (vec_context t r) 1024 (by omega) j)))
    have e₃ : (fun j => (iblk m c 3 t : Vec Ideal S1x1x1024 .f32) (ix3 0 0 j) : Fin 1024 → EReal)
        = modAt (m ((c.tc : Thread nD τ).loc main_arg2)) (m ((c.tc : Thread nD τ).loc main_arg3)) 0 (by omega) (rowOf t r) :=
      funext fun j => (block_shift m c t j).trans ((congrFun (V_parts m c) _).trans
        ((parts_apply _ 0 (vec t) _ (by simp) j).trans (mods_apply _ _ _ _ (vec_latent t r) (vec_context t r) 0 (by omega) j)))
    rw [e₀, e₁, e₂, e₃]
  · exact congrFun (V_weights m c) _

/-- The queries: every row's scaled projections on the first 1024 columns, one row per column of the result. -/
theorem queries_eq (Y : Vec Ideal S1024x33280 .bf16)
    (hY : ∀ (a : Fin 1024) (i : Fin 33280), Y (ix2 a i) = proj m c i ⟨a.val, by omega⟩ * scale) :
    (dats m 0 c).arrAt 7 cfg0.N = Y := by
  refine (dats m 0 c).arrAt_eq_of_covers 7 _ (by decide +kernel) fun t hf (y : S1024x512.Idx) => ?_
  blk_simp
  rw [after0_7, out7_eq]
  obtain ⟨a, r, rfl⟩ : ∃ (a : Fin 1024) (r : Fin 512), y = ix2 a r := ⟨y 0, y 1, eq_ix2 y⟩
  refine (congrArg (fun z : EReal => z * scale) (prod_eq m c t r _)).trans ((hY a (rowOf t r)).symm.trans ?_)
  unfold rowOf
  blk_ext [idx7 t]

/-- The keys: every row's projections on the next 1024 columns. -/
theorem keys_eq (Y : Vec Ideal S33280x1024 .bf16)
    (hY : ∀ (i : Fin 33280) (a : Fin 1024), Y (ix2 i a) = proj m c i ⟨1024 + a.val, by omega⟩) :
    (dats m 0 c).arrAt 8 cfg0.N = Y := by
  refine (dats m 0 c).arrAt_eq_of_covers 8 _ (by decide +kernel) fun t hf (y : S512x1024.Idx) => ?_
  blk_simp
  rw [after0_8, out8_eq]
  obtain ⟨r, a, rfl⟩ : ∃ (r : Fin 512) (a : Fin 1024), y = ix2 r a := ⟨y 0, y 1, eq_ix2 y⟩
  refine (prod_eq m c t r _).trans ((hY (rowOf t r) a).symm.trans ?_)
  unfold rowOf
  blk_ext [idx8 t]

/-- The values: every row's projections on the last 1024 columns, one row per column of the result. -/
theorem values_eq (Y : Vec Ideal S1024x33280 .bf16)
    (hY : ∀ (a : Fin 1024) (i : Fin 33280), Y (ix2 a i) = proj m c i ⟨2048 + a.val, by omega⟩) :
    (dats m 0 c).arrAt 9 cfg0.N = Y := by
  refine (dats m 0 c).arrAt_eq_of_covers 9 _ (by decide +kernel) fun t hf (y : S1024x512.Idx) => ?_
  blk_simp
  rw [after0_9, out9_eq]
  obtain ⟨a, r, rfl⟩ : ∃ (a : Fin 1024) (r : Fin 512), y = ix2 a r := ⟨y 0, y 1, eq_ix2 y⟩
  refine (prod_eq m c t r _).trans ((hY a (rowOf t r)).symm.trans ?_)
  unfold rowOf
  blk_ext [idx9 t]

end Cert.Kernel6Ideal.Proj

end
-- ==== Proof.Proj.Equation.lean ====
/- The projections' kernel leaves the queries, keys and values the reference computes. -/
module

public import proofs.«01_k».proof.Proof.Proj.Value
public import proofs.«01_k».proof.Proof.Proj.Reference

@[expose] public section

set_option maxRecDepth 16384

noncomputable section

namespace Cert.Kernel6Ideal.Proj

open Idealize.ShloMosaic Idealize.ShloMosaic.TcCoe
open Cert.Kernel6Ideal.Gen Cert.Proj
open Cert.Reference6Ideal.Proj (allOf joined_apply queries keys values queries_apply keys_apply values_apply scaleArr_apply)

variable (m : (ℓ : Loc nD τ sig) → Buf (Elt Ideal) ℓ) (c : Dev nD)

/-- The reference's projections of the launch's arguments. -/
def allArr : FVec Ideal Cert.Reference6Ideal.S33280x3072 .f32 :=
  allOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

theorem allArr_apply (i : Fin 33280) (e : Fin 3072) : allArr m c (ix2 i e) = proj m c i e := joined_apply _ _ _ _ _ _ i e

theorem array_queries : (dats m 0 c).arrAt 7 cfg0.N = queries (allArr m c) :=
  queries_eq m c _ fun a i => (queries_apply _ a i).trans (congrArg₂ (fun p q : EReal => p * q) (allArr_apply m c i _) scaleArr_apply)

theorem array_keys : (dats m 0 c).arrAt 8 cfg0.N = keys (allArr m c) :=
  keys_eq m c _ fun i a => (keys_apply _ i a).trans (allArr_apply m c i _)

theorem array_values : (dats m 0 c).arrAt 9 cfg0.N = values (allArr m c) :=
  values_eq m c _ fun a i => (values_apply _ a i).trans (allArr_apply m c i _)

end Cert.Kernel6Ideal.Proj

end
-- ==== Proof.lean ====
/- The claims, assembled. -/
module

public import proofs.«01_k».proof.Defs
public import proofs.«01_k».proof.Proof.Gen.Kernel
public import proofs.«01_k».proof.Proof.Gen.KernelIdeal
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Rot.Equation
public import proofs.«01_k».proof.Proof.Attn.SameText
public import proofs.«01_k».proof.Proof.Attn.Equation
public import proofs.«01_k».proof.Proof.Experts.SameText
public import proofs.«01_k».proof.Proof.Experts.Equation
public import proofs.«01_k».proof.Proof.Proj.Equation
public import Idealize.ShloMosaic.Lib.Ring

@[expose] public section

set_option maxRecDepth 16384

namespace Cert.Proof

open Idealize.ShloMosaic Idealize.SL.Sem
open Cert.Kernel2Ideal.Experts (Runs runs Leaves leaves layerArr)
open Cert.Reference2Ideal.Experts (rows rows_congr)

theorem kernel_runs : Cert.quiescent_Kernel (hKernel := Cert.Kernel.Gen.facts) :=
  fun m g _ => Cert.KernelIdeal.Attn.kernel_frame Bits m g

theorem kernelIdeal_runs : Cert.quiescent_KernelIdeal (hKernelIdeal := Cert.KernelIdeal.Gen.facts) :=
  fun m g _ => Cert.KernelIdeal.Attn.frame m g

theorem referenceIdeal_runs : Cert.quiescent_ReferenceIdeal (hReferenceIdeal := Cert.ReferenceIdeal.Gen.facts) :=
  fun m g _ => (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m g)

/-- Both runs end with the attention in their result arrays. -/
theorem same_value : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hp hs
  have hr := Cert.KernelIdeal.Attn.reals_of m hp
  refine ⟨fun c => Cert.KernelIdeal.Attn.attnArr m c, ?_, ?_⟩
  · exact (θ_run (Cert.KernelIdeal.defs (F := Ideal)) _ _).mono (fun _ h c => ⟨h.1 c, h.2 c⟩)
      (θ_run_and (Cert.KernelIdeal.Attn.result m hr g) (Cert.KernelIdeal.Attn.unchanged m g))
  · exact (θ_run (Cert.ReferenceIdeal.defs (F := Ideal)) _ _).mono
      (fun _ h c => ⟨(h c).1.trans (Cert.KernelIdeal.Attn.reference_result m m' (hr c) (hs c)), (h c).2⟩)
      (Cert.ReferenceIdeal.Value.run (F := Ideal) m' g')

/-! ## The experts' call of the first layer -/

theorem kernel2_runs : Cert.quiescent_Kernel2 (hKernel2 := Cert.Kernel2.Gen.facts) :=
  (by sl_kernel_rfl : _ = Runs Bits 0).mpr (runs Bits 0)

theorem kernel2Ideal_runs : Cert.quiescent_Kernel2Ideal (hKernel2Ideal := Cert.Kernel2Ideal.Gen.facts) :=
  (by sl_kernel_rfl : _ = Runs Ideal 0).mpr (runs Ideal 0)

theorem reference2Ideal_runs : Cert.quiescent_Reference2Ideal (hReference2Ideal := Cert.Reference2Ideal.Gen.facts) :=
  fun m g _ => (θ_run (Cert.Reference2Ideal.defs (F := Ideal)) _ _).mono
    (fun r h => ⟨fun c => (h c).2, Idealize.ShloMosaic.sem_eq_zero_of_no_sems (by decide) r.2⟩)
    (Cert.Reference2Ideal.Value.run (F := Ideal) m g)

/-- Both runs end with the experts' rows in their result arrays. -/
theorem same_rows2 : Cert.algebraic_Kernel2Ideal_Reference2Ideal (hKernel2Ideal := Cert.Kernel2Ideal.Gen.facts)
    (hReference2Ideal := Cert.Reference2Ideal.Gen.facts) := by
  intro m g m' g' _ hs
  refine ⟨fun c => layerArr 0 m c, (by sl_kernel_rfl : _ = Leaves 0 m g).mpr (leaves 0 m g), ?_⟩
  exact (θ_run (Cert.Reference2Ideal.defs (F := Ideal)) _ _).mono
    (fun _ h c => ⟨(h c).1.trans ((by sl_kernel_rfl : _ = rows 0 _ _ _ _ _).trans (rows_congr 0 (hs c))), (h c).2⟩)
    (Cert.Reference2Ideal.Value.run (F := Ideal) m' g')

/-! ## The experts' call of the second layer -/

theorem kernel3_runs : Cert.quiescent_Kernel3 (hKernel3 := Cert.Kernel3.Gen.facts) :=
  (by sl_kernel_rfl : _ = Runs Bits 1).mpr (runs Bits 1)

theorem kernel3Ideal_runs : Cert.quiescent_Kernel3Ideal (hKernel3Ideal := Cert.Kernel3Ideal.Gen.facts) :=
  (by sl_kernel_rfl : _ = Runs Ideal 1).mpr (runs Ideal 1)

theorem reference3Ideal_runs : Cert.quiescent_Reference3Ideal (hReference3Ideal := Cert.Reference3Ideal.Gen.facts) :=
  fun m g _ => (θ_run (Cert.Reference3Ideal.defs (F := Ideal)) _ _).mono
    (fun r h => ⟨fun c => (h c).2, Idealize.ShloMosaic.sem_eq_zero_of_no_sems (by decide) r.2⟩)
    (Cert.Reference3Ideal.Value.run (F := Ideal) m g)

/-- Both runs end with the experts' rows in their result arrays. -/
theorem same_rows3 : Cert.algebraic_Kernel3Ideal_Reference3Ideal (hKernel3Ideal := Cert.Kernel3Ideal.Gen.facts)
    (hReference3Ideal := Cert.Reference3Ideal.Gen.facts) := by
  intro m g m' g' _ hs
  refine ⟨fun c => layerArr 1 m c, (by sl_kernel_rfl : _ = Leaves 1 m g).mpr (leaves 1 m g), ?_⟩
  exact (θ_run (Cert.Reference3Ideal.defs (F := Ideal)) _ _).mono
    (fun _ h c => ⟨(h c).1.trans ((by sl_kernel_rfl : _ = rows 1 _ _ _ _ _).trans (rows_congr 1 (hs c))), (h c).2⟩)
    (Cert.Reference3Ideal.Value.run (F := Ideal) m' g')

/-! ## The experts' call of the third layer -/

theorem kernel4_runs : Cert.quiescent_Kernel4 (hKernel4 := Cert.Kernel4.Gen.facts) :=
  (by sl_kernel_rfl : _ = Runs Bits 2).mpr (runs Bits 2)

theorem kernel4Ideal_runs : Cert.quiescent_Kernel4Ideal (hKernel4Ideal := Cert.Kernel4Ideal.Gen.facts) :=
  (by sl_kernel_rfl : _ = Runs Ideal 2).mpr (runs Ideal 2)

theorem reference4Ideal_runs : Cert.quiescent_Reference4Ideal (hReference4Ideal := Cert.Reference4Ideal.Gen.facts) :=
  fun m g _ => (θ_run (Cert.Reference4Ideal.defs (F := Ideal)) _ _).mono
    (fun r h => ⟨fun c => (h c).2, Idealize.ShloMosaic.sem_eq_zero_of_no_sems (by decide) r.2⟩)
    (Cert.Reference4Ideal.Value.run (F := Ideal) m g)

/-- Both runs end with the experts' rows in their result arrays. -/
theorem same_rows4 : Cert.algebraic_Kernel4Ideal_Reference4Ideal (hKernel4Ideal := Cert.Kernel4Ideal.Gen.facts)
    (hReference4Ideal := Cert.Reference4Ideal.Gen.facts) := by
  intro m g m' g' _ hs
  refine ⟨fun c => layerArr 2 m c, (by sl_kernel_rfl : _ = Leaves 2 m g).mpr (leaves 2 m g), ?_⟩
  exact (θ_run (Cert.Reference4Ideal.defs (F := Ideal)) _ _).mono
    (fun _ h c => ⟨(h c).1.trans ((by sl_kernel_rfl : _ = rows 2 _ _ _ _ _).trans (rows_congr 2 (hs c))), (h c).2⟩)
    (Cert.Reference4Ideal.Value.run (F := Ideal) m' g')

/-! ## The experts' call of the fourth layer -/

theorem kernel5_runs : Cert.quiescent_Kernel5 (hKernel5 := Cert.Kernel5.Gen.facts) :=
  (by sl_kernel_rfl : _ = Runs Bits 3).mpr (runs Bits 3)

theorem kernel5Ideal_runs : Cert.quiescent_Kernel5Ideal (hKernel5Ideal := Cert.Kernel5Ideal.Gen.facts) :=
  (by sl_kernel_rfl : _ = Runs Ideal 3).mpr (runs Ideal 3)

theorem reference5Ideal_runs : Cert.quiescent_Reference5Ideal (hReference5Ideal := Cert.Reference5Ideal.Gen.facts) :=
  fun m g _ => (θ_run (Cert.Reference5Ideal.defs (F := Ideal)) _ _).mono
    (fun r h => ⟨fun c => (h c).2, Idealize.ShloMosaic.sem_eq_zero_of_no_sems (by decide) r.2⟩)
    (Cert.Reference5Ideal.Value.run (F := Ideal) m g)

/-- Both runs end with the experts' rows in their result arrays. -/
theorem same_rows5 : Cert.algebraic_Kernel5Ideal_Reference5Ideal (hKernel5Ideal := Cert.Kernel5Ideal.Gen.facts)
    (hReference5Ideal := Cert.Reference5Ideal.Gen.facts) := by
  intro m g m' g' _ hs
  refine ⟨fun c => layerArr 3 m c, (by sl_kernel_rfl : _ = Leaves 3 m g).mpr (leaves 3 m g), ?_⟩
  exact (θ_run (Cert.Reference5Ideal.defs (F := Ideal)) _ _).mono
    (fun _ h c => ⟨(h c).1.trans ((by sl_kernel_rfl : _ = rows 3 _ _ _ _ _).trans (rows_congr 3 (hs c))), (h c).2⟩)
    (Cert.Reference5Ideal.Value.run (F := Ideal) m' g')

/-! ## The projections of the neighbourhood attention -/

theorem kernel6_runs : Cert.quiescent_Kernel6 (hKernel6 := Cert.Kernel6.Gen.facts) :=
  fun m g _ => Cert.Kernel6.Gen.frame m g

theorem kernel6Ideal_runs : Cert.quiescent_Kernel6Ideal (hKernel6Ideal := Cert.Kernel6Ideal.Gen.facts) :=
  fun m g _ => Cert.Kernel6Ideal.Gen.frame m g

theorem reference6Ideal_runs : Cert.quiescent_Reference6Ideal (hReference6Ideal := Cert.Reference6Ideal.Gen.facts) :=
  fun m g _ => (θ_run (Cert.Reference6Ideal.defs (F := Ideal)) _ _).mono
    (fun r h => ⟨fun c => (h c).2.2.2, Idealize.ShloMosaic.sem_eq_zero_of_no_sems (by decide) r.2⟩)
    (Cert.Reference6Ideal.Value.run (F := Ideal) m g)

/-- The one named constant is the scale of the queries, one over 8 times the logarithm of 2. -/
theorem scale_named : Cert.preserves_Kernel6_Kernel6Ideal :=
  IdealRules.named_const.statement Cert.Kernel6Ideal.κ "q_scale" .f32 0x3E38AA3B#32 (((1 / 8) * (Real.log 2)⁻¹ : ℝ) : EReal) rfl

/-- Both runs end with the same queries, keys and values in their result arrays. -/
theorem same_projections : Cert.algebraic_Kernel6Ideal_Reference6Ideal (hKernel6Ideal := Cert.Kernel6Ideal.Gen.facts)
    (hReference6Ideal := Cert.Reference6Ideal.Gen.facts) := by
  intro m g m' g' _ hs
  refine ⟨fun c => Cert.Reference6Ideal.Proj.queries (Cert.Kernel6Ideal.Proj.allArr m c),
    fun c => Cert.Reference6Ideal.Proj.keys (Cert.Kernel6Ideal.Proj.allArr m c),
    fun c => Cert.Reference6Ideal.Proj.values (Cert.Kernel6Ideal.Proj.allArr m c), ?_, ?_⟩
  · exact (θ_run (Cert.Kernel6Ideal.defs (F := Ideal)) _ _).mono
      (fun _ h c => ⟨(h c).1.trans (Cert.Kernel6Ideal.Proj.array_queries m c), (h c).2.1.trans (Cert.Kernel6Ideal.Proj.array_keys m c),
        (h c).2.2.1.trans (Cert.Kernel6Ideal.Proj.array_values m c), (h c).2.2.2⟩)
      (Cert.Kernel6Ideal.Value.run_blocks (F := Ideal) m g)
  · refine (θ_run (Cert.Reference6Ideal.defs (F := Ideal)) _ _).mono (fun _ h c => ?_) (Cert.Reference6Ideal.Value.run (F := Ideal) m' g')
    have e := Cert.Reference6Ideal.Proj.allOf_congr (hs c)
    exact ⟨(h c).1.trans ((by sl_kernel_rfl : _ = Cert.Reference6Ideal.Proj.queries (Cert.Reference6Ideal.Proj.allOf _ _ _ _ _ _)).trans
        (congrArg Cert.Reference6Ideal.Proj.queries e)),
      (h c).2.1.trans ((by sl_kernel_rfl : _ = Cert.Reference6Ideal.Proj.keys (Cert.Reference6Ideal.Proj.allOf _ _ _ _ _ _)).trans
        (congrArg Cert.Reference6Ideal.Proj.keys e)),
      (h c).2.2.1.trans ((by sl_kernel_rfl : _ = Cert.Reference6Ideal.Proj.values (Cert.Reference6Ideal.Proj.allOf _ _ _ _ _ _)).trans
        (congrArg Cert.Reference6Ideal.Proj.values e)), (h c).2.2.2⟩

/-! ## The rotated projections of the windowed attention -/

theorem kernel7_runs : Cert.quiescent_Kernel7 (hKernel7 := Cert.Kernel7.Gen.facts) :=
  fun m g _ => Cert.Kernel7.Gen.frame m g

theorem kernel7Ideal_runs : Cert.quiescent_Kernel7Ideal (hKernel7Ideal := Cert.Kernel7Ideal.Gen.facts) :=
  fun m g _ => Cert.Kernel7Ideal.Gen.frame m g

theorem reference7Ideal_runs : Cert.quiescent_Reference7Ideal (hReference7Ideal := Cert.Reference7Ideal.Gen.facts) :=
  fun m g _ => (θ_run (Cert.Reference7Ideal.defs (F := Ideal)) _ _).mono
    (fun r h => ⟨fun c => (h c).2.2.2, Idealize.ShloMosaic.sem_eq_zero_of_no_sems (by decide) r.2⟩)
    (Cert.Reference7Ideal.Value.run (F := Ideal) m g)

/-- The one named constant is the scale of the queries, as before. -/
theorem scale_named7 : Cert.preserves_Kernel7_Kernel7Ideal :=
  IdealRules.named_const.statement Cert.Kernel7Ideal.κ "q_scale" .f32 0x3E38AA3B#32 (((1 / 8) * (Real.log 2)⁻¹ : ℝ) : EReal) rfl

/-- Both runs end with the same rotated queries and keys and the same values in their result arrays. -/
theorem same_rotated : Cert.algebraic_Kernel7Ideal_Reference7Ideal (hKernel7Ideal := Cert.Kernel7Ideal.Gen.facts)
    (hReference7Ideal := Cert.Reference7Ideal.Gen.facts) := by
  intro m g m' g' _ hs
  refine ⟨fun c => Cert.Reference7Ideal.Rot.queries (Cert.Reference7Ideal.Rot.qRows Cert.Reference7Ideal.Rot.angles
      (Cert.Kernel7Ideal.Rot.latArr m c) (Cert.Kernel7Ideal.Rot.conArr m c)),
    fun c => Cert.Reference7Ideal.Rot.keys (Cert.Reference7Ideal.Rot.kRows Cert.Reference7Ideal.Rot.angles
      (Cert.Kernel7Ideal.Rot.latArr m c) (Cert.Kernel7Ideal.Rot.conArr m c)),
    fun c => Cert.Reference7Ideal.Rot.values (Cert.Reference7Ideal.Rot.vRows
      (Cert.Kernel7Ideal.Rot.latArr m c) (Cert.Kernel7Ideal.Rot.conArr m c)), ?_, ?_⟩
  · exact (θ_run (Cert.Kernel7Ideal.defs (F := Ideal)) _ _).mono
      (fun _ h c => ⟨(h c).1.trans (Cert.Kernel7Ideal.Rot.array_queries m c), (h c).2.1.trans (Cert.Kernel7Ideal.Rot.array_keys m c),
        (h c).2.2.1.trans (Cert.Kernel7Ideal.Rot.array_values m c), (h c).2.2.2⟩)
      (Cert.Kernel7Ideal.Value.run_blocks (F := Ideal) m g)
  · refine (θ_run (Cert.Reference7Ideal.defs (F := Ideal)) _ _).mono (fun _ h c => ?_) (Cert.Reference7Ideal.Value.run (F := Ideal) m' g')
    obtain ⟨e₁, e₂⟩ := Cert.Reference7Ideal.Rot.products_congr (hs c)
    exact ⟨(h c).1.trans ((by sl_kernel_rfl : _ = Cert.Reference7Ideal.Rot.queries (Cert.Reference7Ideal.Rot.qRows
          Cert.Reference7Ideal.Rot.angles (Cert.Reference7Ideal.Rot.lat _ _ _ _) (Cert.Reference7Ideal.Rot.con _ _ _ _))).trans
        (congrArg₂ (fun L C => Cert.Reference7Ideal.Rot.queries (Cert.Reference7Ideal.Rot.qRows Cert.Reference7Ideal.Rot.angles L C)) e₁ e₂)),
      (h c).2.1.trans ((by sl_kernel_rfl : _ = Cert.Reference7Ideal.Rot.keys (Cert.Reference7Ideal.Rot.kRows
          Cert.Reference7Ideal.Rot.angles (Cert.Reference7Ideal.Rot.lat _ _ _ _) (Cert.Reference7Ideal.Rot.con _ _ _ _))).trans
        (congrArg₂ (fun L C => Cert.Reference7Ideal.Rot.keys (Cert.Reference7Ideal.Rot.kRows Cert.Reference7Ideal.Rot.angles L C)) e₁ e₂)),
      (h c).2.2.1.trans ((by sl_kernel_rfl : _ = Cert.Reference7Ideal.Rot.values (Cert.Reference7Ideal.Rot.vRows
          (Cert.Reference7Ideal.Rot.lat _ _ _ _) (Cert.Reference7Ideal.Rot.con _ _ _ _))).trans
        (congrArg₂ (fun L C => Cert.Reference7Ideal.Rot.values (Cert.Reference7Ideal.Rot.vRows L C)) e₁ e₂)), (h c).2.2.2⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Pre_finite.Gen.facts,
    kernel_runs, kernelIdeal_runs, fun m g _ => kernelIdeal_runs m g trivial,
    referenceIdeal_runs, fun m g _ => referenceIdeal_runs m g trivial,
    kernel2_runs, kernel2Ideal_runs, reference2Ideal_runs,
    kernel3_runs, kernel3Ideal_runs, reference3Ideal_runs,
    kernel4_runs, kernel4Ideal_runs, reference4Ideal_runs,
    kernel5_runs, kernel5Ideal_runs, reference5Ideal_runs,
    kernel6_runs, kernel6Ideal_runs, reference6Ideal_runs,
    kernel7_runs, kernel7Ideal_runs, reference7Ideal_runs,
    trivial, same_value, trivial, same_rows2, trivial, same_rows3, trivial, same_rows4, trivial, same_rows5,
    scale_named, same_projections, scale_named7, same_rotated⟩

end Cert.Proof
